-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_merge [hPre_finite_merge : Cert.Pre_finite_merge.Facts] (m : (ℓ : Loc Cert.KernelIdeal.nD Cert.KernelIdeal.τ Cert.KernelIdeal.sig) → Buf (Elt Ideal) ℓ) : Prop :=
  ∀ c : Dev Cert.KernelIdeal.nD,
    (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_merge [hPre_finite_merge : Cert.Pre_finite_merge.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_stats [hPre_finite_stats : Cert.Pre_finite_stats.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_stats.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_stats [hPre_finite_stats : Cert.Pre_finite_stats.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_stats.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_merge [hKernelIdeal : Cert.KernelIdeal.Facts] [hPre_finite_merge : Cert.Pre_finite_merge.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_merge m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_merge [hReferenceIdeal : Cert.ReferenceIdeal.Facts] [hPre_finite_merge : Cert.Pre_finite_merge.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_merge m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Kernel12Ideal_pre_finite_stats [hKernel12Ideal : Cert.Kernel12Ideal.Facts] [hPre_finite_stats : Cert.Pre_finite_stats.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_stats m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_finite_stats [hReference12Ideal : Cert.Reference12Ideal.Facts] [hPre_finite_stats : Cert.Pre_finite_stats.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_stats m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_v31) = v1 c
          ∧ r.2.mem ((c.tc : Thread Cert.Reference17Ideal.nD Cert.Reference17Ideal.τ).loc Cert.Reference17Ideal.main_v12) = v2 c
          ∧ r.2.mem ((c.tc : Thread Cert.Reference17Ideal.nD Cert.Reference17Ideal.τ).loc Cert.Reference17Ideal.main_v18) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v53) = v0 c
          ∧ r.2.mem ((c.tc : Thread Cert.Reference13Ideal.nD Cert.Reference13Ideal.τ).loc Cert.Reference13Ideal.main_v54) = v1 c
          ∧ r.2.mem ((c.tc : Thread Cert.Reference13Ideal.nD Cert.Reference13Ideal.τ).loc Cert.Reference13Ideal.main_v37) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel_KernelIdeal : Prop :=
  True

def algebraic_KernelIdeal_ReferenceIdeal_pre_finite_merge [hKernelIdeal : Cert.KernelIdeal.Facts] [hReferenceIdeal : Cert.ReferenceIdeal.Facts] [hPre_finite_merge : Cert.Pre_finite_merge.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_merge m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel12_Kernel12Ideal : Prop :=
  True

def algebraic_Kernel12Ideal_Reference12Ideal_pre_finite_stats [hKernel12Ideal : Cert.Kernel12Ideal.Facts] [hReference12Ideal : Cert.Reference12Ideal.Facts] [hPre_finite_stats : Cert.Pre_finite_stats.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_stats m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel13 : Cert.Kernel13.Facts) (hKernel13Ideal : Cert.Kernel13Ideal.Facts) (hReference13Ideal : Cert.Reference13Ideal.Facts) (hKernel : Cert.Kernel.Facts) (hKernelIdeal : Cert.KernelIdeal.Facts) (hReferenceIdeal : Cert.ReferenceIdeal.Facts) (hKernel12 : Cert.Kernel12.Facts) (hKernel12Ideal : Cert.Kernel12Ideal.Facts) (hReference12Ideal : Cert.Reference12Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite_merge : Cert.Pre_finite_merge.Facts) (hPre_finite_stats : Cert.Pre_finite_stats.Facts),
    quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel (hKernel := hKernel)
    ∧ quiescent_KernelIdeal (hKernelIdeal := hKernelIdeal)
    ∧ quiescent_KernelIdeal_pre_finite_merge (hKernelIdeal := hKernelIdeal) (hPre_finite_merge := hPre_finite_merge)
    ∧ quiescent_ReferenceIdeal (hReferenceIdeal := hReferenceIdeal)
    ∧ quiescent_ReferenceIdeal_pre_finite_merge (hReferenceIdeal := hReferenceIdeal) (hPre_finite_merge := hPre_finite_merge)
    ∧ quiescent_Kernel12 (hKernel12 := hKernel12)
    ∧ quiescent_Kernel12Ideal (hKernel12Ideal := hKernel12Ideal)
    ∧ quiescent_Kernel12Ideal_pre_finite_stats (hKernel12Ideal := hKernel12Ideal) (hPre_finite_stats := hPre_finite_stats)
    ∧ quiescent_Reference12Ideal (hReference12Ideal := hReference12Ideal)
    ∧ quiescent_Reference12Ideal_pre_finite_stats (hReference12Ideal := hReference12Ideal) (hPre_finite_stats := hPre_finite_stats)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel13_Kernel13Ideal
    ∧ algebraic_Kernel13Ideal_Reference13Ideal (hKernel13Ideal := hKernel13Ideal) (hReference13Ideal := hReference13Ideal)
    ∧ preserves_Kernel_KernelIdeal
    ∧ algebraic_KernelIdeal_ReferenceIdeal_pre_finite_merge (hKernelIdeal := hKernelIdeal) (hReferenceIdeal := hReferenceIdeal) (hPre_finite_merge := hPre_finite_merge)
    ∧ preserves_Kernel12_Kernel12Ideal
    ∧ algebraic_Kernel12Ideal_Reference12Ideal_pre_finite_stats (hKernel12Ideal := hKernel12Ideal) (hReference12Ideal := hReference12Ideal) (hPre_finite_stats := hPre_finite_stats)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite_merge.lean ====
abbrev S8192x1024 : Shape := ⟨2, ![8192, 1024]⟩
abbrev S1024x1024 : Shape := ⟨2, ![1024, 1024]⟩
abbrev S8192x384 : Shape := ⟨2, ![8192, 384]⟩
abbrev S8192x6 : Shape := ⟨2, ![8192, 6]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S1024x1024 : S_.BroadcastsInDim S1024x1024 (![] : Fin 0 → Fin S1024x1024.rank)
  bcast_S_S8192x384 : S_.BroadcastsInDim S8192x384 (![] : Fin 0 → Fin S8192x384.rank)
  bcast_S_S8192x6 : S_.BroadcastsInDim S8192x6 (![] : Fin 0 → Fin S8192x6.rank)

variable [Facts]

def fn {F : FTy → Type} [FloatOps F] (main_arg0 : FVec F S8192x1024 .f32) (main_arg1 : FVec F S1024x1024 .bf16) (main_arg2 : FVec F S8192x384 .f32) (main_arg3 : FVec F S8192x6 .f32) (main_arg4 : FVec F S8192x256 .f32) (main_arg5 : FVec F S8192x384 .f32) : IVec S8192x1024 1 × IVec S1024x1024 1 × IVec S8192x384 1 × IVec S8192x6 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := (extf .f32 · bitsLt_bf16_f32) main_arg1
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S8192x384 .f32 := Host.absf main_arg2
  let main_cst_1 : FVec F S_ .f32 := constant S_ .f32 0x7F800000#32
  let main_v8 : FVec F S8192x384 .f32 := broadcastInDim S8192x384 ![] bcast_S_S8192x384 main_cst_1
  let main_v9 : IVec S8192x384 1 := cmpf .olt main_v7 main_v8
  let main_v10 : FVec F S8192x6 .f32 := Host.absf main_arg3
  let main_cst_2 : FVec F S_ .f32 := constant S_ .f32 0x7F800000#32
  let main_v11 : FVec F S8192x6 .f32 := broadcastInDim S8192x6 ![] bcast_S_S8192x6 main_cst_2
  let main_v12 : IVec S8192x6 1 := cmpf .olt main_v10 main_v11
  (main_v2, main_v6, main_v9, main_v12)
-- ==== Pre_finite_stats.lean ====
abbrev S8192x1024 : Shape := ⟨2, ![8192, 1024]⟩
abbrev S8192x384 : Shape := ⟨2, ![8192, 384]⟩
abbrev S8192x6 : Shape := ⟨2, ![8192, 6]⟩
abbrev S8192x256 : Shape := ⟨2, ![8192, 256]⟩
abbrev S1024x1024 : Shape := ⟨2, ![1024, 1024]⟩
abbrev S_ : Shape := ⟨0, ![]⟩

class Facts : Prop where
  bcast_S_S8192x6 : S_.BroadcastsInDim S8192x6 (![] : Fin 0 → Fin S8192x6.rank)

variable [Facts]

def fn {F : FTy → Type} [FloatOps F] (main_arg0 : FVec F S8192x1024 .f32) (main_arg1 : FVec F S8192x384 .f32) (main_arg2 : FVec F S8192x6 .f32) (main_arg3 : FVec F S8192x256 .bf16) (main_arg4 : FVec F S8192x384 .bf16) (main_arg5 : FVec F S1024x1024 .bf16) : IVec S8192x6 1 :=
  let main_v0 : FVec F S8192x6 .f32 := Host.absf main_arg2
  let main_cst : FVec F S_ .f32 := constant S_ .f32 0x7F800000#32
  let main_v1 : FVec F S8192x6 .f32 := broadcastInDim S8192x6 ![] bcast_S_S8192x6 main_cst
  let main_v2 : IVec S8192x6 1 := cmpf .olt main_v0 main_v1
  main_v2
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S1024x4096, .bf16⟩
  | .local _ .vmem, ⟨5, _⟩ => ⟨S1024x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x4096, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_29 : BitVec 32 := 0#32
  let v47 : BitVec 1 := Scalar.cmpi .ne v46 c0_i32_29
  v47

def k0_cond2 (i : grid0.Coords) : BitVec 1 :=
  let arg0 : BitVec 32 := BitVec.ofNat 32 (i 0).val
  let c0_i32_30 : BitVec 32 := 0#32
  let v48 : BitVec 1 := Scalar.cmpi .ne arg0 c0_i32_30
  let v49 : BitVec 32 := Scalar.extui v48
  let c0_i32_31 : BitVec 32 := 0#32
  let v50 : BitVec 1 := Scalar.cmpi .ne v49 c0_i32_31
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x4096, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_26 : BitVec 32 := 0#32
  let v34 : BitVec 1 := Scalar.cmpi .ne v33 c0_i32_26
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x384 : Shape := ⟨2, ![8192, 384]⟩
abbrev S8192x512 : Shape := ⟨2, ![8192, 512]⟩
abbrev S8192x768 : Shape := ⟨2, ![8192, 768]⟩
abbrev S8192x1024 : Shape := ⟨2, ![8192, 1024]⟩
abbrev S1024x2432 : Shape := ⟨2, ![1024, 2432]⟩
abbrev S1024x384 : Shape := ⟨2, ![1024, 384]⟩
abbrev S1024x512 : Shape := ⟨2, ![1024, 512]⟩
abbrev S1024x768 : Shape := ⟨2, ![1024, 768]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S8192x512, .bf16⟩
  | .hbm, ⟨4, _⟩ => ⟨S8192x768, .bf16⟩
  | .hbm, ⟨5, _⟩ => ⟨S8192x1024, .bf16⟩
  | .hbm, ⟨6, _⟩ => ⟨S1024x2432, .bf16⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x512, .bf16⟩
  | .local _ .vmem, ⟨7, _⟩ => ⟨S1024x512, .bf16⟩
  | .local _ .vmem, ⟨8, _⟩ => ⟨S1024x768, .bf16⟩
  | .local _ .vmem, ⟨9, _⟩ => ⟨S1024x768, .bf16⟩
  | .local _ .vmem, ⟨10, _⟩ => ⟨S1024x1024, .bf16⟩
  | .local _ .vmem, ⟨11, _⟩ => ⟨S1024x1024, .bf16⟩
  | .local _ .vmem, ⟨12, _⟩ => ⟨S1024x2432, .bf16⟩
  | .local _ .vmem, ⟨13, _⟩ => ⟨S1024x2432, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_32 : BitVec 32 := 0#32
  let v44 : BitVec 1 := Scalar.cmpi .ne v43 c0_i32_32
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S8192x384 : Shape := ⟨2, ![8192, 384]⟩
abbrev S8192x512 : Shape := ⟨2, ![8192, 512]⟩
abbrev S8192x768 : Shape := ⟨2, ![8192, 768]⟩
abbrev S8192x1024 : Shape := ⟨2, ![8192, 1024]⟩
abbrev S8192x2432 : Shape := ⟨2, ![8192, 2432]⟩
abbrev S_ : Shape := ⟨0, ![]⟩
abbrev S1024x2432 : Shape := ⟨2, ![1024, 2432]⟩
abbrev S2432x1024 : Shape := ⟨2, ![2432, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S8192x512, .bf16⟩
  | .hbm, ⟨4, _⟩ => ⟨S8192x768, .bf16⟩
  | .hbm, ⟨5, _⟩ => ⟨S8192x1024, .bf16⟩
  | .hbm, ⟨6, _⟩ => ⟨S8192x512, .f32⟩
  | .hbm, ⟨7, _⟩ => ⟨S8192x768, .f32⟩
  | .hbm, ⟨8, _⟩ => ⟨S8192x2432, .f32⟩
  | .hbm, ⟨9, _⟩ => ⟨S_, .f32⟩
  | .hbm, ⟨10, _⟩ => ⟨S1024x2432, .f32⟩
  | .hbm, ⟨11, _⟩ => ⟨S8192x1024, .f32⟩
  | .hbm, ⟨12, _⟩ => ⟨S8192x2432, .f32⟩
  | .hbm, ⟨13, _⟩ => ⟨S2432x1024, .f32⟩
  | .hbm, ⟨14, _⟩ => ⟨S1024x2432, .f32⟩
  | .hbm, ⟨15, _⟩ => ⟨S1024x2432, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel8.lean ====
abbrev S8192x384 : Shape := ⟨2, ![8192, 384]⟩
abbrev S8192x512 : Shape := ⟨2, ![8192, 512]⟩
abbrev S8192x768 : Shape := ⟨2, ![8192, 768]⟩
abbrev S1024x2432 : Shape := ⟨2, ![1024, 2432]⟩
abbrev S8192x1024 : Shape := ⟨2, ![8192, 1024]⟩
abbrev S1x1024 : Shape := ⟨2, ![1, 1024]⟩
abbrev S512x384 : Shape := ⟨2, ![512, 384]⟩
abbrev S512x512 : Shape := ⟨2, ![512, 512]⟩
abbrev S512x768 : Shape := ⟨2, ![512, 768]⟩
abbrev S512x1024 : Shape := ⟨2, ![512, 1024]⟩
abbrev S1024x384 : Shape := ⟨2, ![1024, 384]⟩
abbrev S1024x512 : Shape := ⟨2, ![1024, 512]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S8192x512, .bf16⟩
  | .hbm, ⟨4, _⟩ => ⟨S8192x768, .bf16⟩
  | .hbm, ⟨5, _⟩ => ⟨S1024x2432, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x512, .bf16⟩
  | .local _ .vmem, ⟨7, _⟩ => ⟨S512x512, .bf16⟩
  | .local _ .vmem, ⟨8, _⟩ => ⟨S512x768, .bf16⟩
  | .local _ .vmem, ⟨9, _⟩ => ⟨S512x768, .bf16⟩
  | .local _ .vmem, ⟨10, _⟩ => ⟨S1024x2432, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_33 : BitVec 32 := 0#32
  let v54 : BitVec 1 := Scalar.cmpi .ne v53 c0_i32_33
  v54

def k0_cond2 (i : grid0.Coords) : BitVec 1 :=
  let arg0 : BitVec 32 := BitVec.ofNat 32 (i 0).val
  let c0_i32_34 : BitVec 32 := 0#32
  let v55 : BitVec 1 := Scalar.cmpi .ne arg0 c0_i32_34
  let v56 : BitVec 32 := Scalar.extui v55
  let c0_i32_35 : BitVec 32 := 0#32
  let v57 : BitVec 1 := Scalar.cmpi .ne v56 c0_i32_35
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S8192x384 : Shape := ⟨2, ![8192, 384]⟩
abbrev S8192x512 : Shape := ⟨2, ![8192, 512]⟩
abbrev S8192x768 : Shape := ⟨2, ![8192, 768]⟩
abbrev S1024x2432 : Shape := ⟨2, ![1024, 2432]⟩
abbrev S8192x1024 : Shape := ⟨2, ![8192, 1024]⟩
abbrev S1x1024 : Shape := ⟨2, ![1, 1024]⟩
abbrev S8192x2432 : Shape := ⟨2, ![8192, 2432]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S8192x512, .bf16⟩
  | .hbm, ⟨4, _⟩ => ⟨S8192x768, .bf16⟩
  | .hbm, ⟨5, _⟩ => ⟨S1024x2432, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x512, .f32⟩
  | .hbm, ⟨10, _⟩ => ⟨S8192x768, .f32⟩
  | .hbm, ⟨11, _⟩ => ⟨S8192x2432, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x2432, .f32⟩
  | .hbm, ⟨32, _⟩ => ⟨S8192x2432, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x2432 : Shape := ⟨2, ![1024, 2432]⟩
abbrev S8192x1152 : Shape := ⟨2, ![8192, 1152]⟩
abbrev S8192x512 : Shape := ⟨2, ![8192, 512]⟩
abbrev S8192x768 : Shape := ⟨2, ![8192, 768]⟩
abbrev S512x1024 : Shape := ⟨2, ![512, 1024]⟩
abbrev S512x1152 : Shape := ⟨2, ![512, 1152]⟩
abbrev S512x512 : Shape := ⟨2, ![512, 512]⟩
abbrev S512x768 : Shape := ⟨2, ![512, 768]⟩
abbrev S512 : Shape := ⟨1, ![512]⟩
abbrev S512x1 : Shape := ⟨2, ![512, 1]⟩
abbrev S1024x1152 : Shape := ⟨2, ![1024, 1152]⟩
abbrev S1024x512 : Shape := ⟨2, ![1024, 512]⟩
abbrev S1024x768 : Shape := ⟨2, ![1024, 768]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2432, .bf16⟩
  | .hbm, ⟨3, _⟩ => ⟨S8192x1024, .bf16⟩
  | .hbm, ⟨4, _⟩ => ⟨S8192x1152, .f32⟩
  | .hbm, ⟨5, _⟩ => ⟨S8192x512, .f32⟩
  | .hbm, ⟨6, _⟩ => ⟨S8192x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x1024, .bf16⟩
  | .local _ .vmem, ⟨5, _⟩ => ⟨S512x1024, .bf16⟩
  | .local _ .vmem, ⟨6, _⟩ => ⟨S512x1152, .f32⟩
  | .local _ .vmem, ⟨7, _⟩ => ⟨S512x1152, .f32⟩
  | .local _ .vmem, ⟨8, _⟩ => ⟨S512x512, .f32⟩
  | .local _ .vmem, ⟨9, _⟩ => ⟨S512x512, .f32⟩
  | .local _ .vmem, ⟨10, _⟩ => ⟨S512x768, .f32⟩
  | .local _ .vmem, ⟨11, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x1024 : Shape := ⟨2, ![8192, 1024]⟩
abbrev S1x1024 : Shape := ⟨2, ![1, 1024]⟩
abbrev S1024x2432 : Shape := ⟨2, ![1024, 2432]⟩
abbrev S_ : Shape := ⟨0, ![]⟩
abbrev S8192 : Shape := ⟨1, ![8192]⟩
abbrev S8192x1 : Shape := ⟨2, ![8192, 1]⟩
abbrev S8192x2432 : Shape := ⟨2, ![8192, 2432]⟩
abbrev S8192x1152 : Shape := ⟨2, ![8192, 1152]⟩
abbrev S8192x512 : Shape := ⟨2, ![8192, 512]⟩
abbrev S8192x768 : Shape := ⟨2, ![8192, 768]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2432, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x2432, .f32⟩
  | .hbm, ⟨19, _⟩ => ⟨S8192x2432, .f32⟩
  | .hbm, ⟨20, _⟩ => ⟨S8192x1024, .bf16⟩
  | .hbm, ⟨21, _⟩ => ⟨S8192x1152, .f32⟩
  | .hbm, ⟨22, _⟩ => ⟨S8192x512, .f32⟩
  | .hbm, ⟨23, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel10.lean ====
abbrev S8192x1024 : Shape := ⟨2, ![8192, 1024]⟩
abbrev S8192x4096 : Shape := ⟨2, ![8192, 4096]⟩
abbrev S4096x1024 : Shape := ⟨2, ![4096, 1024]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x1024 : Shape := ⟨2, ![8192, 1024]⟩
abbrev S8192x4096 : Shape := ⟨2, ![8192, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .bf16⟩
  | .hbm, ⟨3, _⟩ => ⟨S8192x4096, .f32⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x1024, .bf16⟩
  | .hbm, ⟨4, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel14.lean ====
abbrev S8x1024x304 : Shape := ⟨3, ![8, 1024, 304]⟩
abbrev S2x1024x304 : Shape := ⟨3, ![2, 1024, 304]⟩
abbrev S8x256x304 : Shape := ⟨3, ![8, 256, 304]⟩
abbrev S1x256x304 : Shape := ⟨3, ![1, 256, 304]⟩
abbrev S256x304 : Shape := ⟨2, ![256, 304]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x304, .bf16⟩
  | .hbm, ⟨1, _⟩ => ⟨S8x1024x304, .bf16⟩
  | .hbm, ⟨2, _⟩ => ⟨S2x1024x304, .f32⟩
  | .hbm, ⟨3, _⟩ => ⟨S2x1024x304, .f32⟩
  | .hbm, ⟨4, _⟩ => ⟨S2x1024x304, .f32⟩
  | .hbm, ⟨5, _⟩ => ⟨S2x1024x304, .f32⟩
  | .hbm, ⟨6, _⟩ => ⟨S2x1024x304, .f32⟩
  | .hbm, ⟨7, _⟩ => ⟨S2x1024x304, .f32⟩
  | .hbm, ⟨8, _⟩ => ⟨S2x1024x304, .f32⟩
  | .local _ .vmem, ⟨0, _⟩ => ⟨S8x256x304, .bf16⟩
  | .local _ .vmem, ⟨1, _⟩ => ⟨S8x256x304, .bf16⟩
  | .local _ .vmem, ⟨2, _⟩ => ⟨S8x256x304, .bf16⟩
  | .local _ .vmem, ⟨3, _⟩ => ⟨S8x256x304, .bf16⟩
  | .local _ .vmem, ⟨4, _⟩ => ⟨S1x256x304, .f32⟩
  | .local _ .vmem, ⟨5, _⟩ => ⟨S1x256x304, .f32⟩
  | .local _ .vmem, ⟨6, _⟩ => ⟨S1x256x304, .f32⟩
  | .local _ .vmem, ⟨7, _⟩ => ⟨S1x256x304, .f32⟩
  | .local _ .vmem, ⟨8, _⟩ => ⟨S1x256x304, .f32⟩
  | .local _ .vmem, ⟨9, _⟩ => ⟨S1x256x304, .f32⟩
  | .local _ .vmem, ⟨10, _⟩ => ⟨S1x256x304, .f32⟩
  | .local _ .vmem, ⟨11, _⟩ => ⟨S1x256x304, .f32⟩
  | .local _ .vmem, ⟨12, _⟩ => ⟨S1x256x304, .f32⟩
  | .local _ .vmem, ⟨13, _⟩ => ⟨S1x256x304, .f32⟩
  | .local _ .vmem, ⟨14, _⟩ => ⟨S1x256x304, .f32⟩
  | .local _ .vmem, ⟨15, _⟩ => ⟨S1x256x304, .f32⟩
  | .local _ .vmem, ⟨16, _⟩ => ⟨S1x256x304, .f32⟩
  | .local _ .vmem, ⟨17, _⟩ => ⟨S1x256x304, .f32⟩
  | _, _ => ⟨S8x1024x304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S8x1024x304 : Shape := ⟨3, ![8, 1024, 304]⟩
abbrev S2x1024x304 : Shape := ⟨3, ![2, 1024, 304]⟩
abbrev S_ : Shape := ⟨0, ![]⟩
abbrev S1024x304 : Shape := ⟨2, ![1024, 304]⟩
abbrev S1x1024x304 : Shape := ⟨3, ![1, 1024, 304]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x304, .bf16⟩
  | .hbm, ⟨1, _⟩ => ⟨S8x1024x304, .bf16⟩
  | .hbm, ⟨2, _⟩ => ⟨S2x1024x304, .f32⟩
  | .hbm, ⟨3, _⟩ => ⟨S2x1024x304, .f32⟩
  | .hbm, ⟨4, _⟩ => ⟨S2x1024x304, .f32⟩
  | .hbm, ⟨5, _⟩ => ⟨S8x1024x304, .f32⟩
  | .hbm, ⟨6, _⟩ => ⟨S_, .f32⟩
  | .hbm, ⟨7, _⟩ => ⟨S1024x304, .f32⟩
  | .hbm, ⟨8, _⟩ => ⟨S8x1024x304, .f32⟩
  | .hbm, ⟨9, _⟩ => ⟨S_, .f32⟩
  | .hbm, ⟨10, _⟩ => ⟨S1024x304, .f32⟩
  | .hbm, ⟨11, _⟩ => ⟨S1x1024x304, .f32⟩
  | .hbm, ⟨12, _⟩ => ⟨S1x1024x304, .f32⟩
  | .hbm, ⟨13, _⟩ => ⟨S2x1024x304, .f32⟩
  | .hbm, ⟨14, _⟩ => ⟨S_, .f32⟩
  | .hbm, ⟨15, _⟩ => ⟨S2x1024x304, .f32⟩
  | .hbm, ⟨16, _⟩ => ⟨S2x1024x304, .f32⟩
  | .hbm, ⟨17, _⟩ => ⟨S_, .f32⟩
  | .hbm, ⟨18, _⟩ => ⟨S2x1024x304, .f32⟩
  | .hbm, ⟨19, _⟩ => ⟨S2x1024x304, .f32⟩
  | .hbm, ⟨20, _⟩ => ⟨S2x1024x304, .f32⟩
  | .hbm, ⟨21, _⟩ => ⟨S_, .f32⟩
  | .hbm, ⟨22, _⟩ => ⟨S2x1024x304, .f32⟩
  | .hbm, ⟨23, _⟩ => ⟨S2x1024x304, .f32⟩
  | .hbm, ⟨24, _⟩ => ⟨S2x1024x304, .f32⟩
  | .hbm, ⟨25, _⟩ => ⟨S_, .f32⟩
  | .hbm, ⟨26, _⟩ => ⟨S2x1024x304, .f32⟩
  | .hbm, ⟨27, _⟩ => ⟨S2x1024x304, .f32⟩
  | .hbm, ⟨28, _⟩ => ⟨S2x1024x304, .f32⟩
  | .hbm, ⟨29, _⟩ => ⟨S_, .f32⟩
  | .hbm, ⟨30, _⟩ => ⟨S2x1024x304, .f32⟩
  | .hbm, ⟨31, _⟩ => ⟨S2x1024x304, .f32⟩
  | .hbm, ⟨32, _⟩ => ⟨S_, .f32⟩
  | .hbm, ⟨33, _⟩ => ⟨S2x1024x304, .f32⟩
  | .hbm, ⟨34, _⟩ => ⟨S2x1024x304, .f32⟩
  | .hbm, ⟨35, _⟩ => ⟨S2x1024x304, .f32⟩
  | .hbm, ⟨36, _⟩ => ⟨S_, .f32⟩
  | .hbm, ⟨37, _⟩ => ⟨S2x1024x304, .f32⟩
  | .hbm, ⟨38, _⟩ => ⟨S2x1024x304, .f32⟩
  | .hbm, ⟨39, _⟩ => ⟨S2x1024x304, .f32⟩
  | .hbm, ⟨40, _⟩ => ⟨S_, .f32⟩
  | .hbm, ⟨41, _⟩ => ⟨S2x1024x304, .f32⟩
  | .hbm, ⟨42, _⟩ => ⟨S2x1024x304, .f32⟩
  | .hbm, ⟨43, _⟩ => ⟨S2x1024x304, .f32⟩
  | .hbm, ⟨44, _⟩ => ⟨S_, .f32⟩
  | .hbm, ⟨45, _⟩ => ⟨S2x1024x304, .f32⟩
  | .hbm, ⟨46, _⟩ => ⟨S2x1024x304, .f32⟩
  | _, _ => ⟨S8x1024x304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel15.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel16.lean ====
abbrev S8x1024x512 : Shape := ⟨3, ![8, 1024, 512]⟩
abbrev S2x1024x512 : Shape := ⟨3, ![2, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel17.lean ====
abbrev S8x1024x512 : Shape := ⟨3, ![8, 1024, 512]⟩
abbrev S2x512x1024 : Shape := ⟨3, ![2, 512, 1024]⟩
abbrev S8x256x512 : Shape := ⟨3, ![8, 256, 512]⟩
abbrev S1x512x256 : Shape := ⟨3, ![1, 512, 256]⟩
abbrev S1x256x512 : Shape := ⟨3, ![1, 256, 512]⟩
abbrev S256x512 : Shape := ⟨2, ![256, 512]⟩
abbrev S512x256 : Shape := ⟨2, ![512, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x1024x512 : Shape := ⟨3, ![8, 1024, 512]⟩
abbrev S2x512x1024 : Shape := ⟨3, ![2, 512, 1024]⟩
abbrev S_ : Shape := ⟨0, ![]⟩
abbrev S1024x512 : Shape := ⟨2, ![1024, 512]⟩
abbrev S1x1024x512 : Shape := ⟨3, ![1, 1024, 512]⟩
abbrev S2x1024x512 : Shape := ⟨3, ![2, 1024, 512]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S_, .f32⟩
  | .hbm, ⟨19, _⟩ => ⟨S2x512x1024, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S_, .f32⟩
  | .hbm, ⟨34, _⟩ => ⟨S2x512x1024, .f32⟩
  | .hbm, ⟨35, _⟩ => ⟨S2x512x1024, .f32⟩
  | .hbm, ⟨36, _⟩ => ⟨S2x512x1024, .f32⟩
  | .hbm, ⟨37, _⟩ => ⟨S_, .f32⟩
  | .hbm, ⟨38, _⟩ => ⟨S2x512x1024, .f32⟩
  | .hbm, ⟨39, _⟩ => ⟨S2x512x1024, .f32⟩
  | .hbm, ⟨40, _⟩ => ⟨S2x512x1024, .f32⟩
  | .hbm, ⟨41, _⟩ => ⟨S_, .f32⟩
  | .hbm, ⟨42, _⟩ => ⟨S2x512x1024, .f32⟩
  | .hbm, ⟨43, _⟩ => ⟨S2x512x1024, .f32⟩
  | .hbm, ⟨44, _⟩ => ⟨S2x512x1024, .f32⟩
  | .hbm, ⟨45, _⟩ => ⟨S_, .f32⟩
  | .hbm, ⟨46, _⟩ => ⟨S2x512x1024, .f32⟩
  | .hbm, ⟨47, _⟩ => ⟨S2x512x1024, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel13.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x128, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .bf16⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel.lean ====
abbrev S8192x1024 : Shape := ⟨2, ![8192, 1024]⟩
abbrev S1024x1024 : Shape := ⟨2, ![1024, 1024]⟩
abbrev S8192x384 : Shape := ⟨2, ![8192, 384]⟩
abbrev S8192x6 : Shape := ⟨2, ![8192, 6]⟩
abbrev S8192x256 : Shape := ⟨2, ![8192, 256]⟩
abbrev S8192x3x2 : Shape := ⟨3, ![8192, 3, 2]⟩
abbrev S_ : Shape := ⟨0, ![]⟩
abbrev S8192x2 : Shape := ⟨2, ![8192, 2]⟩
abbrev S8192x1x2 : Shape := ⟨3, ![8192, 1, 2]⟩
abbrev S8192x3x2x64 : Shape := ⟨4, ![8192, 3, 2, 64]⟩
abbrev S8192x3x2x1 : Shape := ⟨4, ![8192, 3, 2, 1]⟩
abbrev S8192x6x64 : Shape := ⟨3, ![8192, 6, 64]⟩
abbrev S1024x384 : Shape := ⟨2, ![1024, 384]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 35
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x384, .f32⟩
  | .hbm, ⟨3, _⟩ => ⟨S8192x6, .f32⟩
  | .hbm, ⟨4, _⟩ => ⟨S8192x256, .f32⟩
  | .hbm, ⟨5, _⟩ => ⟨S8192x384, .f32⟩
  | .hbm, ⟨6, _⟩ => ⟨S8192x3x2, .f32⟩
  | .hbm, ⟨7, _⟩ => ⟨S_, .f32⟩
  | .hbm, ⟨8, _⟩ => ⟨S8192x2, .f32⟩
  | .hbm, ⟨9, _⟩ => ⟨S_, .f32⟩
  | .hbm, ⟨10, _⟩ => ⟨S8192x2, .f32⟩
  | .hbm, ⟨11, _⟩ => ⟨S8192x2, .f32⟩
  | .hbm, ⟨12, _⟩ => ⟨S8192x1x2, .f32⟩
  | .hbm, ⟨13, _⟩ => ⟨S8192x3x2, .f32⟩
  | .hbm, ⟨14, _⟩ => ⟨S8192x3x2, .f32⟩
  | .hbm, ⟨15, _⟩ => ⟨S8192x3x2, .f32⟩
  | .hbm, ⟨16, _⟩ => ⟨S_, .f32⟩
  | .hbm, ⟨17, _⟩ => ⟨S8192x2, .f32⟩
  | .hbm, ⟨18, _⟩ => ⟨S8192x1x2, .f32⟩
  | .hbm, ⟨19, _⟩ => ⟨S8192x3x2, .f32⟩
  | .hbm, ⟨20, _⟩ => ⟨S8192x3x2, .f32⟩
  | .hbm, ⟨21, _⟩ => ⟨S8192x3x2x64, .f32⟩
  | .hbm, ⟨22, _⟩ => ⟨S8192x3x2x1, .f32⟩
  | .hbm, ⟨23, _⟩ => ⟨S8192x3x2x64, .f32⟩
  | .hbm, ⟨24, _⟩ => ⟨S8192x3x2x64, .f32⟩
  | .hbm, ⟨25, _⟩ => ⟨S8192x384, .f32⟩
  | .hbm, ⟨26, _⟩ => ⟨S8192x1024, .f32⟩
  | .hbm, ⟨27, _⟩ => ⟨S8192x1024, .bf16⟩
  | .hbm, ⟨28, _⟩ => ⟨S8192x6x64, .f32⟩
  | .hbm, ⟨29, _⟩ => ⟨S8192x384, .f32⟩
  | .hbm, ⟨30, _⟩ => ⟨S8192x384, .f32⟩
  | .hbm, ⟨31, _⟩ => ⟨S8192x384, .f32⟩
  | .hbm, ⟨32, _⟩ => ⟨S8192x256, .f32⟩
  | .hbm, ⟨33, _⟩ => ⟨S8192x384, .f32⟩
  | .hbm, ⟨34, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x256, .f32⟩
  | .local _ .vmem, ⟨14, _⟩ => ⟨S1024x256, .f32⟩
  | .local _ .vmem, ⟨15, _⟩ => ⟨S1024x384, .f32⟩
  | .local _ .vmem, ⟨16, _⟩ => ⟨S1024x384, .f32⟩
  | .local _ .vmem, ⟨17, _⟩ => ⟨S1024x1024, .bf16⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v113 : BitVec 1 := Scalar.cmpi .eq arg0 c7_i32
  let v114 : BitVec 32 := Scalar.extui v113
  let c0_i32_48 : BitVec 32 := 0#32
  let v115 : BitVec 1 := Scalar.cmpi .ne v114 c0_i32_48
  v115

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S1024x1024 : Shape := ⟨2, ![1024, 1024]⟩
abbrev S8192x384 : Shape := ⟨2, ![8192, 384]⟩
abbrev S8192x6 : Shape := ⟨2, ![8192, 6]⟩
abbrev S8192x256 : Shape := ⟨2, ![8192, 256]⟩
abbrev S8192x3x2 : Shape := ⟨3, ![8192, 3, 2]⟩
abbrev S_ : Shape := ⟨0, ![]⟩
abbrev S8192x2 : Shape := ⟨2, ![8192, 2]⟩
abbrev S8192x1x2 : Shape := ⟨3, ![8192, 1, 2]⟩
abbrev S8192x3x2x64 : Shape := ⟨4, ![8192, 3, 2, 64]⟩
abbrev S8192x3x2x1 : Shape := ⟨4, ![8192, 3, 2, 1]⟩
abbrev S8192x6x64 : Shape := ⟨3, ![8192, 6, 64]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x384, .f32⟩
  | .hbm, ⟨3, _⟩ => ⟨S8192x6, .f32⟩
  | .hbm, ⟨4, _⟩ => ⟨S8192x256, .f32⟩
  | .hbm, ⟨5, _⟩ => ⟨S8192x384, .f32⟩
  | .hbm, ⟨6, _⟩ => ⟨S1024x1024, .f32⟩
  | .hbm, ⟨7, _⟩ => ⟨S8192x3x2, .f32⟩
  | .hbm, ⟨8, _⟩ => ⟨S_, .f32⟩
  | .hbm, ⟨9, _⟩ => ⟨S8192x2, .f32⟩
  | .hbm, ⟨10, _⟩ => ⟨S8192x1x2, .f32⟩
  | .hbm, ⟨11, _⟩ => ⟨S8192x3x2, .f32⟩
  | .hbm, ⟨12, _⟩ => ⟨S8192x3x2, .i1⟩
  | .hbm, ⟨13, _⟩ => ⟨S8192x3x2, .f32⟩
  | .hbm, ⟨14, _⟩ => ⟨S_, .f32⟩
  | .hbm, ⟨15, _⟩ => ⟨S8192x2, .f32⟩
  | .hbm, ⟨16, _⟩ => ⟨S_, .f32⟩
  | .hbm, ⟨17, _⟩ => ⟨S8192x2, .f32⟩
  | .hbm, ⟨18, _⟩ => ⟨S8192x2, .f32⟩
  | .hbm, ⟨19, _⟩ => ⟨S_, .f32⟩
  | .hbm, ⟨20, _⟩ => ⟨S8192x2, .f32⟩
  | .hbm, ⟨21, _⟩ => ⟨S8192x2, .i1⟩
  | .hbm, ⟨22, _⟩ => ⟨S_, .f32⟩
  | .hbm, ⟨23, _⟩ => ⟨S8192x2, .f32⟩
  | .hbm, ⟨24, _⟩ => ⟨S8192x2, .i1⟩
  | .hbm, ⟨25, _⟩ => ⟨S_, .f32⟩
  | .hbm, ⟨26, _⟩ => ⟨S8192x2, .f32⟩
  | .hbm, ⟨27, _⟩ => ⟨S_, .f32⟩
  | .hbm, ⟨28, _⟩ => ⟨S8192x2, .f32⟩
  | .hbm, ⟨29, _⟩ => ⟨S_, .f32⟩
  | .hbm, ⟨30, _⟩ => ⟨S8192x2, .f32⟩
  | .hbm, ⟨31, _⟩ => ⟨S8192x2, .f32⟩
  | .hbm, ⟨32, _⟩ => ⟨S8192x2, .f32⟩
  | .hbm, ⟨33, _⟩ => ⟨S8192x1x2, .f32⟩
  | .hbm, ⟨34, _⟩ => ⟨S8192x3x2, .f32⟩
  | .hbm, ⟨35, _⟩ => ⟨S8192x3x2, .f32⟩
  | .hbm, ⟨36, _⟩ => ⟨S8192x3x2, .f32⟩
  | .hbm, ⟨37, _⟩ => ⟨S_, .f32⟩
  | .hbm, ⟨38, _⟩ => ⟨S8192x2, .f32⟩
  | .hbm, ⟨39, _⟩ => ⟨S8192x1x2, .f32⟩
  | .hbm, ⟨40, _⟩ => ⟨S8192x3x2, .f32⟩
  | .hbm, ⟨41, _⟩ => ⟨S8192x3x2, .f32⟩
  | .hbm, ⟨42, _⟩ => ⟨S8192x1x2, .f32⟩
  | .hbm, ⟨43, _⟩ => ⟨S_, .f32⟩
  | .hbm, ⟨44, _⟩ => ⟨S8192x1x2, .f32⟩
  | .hbm, ⟨45, _⟩ => ⟨S8192x1x2, .f32⟩
  | .hbm, ⟨46, _⟩ => ⟨S8192x3x2x64, .f32⟩
  | .hbm, ⟨47, _⟩ => ⟨S8192x3x2x1, .f32⟩
  | .hbm, ⟨48, _⟩ => ⟨S8192x3x2x64, .f32⟩
  | .hbm, ⟨49, _⟩ => ⟨S8192x3x2x64, .f32⟩
  | .hbm, ⟨50, _⟩ => ⟨S8192x384, .f32⟩
  | .hbm, ⟨51, _⟩ => ⟨S8192x1024, .f32⟩
  | .hbm, ⟨52, _⟩ => ⟨S8192x1024, .f32⟩
  | .hbm, ⟨53, _⟩ => ⟨S1024x1024, .f32⟩
  | .hbm, ⟨54, _⟩ => ⟨S1024x1024, .f32⟩
  | .hbm, ⟨55, _⟩ => ⟨S8192x1024, .f32⟩
  | .hbm, ⟨56, _⟩ => ⟨S8192x384, .f32⟩
  | .hbm, ⟨57, _⟩ => ⟨S8192x256, .f32⟩
  | .hbm, ⟨58, _⟩ => ⟨S8192x384, .f32⟩
  | .hbm, ⟨59, _⟩ => ⟨S8192x3x2x64, .f32⟩
  | .hbm, ⟨60, _⟩ => ⟨S8192x3x2x64, .f32⟩
  | .hbm, ⟨61, _⟩ => ⟨S_, .f32⟩
  | .hbm, ⟨62, _⟩ => ⟨S8192x3x2, .f32⟩
  | .hbm, ⟨63, _⟩ => ⟨S8192x3x2x1, .f32⟩
  | .hbm, ⟨64, _⟩ => ⟨S8192x3x2x64, .f32⟩
  | .hbm, ⟨65, _⟩ => ⟨S8192x3x2x64, .f32⟩
  | .hbm, ⟨66, _⟩ => ⟨S_, .f32⟩
  | .hbm, ⟨67, _⟩ => ⟨S8192x3x2, .f32⟩
  | .hbm, ⟨68, _⟩ => ⟨S8192x384, .f32⟩
  | .hbm, ⟨69, _⟩ => ⟨S8192x3x2, .f32⟩
  | .hbm, ⟨70, _⟩ => ⟨S8192x3x2, .f32⟩
  | .hbm, ⟨71, _⟩ => ⟨S8192x3x2, .f32⟩
  | .hbm, ⟨72, _⟩ => ⟨S_, .f32⟩
  | .hbm, ⟨73, _⟩ => ⟨S8192x2, .f32⟩
  | .hbm, ⟨74, _⟩ => ⟨S8192x1x2, .f32⟩
  | .hbm, ⟨75, _⟩ => ⟨S8192x1x2, .f32⟩
  | .hbm, ⟨76, _⟩ => ⟨S8192x3x2, .f32⟩
  | .hbm, ⟨77, _⟩ => ⟨S8192x3x2, .f32⟩
  | .hbm, ⟨78, _⟩ => ⟨S_, .f32⟩
  | .hbm, ⟨79, _⟩ => ⟨S8192x2, .f32⟩
  | .hbm, ⟨80, _⟩ => ⟨S8192x3x2, .f32⟩
  | .hbm, ⟨81, _⟩ => ⟨S8192x3x2, .f32⟩
  | .hbm, ⟨82, _⟩ => ⟨S8192x3x2, .f32⟩
  | .hbm, ⟨83, _⟩ => ⟨S8192x6, .f32⟩
  | .hbm, ⟨84, _⟩ => ⟨S8192x384, .f32⟩
  | .hbm, ⟨85, _⟩ => ⟨S8192x6x64, .f32⟩
  | .hbm, ⟨86, _⟩ => ⟨S_, .f32⟩
  | .hbm, ⟨87, _⟩ => ⟨S8192x6, .f32⟩
  | .hbm, ⟨88, _⟩ => ⟨S8192x6, .f32⟩
  | .hbm, ⟨89, _⟩ => ⟨S8192x6x64, .f32⟩
  | .hbm, ⟨90, _⟩ => ⟨S8192x384, .f32⟩
  | .hbm, ⟨91, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel12.lean ====
abbrev S8192x1024 : Shape := ⟨2, ![8192, 1024]⟩
abbrev S8192x384 : Shape := ⟨2, ![8192, 384]⟩
abbrev S8192x6 : Shape := ⟨2, ![8192, 6]⟩
abbrev S8192x256 : Shape := ⟨2, ![8192, 256]⟩
abbrev S1024x1024 : Shape := ⟨2, ![1024, 1024]⟩
abbrev S8192x6x64 : Shape := ⟨3, ![8192, 6, 64]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x6, .f32⟩
  | .hbm, ⟨3, _⟩ => ⟨S8192x256, .bf16⟩
  | .hbm, ⟨4, _⟩ => ⟨S8192x384, .bf16⟩
  | .hbm, ⟨5, _⟩ => ⟨S1024x1024, .bf16⟩
  | .hbm, ⟨6, _⟩ => ⟨S8192x6x64, .f32⟩
  | .hbm, ⟨7, _⟩ => ⟨S8192x384, .f32⟩
  | .hbm, ⟨8, _⟩ => ⟨S8192x1024, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x256, .bf16⟩
  | .local _ .vmem, ⟨7, _⟩ => ⟨S512x256, .bf16⟩
  | .local _ .vmem, ⟨8, _⟩ => ⟨S512x384, .bf16⟩
  | .local _ .vmem, ⟨9, _⟩ => ⟨S512x384, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x1024 : Shape := ⟨2, ![8192, 1024]⟩
abbrev S8192x384 : Shape := ⟨2, ![8192, 384]⟩
abbrev S8192x6 : Shape := ⟨2, ![8192, 6]⟩
abbrev S8192x256 : Shape := ⟨2, ![8192, 256]⟩
abbrev S1024x1024 : Shape := ⟨2, ![1024, 1024]⟩
abbrev S8192x3x2 : Shape := ⟨3, ![8192, 3, 2]⟩
abbrev S_ : Shape := ⟨0, ![]⟩
abbrev S8192x2 : Shape := ⟨2, ![8192, 2]⟩
abbrev S8192x1x2 : Shape := ⟨3, ![8192, 1, 2]⟩
abbrev S8192x3x2x64 : Shape := ⟨4, ![8192, 3, 2, 64]⟩
abbrev S8192x3x2x1 : Shape := ⟨4, ![8192, 3, 2, 1]⟩
abbrev S4x2048x1024 : Shape := ⟨3, ![4, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x6, .f32⟩
  | .hbm, ⟨3, _⟩ => ⟨S8192x256, .bf16⟩
  | .hbm, ⟨4, _⟩ => ⟨S8192x384, .bf16⟩
  | .hbm, ⟨5, _⟩ => ⟨S1024x1024, .bf16⟩
  | .hbm, ⟨6, _⟩ => ⟨S8192x256, .f32⟩
  | .hbm, ⟨7, _⟩ => ⟨S8192x384, .f32⟩
  | .hbm, ⟨8, _⟩ => ⟨S8192x3x2, .f32⟩
  | .hbm, ⟨9, _⟩ => ⟨S_, .f32⟩
  | .hbm, ⟨10, _⟩ => ⟨S8192x2, .f32⟩
  | .hbm, ⟨11, _⟩ => ⟨S_, .f32⟩
  | .hbm, ⟨12, _⟩ => ⟨S8192x2, .f32⟩
  | .hbm, ⟨13, _⟩ => ⟨S8192x2, .f32⟩
  | .hbm, ⟨14, _⟩ => ⟨S8192x1x2, .f32⟩
  | .hbm, ⟨15, _⟩ => ⟨S8192x3x2, .f32⟩
  | .hbm, ⟨16, _⟩ => ⟨S8192x3x2, .f32⟩
  | .hbm, ⟨17, _⟩ => ⟨S8192x3x2, .f32⟩
  | .hbm, ⟨18, _⟩ => ⟨S_, .f32⟩
  | .hbm, ⟨19, _⟩ => ⟨S8192x2, .f32⟩
  | .hbm, ⟨20, _⟩ => ⟨S8192x1x2, .f32⟩
  | .hbm, ⟨21, _⟩ => ⟨S8192x3x2, .f32⟩
  | .hbm, ⟨22, _⟩ => ⟨S8192x3x2, .f32⟩
  | .hbm, ⟨23, _⟩ => ⟨S8192x3x2x64, .f32⟩
  | .hbm, ⟨24, _⟩ => ⟨S8192x3x2x1, .f32⟩
  | .hbm, ⟨25, _⟩ => ⟨S8192x3x2x64, .f32⟩
  | .hbm, ⟨26, _⟩ => ⟨S8192x3x2x64, .f32⟩
  | .hbm, ⟨27, _⟩ => ⟨S8192x384, .f32⟩
  | .hbm, ⟨28, _⟩ => ⟨S8192x1024, .f32⟩
  | .hbm, ⟨29, _⟩ => ⟨S4x2048x1024, .f32⟩
  | .hbm, ⟨30, _⟩ => ⟨S4x2048x1024, .f32⟩
  | .hbm, ⟨31, _⟩ => ⟨S1024x1024, .f32⟩
  | .hbm, ⟨32, _⟩ => ⟨S4x2048x1024, .f32⟩
  | .hbm, ⟨33, _⟩ => ⟨S4x2048x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel19.lean ====
abbrev S62x32 : Shape := ⟨2, ![62, 32]⟩

abbrev nBuf : Space → Nat
  | .hbm => 7
  | .vmem => 7
  | .smem => 0
  | _ => 0

abbrev bufTy : (tb : Table) → Fin (tcTables nBuf tb) → BufTy
  | .hbm, ⟨0, _⟩ => ⟨S62x32, .f32⟩
  | .hbm, ⟨1, _⟩ => ⟨S62x32, .f32⟩
  | .hbm, ⟨2, _⟩ => ⟨S62x32, .f32⟩
  | .hbm, ⟨3, _⟩ => ⟨S62x32, .f32⟩
  | .hbm, ⟨4, _⟩ => ⟨S62x32, .f32⟩
  | .hbm, ⟨5, _⟩ => ⟨S62x32, .f32⟩
  | .hbm, ⟨6, _⟩ => ⟨S62x32, .f32⟩
  | .local _ .vmem, ⟨0, _⟩ => ⟨S62x32, .f32⟩
  | .local _ .vmem, ⟨1, _⟩ => ⟨S62x32, .f32⟩
  | .local _ .vmem, ⟨2, _⟩ => ⟨S62x32, .f32⟩
  | .local _ .vmem, ⟨3, _⟩ => ⟨S62x32, .f32⟩
  | .local _ .vmem, ⟨4, _⟩ => ⟨S62x32, .f32⟩
  | .local _ .vmem, ⟨5, _⟩ => ⟨S62x32, .f32⟩
  | .local _ .vmem, ⟨6, _⟩ => ⟨S62x32, .f32⟩
  | _, _ => ⟨S62x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S62x32 : Shape := ⟨2, ![62, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x32, .f32⟩
  | .hbm, ⟨1, _⟩ => ⟨S62x32, .f32⟩
  | .hbm, ⟨2, _⟩ => ⟨S62x32, .f32⟩
  | .hbm, ⟨3, _⟩ => ⟨S62x32, .f32⟩
  | .hbm, ⟨4, _⟩ => ⟨S_, .f32⟩
  | .hbm, ⟨5, _⟩ => ⟨S62x32, .f32⟩
  | .hbm, ⟨6, _⟩ => ⟨S62x32, .f32⟩
  | .hbm, ⟨7, _⟩ => ⟨S_, .f32⟩
  | .hbm, ⟨8, _⟩ => ⟨S62x32, .f32⟩
  | .hbm, ⟨9, _⟩ => ⟨S62x32, .f32⟩
  | .hbm, ⟨10, _⟩ => ⟨S62x32, .f32⟩
  | .hbm, ⟨11, _⟩ => ⟨S_, .f32⟩
  | .hbm, ⟨12, _⟩ => ⟨S62x32, .f32⟩
  | .hbm, ⟨13, _⟩ => ⟨S62x32, .f32⟩
  | .hbm, ⟨14, _⟩ => ⟨S62x32, .f32⟩
  | .hbm, ⟨15, _⟩ => ⟨S_, .f32⟩
  | .hbm, ⟨16, _⟩ => ⟨S62x32, .f32⟩
  | .hbm, ⟨17, _⟩ => ⟨S62x32, .f32⟩
  | .hbm, ⟨18, _⟩ => ⟨S62x32, .f32⟩
  | .hbm, ⟨19, _⟩ => ⟨S_, .f32⟩
  | .hbm, ⟨20, _⟩ => ⟨S62x32, .f32⟩
  | .hbm, ⟨21, _⟩ => ⟨S62x32, .f32⟩
  | .hbm, ⟨22, _⟩ => ⟨S_, .f32⟩
  | .hbm, ⟨23, _⟩ => ⟨S62x32, .f32⟩
  | .hbm, ⟨24, _⟩ => ⟨S62x32, .f32⟩
  | .hbm, ⟨25, _⟩ => ⟨S62x32, .f32⟩
  | .hbm, ⟨26, _⟩ => ⟨S_, .f32⟩
  | .hbm, ⟨27, _⟩ => ⟨S62x32, .f32⟩
  | .hbm, ⟨28, _⟩ => ⟨S62x32, .f32⟩
  | .hbm, ⟨29, _⟩ => ⟨S62x32, .f32⟩
  | .hbm, ⟨30, _⟩ => ⟨S_, .f32⟩
  | .hbm, ⟨31, _⟩ => ⟨S62x32, .f32⟩
  | .hbm, ⟨32, _⟩ => ⟨S62x32, .f32⟩
  | .hbm, ⟨33, _⟩ => ⟨S62x32, .f32⟩
  | .hbm, ⟨34, _⟩ => ⟨S_, .f32⟩
  | .hbm, ⟨35, _⟩ => ⟨S62x32, .f32⟩
  | .hbm, ⟨36, _⟩ => ⟨S62x32, .f32⟩
  | _, _ => ⟨S62x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8x48 : Shape := ⟨2, ![8, 48]⟩

abbrev nBuf : Space → Nat
  | .hbm => 7
  | .vmem => 7
  | .smem => 0
  | _ => 0

abbrev bufTy : (tb : Table) → Fin (tcTables nBuf tb) → BufTy
  | .hbm, ⟨0, _⟩ => ⟨S8x48, .f32⟩
  | .hbm, ⟨1, _⟩ => ⟨S8x48, .f32⟩
  | .hbm, ⟨2, _⟩ => ⟨S8x48, .f32⟩
  | .hbm, ⟨3, _⟩ => ⟨S8x48, .f32⟩
  | .hbm, ⟨4, _⟩ => ⟨S8x48, .f32⟩
  | .hbm, ⟨5, _⟩ => ⟨S8x48, .f32⟩
  | .hbm, ⟨6, _⟩ => ⟨S8x48, .f32⟩
  | .local _ .vmem, ⟨0, _⟩ => ⟨S8x48, .f32⟩
  | .local _ .vmem, ⟨1, _⟩ => ⟨S8x48, .f32⟩
  | .local _ .vmem, ⟨2, _⟩ => ⟨S8x48, .f32⟩
  | .local _ .vmem, ⟨3, _⟩ => ⟨S8x48, .f32⟩
  | .local _ .vmem, ⟨4, _⟩ => ⟨S8x48, .f32⟩
  | .local _ .vmem, ⟨5, _⟩ => ⟨S8x48, .f32⟩
  | .local _ .vmem, ⟨6, _⟩ => ⟨S8x48, .f32⟩
  | _, _ => ⟨S8x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S8x48 : Shape := ⟨2, ![8, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x48, .f32⟩
  | .hbm, ⟨1, _⟩ => ⟨S8x48, .f32⟩
  | .hbm, ⟨2, _⟩ => ⟨S8x48, .f32⟩
  | .hbm, ⟨3, _⟩ => ⟨S8x48, .f32⟩
  | .hbm, ⟨4, _⟩ => ⟨S_, .f32⟩
  | .hbm, ⟨5, _⟩ => ⟨S8x48, .f32⟩
  | .hbm, ⟨6, _⟩ => ⟨S8x48, .f32⟩
  | .hbm, ⟨7, _⟩ => ⟨S_, .f32⟩
  | .hbm, ⟨8, _⟩ => ⟨S8x48, .f32⟩
  | .hbm, ⟨9, _⟩ => ⟨S8x48, .f32⟩
  | .hbm, ⟨10, _⟩ => ⟨S8x48, .f32⟩
  | .hbm, ⟨11, _⟩ => ⟨S_, .f32⟩
  | .hbm, ⟨12, _⟩ => ⟨S8x48, .f32⟩
  | .hbm, ⟨13, _⟩ => ⟨S8x48, .f32⟩
  | .hbm, ⟨14, _⟩ => ⟨S8x48, .f32⟩
  | .hbm, ⟨15, _⟩ => ⟨S_, .f32⟩
  | .hbm, ⟨16, _⟩ => ⟨S8x48, .f32⟩
  | .hbm, ⟨17, _⟩ => ⟨S8x48, .f32⟩
  | .hbm, ⟨18, _⟩ => ⟨S8x48, .f32⟩
  | .hbm, ⟨19, _⟩ => ⟨S_, .f32⟩
  | .hbm, ⟨20, _⟩ => ⟨S8x48, .f32⟩
  | .hbm, ⟨21, _⟩ => ⟨S8x48, .f32⟩
  | .hbm, ⟨22, _⟩ => ⟨S_, .f32⟩
  | .hbm, ⟨23, _⟩ => ⟨S8x48, .f32⟩
  | .hbm, ⟨24, _⟩ => ⟨S8x48, .f32⟩
  | .hbm, ⟨25, _⟩ => ⟨S8x48, .f32⟩
  | .hbm, ⟨26, _⟩ => ⟨S_, .f32⟩
  | .hbm, ⟨27, _⟩ => ⟨S8x48, .f32⟩
  | .hbm, ⟨28, _⟩ => ⟨S8x48, .f32⟩
  | .hbm, ⟨29, _⟩ => ⟨S8x48, .f32⟩
  | .hbm, ⟨30, _⟩ => ⟨S_, .f32⟩
  | .hbm, ⟨31, _⟩ => ⟨S8x48, .f32⟩
  | .hbm, ⟨32, _⟩ => ⟨S8x48, .f32⟩
  | .hbm, ⟨33, _⟩ => ⟨S8x48, .f32⟩
  | .hbm, ⟨34, _⟩ => ⟨S_, .f32⟩
  | .hbm, ⟨35, _⟩ => ⟨S8x48, .f32⟩
  | .hbm, ⟨36, _⟩ => ⟨S8x48, .f32⟩
  | _, _ => ⟨S8x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.DownAct.lean ====
/- What the gradient through the squared ReLU computes. One grid point multiplies 512 rows of the incoming
   gradient by the transposed down projection, four blocks of 1024 columns at a time, and scales each entry by
   twice the saved activation. The whole array is therefore the reference's gradient with respect to the
   pre-activation. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference3Ideal.Value

open Cert.Reference3Ideal Cert.Reference3Ideal.Gen

/-- The reference's gradient of `relu(pre)² · w` in `pre`, over the pre-activation, the weights and the cotangent. -/
def REF (a0 : FVec Ideal S8192x4096 .f32) (a1 : FVec Ideal S4096x1024 .bf16) (a2 : FVec Ideal S8192x1024 .f32) : FVec Ideal S8192x4096 .bf16 :=
  truncf .bf16 (select (cmpf .ogt a0 (broadcastInDim S8192x4096 ![] bcast_S_S8192x4096 (constant S_ .f32 0x00000000#32))) (mulf (Host.dotGeneral dot_S8192x1024_S4096x1024_S8192x4096_1_1_0_0_n_n none a2 (extf .f32 a1 bitsLt_bf16_f32)) (mulf (broadcastInDim S8192x4096 ![] bcast_S_S8192x4096 (constant S_ .f32 0x40000000#32)) (maximumf a0 (broadcastInDim S8192x4096 ![] bcast_S_S8192x4096 (constant S_ .f32 0x00000000#32))))) (broadcastInDim S8192x4096 ![] bcast_S_S8192x4096 (constant S_ .f32 0x00000000#32))) bitsLt_bf16_f32

/-- Where the pre-activation is not positive, twice its rectified value is zero, so the reference's case split falls away. -/
theorem relu_gate (p S k : EReal) : (if 0 < p then S * (k * max p 0) else 0) = S * (k * max p 0) := by
  split
  · rfl
  · next h => rw [max_eq_right (not_lt.mp h), mul_zero, mul_zero]

/-- The reference at an index: the product with the transposed weights, times twice the rectified pre-activation. -/
theorem REF_at (a0 : FVec Ideal S8192x4096 .f32) (a1 : FVec Ideal S4096x1024 .bf16) (a2 : FVec Ideal S8192x1024 .f32)
    (r : Fin 8192) (f : Fin 4096) :
    REF a0 a1 a2 (ix2 r f) = (∑ k : Fin 1024, a2 (ix2 r k) * a1 (ix2 f k)) * (Ideal.ofBits .f32 0x40000000#32 * max (a0 (ix2 r f)) 0) := by
  pointwise [REF]
  exact relu_gate _ _ _

end Cert.Reference3Ideal.Value

namespace Cert.Kernel3Ideal.Value

open Cert.Kernel3Ideal Cert.Kernel3Ideal.Gen

variable (m : (ℓ : Loc nD τ sig) → Buf (Elt Ideal) ℓ)

open Cert.Reference3Ideal.Value (REF REF_at)

/-- Where each window's block sits at grid point `t`. -/
theorem idx_val : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- The activation saved by the forward pass: the rectified pre-activation. -/
theorem saved_act (c : Dev nD) (i) : V m c main_v1 i = (max (m ((c : Thread nD τ).loc main_arg0) i : EReal) 0 : EReal) := by
  simp only [V, hostOps0, hostOps0_1, List.flatten_cons, List.flatten_nil, List.append_nil, List.cons_append, List.nil_append]
  entry_read
  simp only [StableHlo.TRef.toBuf, StableHlo.TRef.ofBuf, cast_eq]
  pointwise

set_option maxHeartbeats 1600000 in
/-- What a grid point stores at block index `y` is the reference at the place where `y` lands in the array. -/
theorem point (c : Dev nD) (t : Fin cfg0.N) (y) :
    out0_3 (iblk m c 0 t) (iblk m c 1 t) (iblk m c 2 t) y
      = REF (m ((c : Thread nD τ).loc main_arg0)) (m ((c : Thread nD τ).loc main_arg1)) (m ((c : Thread nD τ).loc
        main_arg2)) (((cfg0.win 3).blk t).view.emb y) := by
  refine Eq.trans ?_ ((congrArg _ (eq_ix2 _)).trans (REF_at _ _ _ _ _)).symm
  canon_tiles x h
  all_goals
    open_payloads; pointwise; blk_point [iblk, V, idx_val t]
    rw [saved_act]
    refine congrArg (fun z : EReal => _ * max z 0) ?_
    blk_ext [idx_val t]

/-- The array after the run is the reference's gradient. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Cert.Kernel3Ideal.Value

end
-- ==== Proof.ClaimDownAct.lean ====
/- The frames of the two programs for the gradient of the down projection's activation, and their equality over the extended reals. -/
module

public import proofs.«01_k».proof.Defs
public import proofs.«01_k».proof.Proof.DownAct
public import proofs.«01_k».proof.Proof.Gen.Kernel3.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The kernel's results are the reference's. -/
theorem algebraic3 : Cert.algebraic_Kernel3Ideal_Reference3Ideal := by
  pair_intro
  · run_from Cert.Kernel3Ideal.Value.run_blocks m g
  · refine (θ_run Cert.Reference3Ideal.defs _ _).mono (fun r h c => ?_) (Cert.Reference3Ideal.Value.run m' g')
    obtain ⟨e0, e1, e2⟩ := hagree c
    refine ⟨(h c).1.trans ?_, (h c).2⟩
    · rw [e0, e1, e2]
      exact (Cert.Kernel3Ideal.Value.final m c).symm

end Cert.Proof

end
-- ==== Proof.Tiles.lean ====
/- Reading back a buffer that was stored in tiles. -/
module

public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Tiles

variable {S : Shape} {e : EltTy} {Val : EltTy → Type}

/-- Where the newer stores cover an index, what was stored before them does not matter. -/
theorem canon_newer [∀ e, Nonempty (Val e)] (older : List (View.Piece Val S e)) (y : S.Idx) :
    ∀ newer : List (View.Piece Val S e), (∃ p ∈ newer, y ∈ p.1.set) → View.canon (newer ++ older) y = View.canon newer y
  | [], hc => by
    obtain ⟨p, hp, _⟩ := hc
    exact absurd hp List.not_mem_nil
  | p :: L, hc => by
    rw [List.cons_append]
    by_cases hy : y ∈ p.1.set
    · obtain ⟨r, w⟩ := p
      obtain ⟨x, rfl⟩ : ∃ x, r.emb x = y := r.exists_idx_of_mem hy
      rw [View.canon_cons_emb, View.canon_cons_emb]
    · rw [View.canon_cons_of_not_mem _ _ hy, View.canon_cons_of_not_mem _ _ hy]
      refine canon_newer older y L ?_
      obtain ⟨q, hq, hm⟩ := hc
      rcases List.mem_cons.mp hq with rfl | hq
      · exact absurd hm hy
      · exact ⟨q, hq, hm⟩

end Cert.Tiles

end
-- ==== Proof.DownW.lean ====
/- The gradient of the down projection's weights. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.Reference4Ideal.Value

open Cert.Reference4Ideal Cert.Reference4Ideal.Gen

/-- The reference's gradient of `relu² · w` in `w`, over the saved activation and the cotangent. -/
def REF (a0 : FVec Ideal S8192x4096 .bf16) (a1 : FVec Ideal S8192x1024 .f32) : FVec Ideal S1024x4096 .bf16 :=
  truncf .bf16 (transpose S1024x4096 [1, 0] (transpose S4096x1024 [1, 0] (Host.dotGeneral dot_S8192x1024_S8192x4096_S1024x4096_0_0_1_1_n_n none a1 (mulf (extf .f32 a0 bitsLt_bf16_f32) (extf .f32 a0 bitsLt_bf16_f32))) transposes_S1024x4096_S4096x1024_1_0) transposes_S4096x1024_S1024x4096_1_0) bitsLt_bf16_f32

/-- An entry of the reference's weight gradient is a sum over all 8192 rows. -/
theorem REF_at (a0 : FVec Ideal S8192x4096 .bf16) (a1 : FVec Ideal S8192x1024 .f32) (y : S1024x4096.Idx) :
    REF a0 a1 y = ∑ k : Fin 8192, a1 (ix2 k (y 0)) * (a0 (ix2 k (y 1)) * a0 (ix2 k (y 1))) := by
  pointwise [REF]

end Cert.Reference4Ideal.Value

namespace Cert.Kernel4Ideal.Value

open Cert.Kernel4Ideal Cert.Kernel4Ideal.Gen

variable (m : (ℓ : Loc nD τ sig) → Buf (Elt Ideal) ℓ)

open Cert.Reference4Ideal.Value (REF REF_at)

/-- Where each window's block sits at grid point `t`. -/
theorem idx_val : ∀ t : Fin cfg0.N, win0_0.index t = ![t.val, 0]
    ∧ win0_1.index t = ![t.val, 0]
    ∧ win0_2.index t = ![0, 0] :=
  (by decide +kernel : ∀ t : Fin grid0.N, _)

/-- What one grid point adds to entry `y` of the accumulator. -/
def part (x0 : Vec Ideal S1024x4096 .bf16) (x1 : Vec Ideal S1024x1024 .f32) (y : S1024x4096.Idx) : EReal :=
  ∑ k : Fin 1024, x1 (ix2 k (y 0)) * (x0 (ix2 k (y 1)) * x0 (ix2 k (y 1)))

/-- The first grid point, which clears the accumulator, leaves its own part there. -/
theorem acc_first (c : Dev nD) (t : Fin cfg0.N) (h0 : t.val % 8 = 0) (y : S1024x4096.Idx) :
    (outsAt0 m c t.val t.isLt).2 y = (0 : EReal) + part (iblk m c 0 t) (iblk m c 1 t) y := by
  rw [outsAt0_A m c t h0 (by omega)]
  frame_out
  refine (Tiles.canon_newer [_] y [_, _, _, _] ?_).trans ?_
  · exact View.cover_of_tiledL (s := S1024x4096) _ S1024x1024.size (by sl_kernel_rfl) y
  canon_tiles x h
  all_goals
    simp (discharger := decide) only [↓View.readCov_skip, ↓View.readCov_fill]
    open_payloads; pointwise [part, k0_pay5, k0_pay4]; blk_point [part]

/-- After a later tile of rows the accumulator holds what it held before plus the sum over that tile's rows. -/
theorem acc_next (c : Dev nD) (t : Fin cfg0.N) (h0 : ¬ t.val % 8 = 0) (y : S1024x4096.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h1 : t.val % 8 = 7
  · rw [outsAt0_C m c t h0 h1]
    frame_out
    simp only [read_unread_whole]
    canon_tiles x h
    all_goals open_payloads; pointwise [part]; blk_point [part]
  · rw [outsAt0_B m c t h0 h1]
    frame_out
    simp only [read_unread_whole]
    canon_tiles x h
    all_goals open_payloads; pointwise [part]; blk_point [part]

/-- At the last tile of rows the output block is the accumulator. -/
theorem out_last (c : Dev nD) (t : Fin cfg0.N) (h1 : t.val % 8 = 7) (y : S1024x4096.Idx) :
    (outsAt0 m c t.val t.isLt).1 y = ((outsAt0 m c t.val t.isLt).2 y : EReal) := by
  rw [outsAt0_C m c t (by omega) h1]
  frame_out
  unfold k0_pay3
  rw [View.readCov_eq_canon_ld, View.ld_unit_lit _ _ (by decide)]
  · generalize View.canon (Val := Elt Ideal) _ = Z
    rfl
  · exact View.cover_of_tiledL _ S1024x1024.size (by sl_kernel_rfl)

/-- The output array after the whole grid is the reference's weight gradient. -/
theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun y => ?_
  blk_simp
  rw [after0_2, out_last m c t0_7 rfl, Pipeline.eq_sum_fin_of_reset_step_apply_last (fun n h => (outsAt0 m c n h).2) 8 (fun _ => (0 : EReal)) _
    (fun t h j => by rw [acc_first m c t h])
    (fun t h j => by rw [acc_next m c t h])
    (le_of_eq N_0) t0_7 rfl y, zero_add, REF_at]
  unfold part
  refine Fin.sum_mul_add_congr (S := 8) fun t k hl => ?_
  blk_point [iblk, V, idx_val t]

end Cert.Kernel4Ideal.Value

end
-- ==== Proof.ClaimDownW.lean ====
/- The frames of the two programs for the gradient of the down projection's weights, and their equality over the extended reals. -/
module

public import proofs.«01_k».proof.Defs
public import proofs.«01_k».proof.Proof.DownW
public import proofs.«01_k».proof.Proof.Gen.Kernel4.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The kernel's results are the reference's. -/
theorem algebraic4 : Cert.algebraic_Kernel4Ideal_Reference4Ideal := by
  pair_intro
  · run_from Cert.Kernel4Ideal.Value.run_blocks m g
  · refine (θ_run Cert.Reference4Ideal.defs _ _).mono (fun r h c => ?_) (Cert.Reference4Ideal.Value.run m' g')
    obtain ⟨e0, e1⟩ := hagree c
    refine ⟨(h c).1.trans ?_, (h c).2⟩
    · rw [e0, e1]
      exact (Cert.Kernel4Ideal.Value.final m c).symm

end Cert.Proof

end
-- ==== Proof.RmsNorm.lean ====
/- The gradient of root-mean-square normalisation over one row of 1024 entries, in two arrangements.

   For a row `x` with gain `g`, cotangent `d` and a residual cotangent `y`, one arrangement first scales the row by the
   reciprocal root `s` and subtracts its projection; the other adds the two halves of the derivative of the mean of
   squares. They agree on all extended reals: where the mean of squares is infinite `s` is zero and both give `y`, and
   elsewhere `s` is a positive real, by which sums and differences may be multiplied out. -/
module

public import Idealize.ShloMosaic.Lib.IdealHost
public import Idealize.ShloMosaic.PureOps.Ideal

@[expose] public section

noncomputable section

open Idealize.ShloMosaic

namespace Cert.RmsNorm

/-- The row length, as the programs' literal. -/
def n : EReal := Ideal.ofBits .f32 0x44800000#32
/-- The small addend under the root. -/
def eps : EReal := Ideal.ofBits .f32 0x358637BD#32
/-- Minus one half: the exponent of the root, which its derivative brings down. -/
def half : EReal := Ideal.ofBits .f32 0xBF000000#32

/-- The mean of squares of a row, with the small addend. -/
def meanSq (x : Fin 1024 → EReal) : EReal := Ideal.div (∑ k, x k * x k) n + eps

/-- The reciprocal root of the mean of squares. -/
def rstd (x : Fin 1024 → EReal) : EReal := Ideal.rsqrt (meanSq x)

/-- The gradient with the projection on the normalised row taken out. -/
def projected (x d g : Fin 1024 → EReal) (y : EReal) (j : Fin 1024) : EReal :=
  y + rstd x * (d j * g j - x j * rstd x * Ideal.div (∑ k, d k * g k * (x k * rstd x)) n)

/-- The factor with which the row enters its own gradient, through either of the two factors of a square. -/
def slope (x d g : Fin 1024 → EReal) : EReal :=
  Ideal.div ((∑ k, x k * (d k * g k)) * (half * Ideal.div (rstd x) (meanSq x))) n

/-- The gradient as the derivatives of the two factors of each square, added one after the other. -/
def termwise (x d g : Fin 1024 → EReal) (y : EReal) (j : Fin 1024) : EReal :=
  y + d j * g j * rstd x + x j * slope x d g + slope x d g * x j

/-- The width of a row as a real number. -/
theorem n_eq : n = ((1024 : ℝ) : EReal) := by
  simp [n, Ideal.ofBits, Ideal.ieee, -EReal.coe_mul]; norm_num

/-- The exponent of the reciprocal square root's derivative as a real number. -/
theorem half_eq : half = ((-(1 / 2) : ℝ) : EReal) := by
  simp [half, Ideal.ofBits, Ideal.ieee, -EReal.coe_mul, -EReal.coe_neg]; norm_num

/-- The norm's small constant is a positive real. -/
theorem eps_pos : ∃ e : ℝ, 0 < e ∧ eps = (e : EReal) := by
  refine ⟨8796093 * (2 ^ 43)⁻¹, by positivity, ?_⟩
  simp [eps, Ideal.ofBits, Ideal.ieee, -EReal.coe_mul]

/-- Every extended real is minus the sum of two copies of minus its half. -/
theorem halves (T : EReal) : T * ((-(1 / 2) : ℝ) : EReal) + T * ((-(1 / 2) : ℝ) : EReal) = -T := by
  induction T with
  | bot => rw [EReal.bot_mul_coe_of_neg (by norm_num)]; rfl
  | top => rw [EReal.top_mul_coe_of_neg (by norm_num)]; rfl
  | coe r => norm_cast; ring

/-- A sum of extended reals may be multiplied by a nonnegative real term by term. -/
theorem sum_mul_real {ι : Type*} (S : Finset ι) (f : ι → EReal) (s : ℝ) (hs : 0 ≤ s) :
    (∑ k ∈ S, f k) * (s : EReal) = ∑ k ∈ S, f k * (s : EReal) := by
  classical
  induction S using Finset.induction_on with
  | empty => simp
  | insert a S ha ih =>
    rw [Finset.sum_insert ha, Finset.sum_insert ha, ← ih]
    exact EReal.right_distrib_of_nonneg_of_ne_top (by exact_mod_cast hs) (EReal.coe_ne_top s) _ _

/-- A square is not negative. -/
theorem sq_nonneg (x : EReal) : 0 ≤ x * x := by
  induction x with
  | bot => simp
  | top => simp
  | coe r => exact_mod_cast mul_self_nonneg r

/-- Either the mean of squares is infinite, or it is a positive real. -/
theorem meanSq_cases (x : Fin 1024 → EReal) : meanSq x = ⊤ ∨ ∃ v : ℝ, 0 < v ∧ meanSq x = (v : EReal) := by
  obtain ⟨e, he, heq⟩ := eps_pos
  have hQ : 0 ≤ ∑ k, x k * x k := Finset.sum_nonneg fun k _ => sq_nonneg _
  unfold meanSq
  rw [n_eq, heq, Ideal.div_coe (by norm_num)]
  generalize ∑ k, x k * x k = Q at hQ ⊢
  induction Q with
  | bot => simp at hQ
  | top => left; rw [EReal.top_mul_coe_of_pos (by norm_num)]; rfl
  | coe q =>
    right
    have hq : 0 ≤ q := by exact_mod_cast hQ
    exact ⟨q * (1 / 1024) + e, by positivity, by push_cast; rfl⟩

/-- The two arrangements of the gradient agree. -/
theorem projected_eq_termwise (x d g : Fin 1024 → EReal) (y : EReal) (j : Fin 1024) :
    projected x d g y j = termwise x d g y j := by
  unfold projected termwise slope
  rcases meanSq_cases x with h | ⟨v, hv, h⟩
  · have hs : rstd x = 0 := by rw [rstd, h]; rfl
    rw [hs, h, n_eq, Ideal.div_coe (by norm_num), Ideal.div_coe (by norm_num)]
    have : Ideal.div 0 ⊤ = 0 := by simp [Ideal.div]
    simp [this]
  · have hsq : rstd x = (((Real.sqrt v)⁻¹ : ℝ) : EReal) := by
      rw [rstd, h, Ideal.rsqrt_coe, if_neg (not_lt.mpr hv.le), if_neg hv.ne']
    have hr : 0 < Real.sqrt v := Real.sqrt_pos.mpr hv
    obtain ⟨s, hs0, hs, hsv⟩ : ∃ s : ℝ, 0 < s ∧ rstd x = (s : EReal) ∧ s * (1 / v) = s * s * s :=
      ⟨_, inv_pos.mpr hr, hsq, by
        have : v = Real.sqrt v * Real.sqrt v := (Real.mul_self_sqrt hv.le).symm
        rw [mul_assoc, ← mul_inv, ← this, one_div]⟩
    rw [hs, h, n_eq, half_eq, Ideal.div_coe (by norm_num), Ideal.div_coe (by norm_num), Ideal.div_coe hv.ne']
    have hB : ∑ k, d k * g k * (x k * (s : EReal)) = (∑ k, x k * (d k * g k)) * (s : EReal) := by
      rw [sum_mul_real _ _ s hs0.le]
      exact Finset.sum_congr rfl fun k _ => by rw [← mul_assoc, mul_comm (d k * g k)]
    rw [hB]
    generalize (∑ k, x k * (d k * g k)) = A
    have hs0' : (0 : EReal) ≤ (s : EReal) := by exact_mod_cast hs0.le
    rw [sub_eq_add_neg, EReal.left_distrib_of_nonneg_of_ne_top hs0' (EReal.coe_ne_top s), mul_comm (s : EReal) (d j * g j), add_assoc, add_assoc]
    congr 2
    rw [mul_neg, ← EReal.coe_mul s (1 / v), hsv, ← halves, EReal.coe_mul, EReal.coe_mul]
    congr 1 <;> ac_rfl

end Cert.RmsNorm

end
-- ==== Proof.UpAct.lean ====
/- The gradient through the second norm. -/
module

public import proofs.«01_k».proof.Proof.Gen.Kernel5Ideal.Value
public import proofs.«01_k».proof.Proof.Gen.Reference5Ideal.Run
public import Idealize.ShloMosaic.Lib.Pipeline.ValueKit
public import proofs.«01_k».proof.Proof.RmsNorm

@[expose] public section

set_option maxRecDepth 16384

noncomputable section

open Idealize.ShloMosaic Idealize.ShloMosaic.TcCoe Idealize.SL.Sem
open Idealize.ShloMosaic.Pipeline (Dat)

namespace Cert.Reference5Ideal.Value

open Cert.Reference5Ideal Cert.Reference5Ideal.Gen

/-- The reference's gradient for the activation. -/
def REFx (a0 : FVec Ideal S8192x4096 .bf16) (a1 : FVec Ideal S1024x4096 .bf16) (a2 : FVec Ideal S8192x1024 .f32) (a3 : FVec Ideal S1x1024 .f32) (a4 : FVec Ideal S8192x1024 .f32) : FVec Ideal S8192x1024 .f32 :=
    addf (addf (addf a4 (mulf (mulf (Host.dotGeneral dot_S8192x4096_S1024x4096_S8192x1024_1_1_0_0_n_n none (extf .f32 a0 bitsLt_bf16_f32) (extf .f32 a1 bitsLt_bf16_f32)) (broadcastInDim S8192x1024 ![0, 1] bcast_S1x1024_S8192x1024_0_1 a3)) (broadcastInDim S8192x1024 ![0, 1] bcast_S8192x1_S8192x1024_0_1 (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a2 (broadcastInDim S8192x1024 ![0] bcast_S8192_S8192x1024_0 (Host.reduceAdd (Host.divf (mulf (shapeCast S8192x1 (Host.reduceAdd (mulf a2 (mulf (Host.dotGeneral dot_S8192x4096_S1024x4096_S8192x1024_1_1_0_0_n_n none (extf .f32 a0 bitsLt_bf16_f32) (extf .f32 a1 bitsLt_bf16_f32)) (broadcastInDim S8192x1024 ![0, 1] bcast_S1x1024_S8192x1024_0_1 a3))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast S8192x1 (Host.reduceAdd (mulf a2 (mulf (Host.dotGeneral dot_S8192x4096_S1024x4096_S8192x1024_1_1_0_0_n_n none (extf .f32 a0 bitsLt_bf16_f32) (extf .f32 a1 bitsLt_bf16_f32)) (broadcastInDim S8192x1024 ![0, 1] bcast_S1x1024_S8192x1024_0_1 a3))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a2)

/-- The reference's gradient for the gain. -/
def REFg (a0 : FVec Ideal S8192x4096 .bf16) (a1 : FVec Ideal S1024x4096 .bf16) (a2 : FVec Ideal S8192x1024 .f32) : FVec Ideal S1x1024 .f32 :=
  shapeCast S1x1024 (Host.reduceAdd (mulf (mulf a2 (broadcastInDim S8192x1024 ![0, 1] bcast_S8192x1_S8192x1024_0_1 (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x4096_S1024x4096_S8192x1024_1_1_0_0_n_n none (extf .f32 a0 bitsLt_bf16_f32) (extf .f32 a1 bitsLt_bf16_f32))) (constant S_ .f32 0x00000000#32) reducesTo_S8192x1024_S1024_d0 h_S_) shapeCasts_S1024_S1x1024

/-- The cotangent of the normed activation. -/
def dot (a0 : FVec Ideal S8192x4096 .bf16) (a1 : FVec Ideal S1024x4096 .bf16) (r : Fin 8192) (j : Fin 1024) : EReal :=
  ∑ f : Fin 4096, a0 (ix2 r f) * a1 (ix2 j f)

/-- What one row adds to entry `j` of the gain's gradient. -/
def gainRow (a0 : FVec Ideal S8192x4096 .bf16) (a1 : FVec Ideal S1024x4096 .bf16) (a2 : FVec Ideal S8192x1024 .f32) (r : Fin 8192) (j : Fin 1024) : EReal :=
  dot a0 a1 r j * (a2 (ix2 r j) * RmsNorm.rstd fun k => a2 (ix2 r k))

/-- The reference's gradient for the activation, entry by entry. -/
theorem REFx_at (a0 : FVec Ideal S8192x4096 .bf16) (a1 : FVec Ideal S1024x4096 .bf16) (a2 : FVec Ideal S8192x1024 .f32) (a3 : FVec Ideal S1x1024 .f32) (a4 : FVec Ideal S8192x1024 .f32) (r : Fin 8192) (j : Fin 1024) :
    REFx a0 a1 a2 a3 a4 (ix2 r j) = RmsNorm.projected (fun k => a2 (ix2 r k)) (dot a0 a1 r) (fun k => a3 (ix2 0 k)) (a4 (ix2 r j)) j := by
  rw [RmsNorm.projected_eq_termwise]
  pointwise [REFx]
  simp only [Fin.sum_univ_one]
  rfl

/-- The reference's gradient for the gain, entry by entry. -/
theorem REFg_at (a0 : FVec Ideal S8192x4096 .bf16) (a1 : FVec Ideal S1024x4096 .bf16) (a2 : FVec Ideal S8192x1024 .f32) (y : S1x1024.Idx) :
    REFg a0 a1 a2 y = ∑ r : Fin 8192, gainRow a0 a1 a2 r (y 1) := by
  rw [eq_ix2 y]
  pointwise [REFg]
  exact Fin.sum_fin_congr fun r => mul_comm (G := EReal) _ _

/-- The run's term for the activation's gradient is `REFx` of the arguments. -/
theorem res_eq (m : (ℓ : Loc nD τ sig) → Buf (Elt Ideal) ℓ) (c : Dev nD) : res_main_v38 m c = REFx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Reference5Ideal.Value

namespace Cert.Kernel5Ideal.Value

open Cert.Kernel5Ideal Cert.Kernel5Ideal.Gen

variable (m : (ℓ : Loc nD τ sig) → Buf (Elt Ideal) ℓ)

open Cert.Reference5Ideal.Value (REFx REFx_at REFg REFg_at dot gainRow)

/-- Where each window's block sits at grid point `t`. -/
theorem idx_val : ∀ t : Fin cfg0.N, win0_0.index t = ![t.val, 0]
    ∧ win0_1.index t = ![0, 0] ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- The cotangent of the normed activation over one block of rows: the kernel contracts the 4096 hidden features a
    quarter at a time. -/
def cot (x0 : Vec Ideal S512x4096 .bf16) (x1 : Vec Ideal S1024x4096 .bf16) (r : Fin 512) (j : Fin 1024) : EReal :=
  ∑ f : Fin 4096, x0 (ix2 r f) * x1 (ix2 j f)

/-- The four products of the quarters. -/
def quarters (x0 : Vec Ideal S512x4096 .bf16) (x1 : Vec Ideal S1024x4096 .bf16) : FVec Ideal S512x1024 .f32 :=
  k0_pay4 (View.ld x0 (Rect.unit ![0, 0] ![512, 1024] inb_S512x4096_S512x1024_0_0))
        (View.ld x1 (Rect.unit ![0, 0] ![1024, 1024] inb_S1024x4096_S1024x1024_0_0))
        (View.ld x0 (Rect.unit ![0, 1024] ![512, 1024] inb_S512x4096_S512x1024_0_1024))
        (View.ld x1 (Rect.unit ![0, 1024] ![1024, 1024] inb_S1024x4096_S1024x1024_0_1024))
        (View.ld x0 (Rect.unit ![0, 2048] ![512, 1024] inb_S512x4096_S512x1024_0_2048))
        (View.ld x1 (Rect.unit ![0, 2048] ![1024, 1024] inb_S1024x4096_S1024x1024_0_2048))
        (View.ld x0 (Rect.unit ![0, 3072] ![512, 1024] inb_S512x4096_S512x1024_0_3072))
        (View.ld x1 (Rect.unit ![0, 3072] ![1024, 1024] inb_S1024x4096_S1024x1024_0_3072))

/-- The quarters add up to the whole contraction. -/
theorem quarters_at (x0 : Vec Ideal S512x4096 .bf16) (x1 : Vec Ideal S1024x4096 .bf16) (r : Fin 512) (j : Fin 1024) :
    quarters x0 x1 (ix2 r j) = cot x0 x1 r j := by
  pointwise [quarters, k0_pay4]
  refine Eq.trans ?_ (Fin.sum_univ_tiles 4 1024 rfl _).symm
  rw [Fin.sum_univ_four]
  rfl

/-- What the kernel stores for one row of a block, from the block's operands. -/
theorem row_at (x0 : Vec Ideal S512x4096 .bf16) (x1 : Vec Ideal S1024x4096 .bf16) (x2 : Vec Ideal S512x1024 .f32)
    (x3 : Vec Ideal S1x1024 .f32) (x4 : Vec Ideal S512x1024 .f32) (r : Fin 512) (j : Fin 1024) :
    k0_pay2 (k0_pay5 x2) (k0_pay6 x2) (mulf (quarters x0 x1) (broadcastTo S512x1024 x3 broadcasts_S1x1024_S512x1024))
      (multiReduction .add [1] S512 (mulf (mulf (quarters x0 x1) (broadcastTo S512x1024 x3 broadcasts_S1x1024_S512x1024)) (k0_pay6 x2)) 0x00000000#32 reduces_S512x1024_S512 (.inl rfl) rfl) x4 (ix2 r j)
      = RmsNorm.projected (fun k => x2 (ix2 r k)) (cot x0 x1 r) (fun k => x3 (ix2 0 k)) (x4 (ix2 r j)) j := by
  pointwise [k0_pay2, k0_pay6, k0_pay5, quarters_at]
  rfl

/-- There are sixteen grid points. -/
theorem pt_lt (t : Fin cfg0.N) : t.val < 16 := t.isLt.trans_eq N_0

/-- Each block of `dx` is the gradient of the norm over its rows. -/
theorem out5 (c : Dev nD) (t : Fin cfg0.N) (r : Fin 512) (j : Fin 1024) :
    (outsAt0 m c t.val t.isLt).1 (ix2 r j) = RmsNorm.projected (fun k => iblk m c 2 t (ix2 r k)) (cot (iblk m c 0 t) (iblk m c 1 t) r) (fun k => iblk m c 3 t (ix2 0 k)) (iblk m c 4 t (ix2 r j)) j := by
  by_cases h0 : t.val % 16 = 0
  · rw [outsAt0_A m c t h0 (by have := pt_lt t; omega)]
    frame_out
    exact row_at (iblk m c 0 t) (iblk m c 1 t) (iblk m c 2 t) (iblk m c 3 t) (iblk m c 4 t) r j
  · rw [outsAt0_B m c t h0 (by omega)]
    frame_out
    exact row_at (iblk m c 0 t) (iblk m c 1 t) (iblk m c 2 t) (iblk m c 3 t) (iblk m c 4 t) r j

/-- What one row adds to entry `j` of the gain's gradient. -/
def rowPart (x0 : Vec Ideal S512x4096 .bf16) (x1 : Vec Ideal S1024x4096 .bf16) (x2 : Vec Ideal S512x1024 .f32) (r : Fin 512) (j : Fin 1024) : EReal :=
  cot x0 x1 r j * (x2 (ix2 r j) * RmsNorm.rstd fun k => x2 (ix2 r k))

/-- What one block of rows adds to entry `j` of the gain's gradient. -/
def part (x0 : Vec Ideal S512x4096 .bf16) (x1 : Vec Ideal S1024x4096 .bf16) (x2 : Vec Ideal S512x1024 .f32) (j : Fin 1024) : EReal :=
  ∑ r : Fin 512, rowPart x0 x1 x2 r j

/-- The payload of the gain's gradient is the block's part. -/
theorem pay1_at (x0 : Vec Ideal S512x4096 .bf16) (x1 : Vec Ideal S1024x4096 .bf16) (x2 : Vec Ideal S512x1024 .f32) (j : Fin 1024) :
    k0_pay1 (quarters x0 x1) (k0_pay6 x2) (ix2 0 j) = part x0 x1 x2 j := by
  pointwise [k0_pay1, k0_pay6, k0_pay5, quarters_at]
  rfl

/-- The first block of rows stores its part. -/
theorem gain_first (c : Dev nD) (t : Fin cfg0.N) (h0 : t.val % 16 = 0) (y : S1x1024.Idx) :
    (outsAt0 m c t.val t.isLt).2 y = (0 : EReal) + part (iblk m c 0 t) (iblk m c 1 t) (iblk m c 2 t) (y 1) := by
  rw [outsAt0_A m c t h0 (by have := pt_lt t; omega), zero_add]
  frame_out
  rw [eq_ix2 y, Fin.fin_one_eq_zero (y 0)]
  exact pay1_at _ _ _ _

/-- Every later block of rows adds its part. -/
theorem gain_next (c : Dev nD) (t : Fin cfg0.N) (h0 : ¬ t.val % 16 = 0) (y : S1x1024.Idx) :
    (outsAt0 m c t.val t.isLt).2 y = ((outsAt0 m c (t.val - 1) (Nat.lt_of_le_of_lt (Nat.sub_le _ _) t.isLt)).2 y : EReal) + part (iblk m c 0 t) (iblk m c 1 t) (iblk m c 2 t) (y 1) := by
  rw [outsAt0_B m c t h0 (by omega)]
  frame_out
  rw [eq_ix2 y, Fin.fin_one_eq_zero (y 0)]
  refine Eq.trans ?_ (congrArg (_ + ·) (pay1_at _ _ _ _))
  pointwise [k0_pay3]
  rfl

/-- Row `r` of the block at grid point `t`, in the whole array. -/
def row (t : Fin cfg0.N) (r : Fin 512) : Fin 8192 := ⟨t.val * 512 + r.val, by have := pt_lt t; have := r.isLt; omega⟩

/-! Each operand's block, in its array. -/

/-- The block of the pre-activation's gradient at tile `t` is its rows from `512 t` on. -/
theorem blk0 (c : Dev nD) (t : Fin cfg0.N) (r : Fin 512) (f : Fin 4096) :
    iblk m c 0 t (ix2 r f) = m ((c : Thread nD τ).loc main_arg0) (ix2 (row t r) f) := by
  unfold row; blk_point [iblk, V, idx_val t]
/-- The weights' block is the whole array. -/
theorem blk1 (c : Dev nD) (t : Fin cfg0.N) (r : Fin 1024) (f : Fin 4096) :
    iblk m c 1 t (ix2 r f) = m ((c : Thread nD τ).loc main_arg1) (ix2 r f) := by
  blk_point [iblk, V, idx_val t]
/-- The block of the norm's input. -/
theorem blk2 (c : Dev nD) (t : Fin cfg0.N) (r : Fin 512) (j : Fin 1024) :
    iblk m c 2 t (ix2 r j) = m ((c : Thread nD τ).loc main_arg2) (ix2 (row t r) j) := by
  unfold row; blk_point [iblk, V, idx_val t]
/-- The norm's gain is one row, the same at every tile. -/
theorem blk3 (c : Dev nD) (t : Fin cfg0.N) (r : Fin 1) (j : Fin 1024) :
    iblk m c 3 t (ix2 r j) = m ((c : Thread nD τ).loc main_arg3) (ix2 r j) := by
  blk_point [iblk, V, idx_val t]
/-- The block of the gradient carried past the norm. -/
theorem blk4 (c : Dev nD) (t : Fin cfg0.N) (r : Fin 512) (j : Fin 1024) :
    iblk m c 4 t (ix2 r j) = m ((c : Thread nD τ).loc main_arg4) (ix2 (row t r) j) := by
  unfold row; blk_point [iblk, V, idx_val t]

/-- The cotangent over a block's row is the one over the array's. -/
theorem cot_blk (c : Dev nD) (t : Fin cfg0.N) (r : Fin 512) :
    cot (iblk m c 0 t) (iblk m c 1 t) r = dot (m ((c : Thread nD τ).loc main_arg0)) (m ((c : Thread nD τ).loc main_arg1)) (row t r) :=
  funext fun j => Fin.sum_fin_congr fun f => by rw [blk0, blk1]

/-- The gradient over one row of a block, in the arrays. -/
theorem projected_blk (c : Dev nD) (t : Fin cfg0.N) (r : Fin 512) (j : Fin 1024) :
    RmsNorm.projected (fun k => iblk m c 2 t (ix2 r k)) (cot (iblk m c 0 t) (iblk m c 1 t) r) (fun k => iblk m c 3 t (ix2 0 k)) (iblk m c 4 t (ix2 r j)) j
      = RmsNorm.projected (fun k => m ((c : Thread nD τ).loc main_arg2) (ix2 (row t r) k)) (dot (m ((c : Thread nD τ).loc main_arg0)) (m ((c : Thread nD τ).loc main_arg1)) (row t r))
          (fun k => m ((c : Thread nD τ).loc main_arg3) (ix2 0 k)) (m ((c : Thread nD τ).loc main_arg4) (ix2 (row t r) j)) j := by
  rw [cot_blk, blk4]
  simp only [blk2, blk3]

/-- What one row of a block adds to the gain's gradient, in the arrays. -/
theorem part_blk (c : Dev nD) (t : Fin cfg0.N) (r : Fin 512) (j : Fin 1024) :
    rowPart (iblk m c 0 t) (iblk m c 1 t) (iblk m c 2 t) r j
      = gainRow (m ((c : Thread nD τ).loc main_arg0)) (m ((c : Thread nD τ).loc main_arg1)) (m ((c : Thread nD τ).loc main_arg2)) (row t r) j := by
  unfold rowPart gainRow
  rw [cot_blk]
  simp only [blk2]

/-- The gradient the kernel leaves for the activation is the reference's. -/
theorem final5 (c : Dev nD) : (dats m 0 c).arrAt 5 (cfgs 0).N = REFx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have he : ((win0_5.blk t).view.emb y : S8192x1024.Idx) = ix2 (row t (y 0)) (y 1) := by
    unfold row; blk_ext [idx_val t]
  refine Eq.trans ?_ ((congrArg _ he).trans (REFx_at _ _ _ _ _ _ _)).symm
  refine (congrArg _ (eq_ix2 y)).trans ((out5 m c t (y 0) (y 1)).trans ?_)
  exact projected_blk m c t (y 0) (y 1)

/-- The gradient the kernel leaves for the gain is the reference's. -/
theorem final6 (c : Dev nD) : (dats m 0 c).arrAt 6 (cfgs 0).N = REFg (m ((c : Thread nD τ).loc main_arg0)) (m ((c : Thread nD τ).loc main_arg1)) (m ((c : Thread nD τ).loc main_arg2)) := by
  refine (dats m 0 c).arrAt_eq_of_after_last 6 t0_15 (by decide +kernel) _ fun y => ?_
  blk_simp
  rw [after0_6, Pipeline.eq_sum_fin_of_reset_step_apply_last (fun n h => (outsAt0 m c n h).2) 16 (fun _ => (0 : EReal)) _
    (fun t h j => by rw [gain_first m c t h])
    (fun t h j => by rw [gain_next m c t h])
    (le_of_eq N_0) t0_15 rfl y, zero_add, REFg_at]
  unfold part
  refine Fin.sum_mul_add_congr (S := 16) fun t k hl => ?_
  exact part_blk m c t k (y 1)

end Cert.Kernel5Ideal.Value

end
-- ==== Proof.ClaimUpAct.lean ====
/- The frames of the two programs for the gradients through the up projection and the second norm, and their equality over the extended reals. -/
module

public import proofs.«01_k».proof.Defs
public import proofs.«01_k».proof.Proof.UpAct
public import proofs.«01_k».proof.Proof.Gen.Kernel5.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference5 : Cert.quiescent_Reference5Ideal := fun m g _ =>
  (θ_run Cert.Reference5Ideal.defs _ _).mono (fun r h => ⟨fun c => (h c).2.2, sem_eq_zero_of_no_sems (by decide) r.2⟩)
    (Cert.Reference5Ideal.Value.run m g)

/-- The kernel's results are the reference's. -/
theorem algebraic5 : Cert.algebraic_Kernel5Ideal_Reference5Ideal := by
  pair_intro
  · run_from Cert.Kernel5Ideal.Value.run_blocks m g
  · refine (θ_run Cert.Reference5Ideal.defs _ _).mono (fun r h c => ?_) (Cert.Reference5Ideal.Value.run m' g')
    obtain ⟨e0, e1, e2, e3, e4⟩ := hagree c
    refine ⟨(h c).1.trans ?_, (h c).2.1.trans ?_, (h c).2.2⟩
    · refine (Cert.Reference5Ideal.Value.res_eq m' c).trans ?_
      rw [e0, e1, e2, e3, e4]
      exact (Cert.Kernel5Ideal.Value.final5 m c).symm
    · refine Eq.trans (b := Cert.Reference5Ideal.Value.REFg (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) rfl ?_
      rw [e0, e1, e2]
      exact (Cert.Kernel5Ideal.Value.final6 m c).symm

end Cert.Proof

end
-- ==== Proof.UpW.lean ====
/- The gradient of the up projection's weights. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.Reference6Ideal.Value

open Cert.Reference6Ideal Cert.Reference6Ideal.Gen

/-- The reference's gradient of `h · w` in `w`, over the normed activation and the cotangent. -/
def REF (a0 : FVec Ideal S8192x1024 .bf16) (a1 : FVec Ideal S8192x4096 .bf16) : FVec Ideal S1024x4096 .bf16 :=
  truncf .bf16 (transpose S1024x4096 [1, 0] (Host.dotGeneral dot_S8192x4096_S8192x1024_S4096x1024_0_0_1_1_n_n none (extf .f32 a1 bitsLt_bf16_f32) (extf .f32 a0 bitsLt_bf16_f32)) transposes_S4096x1024_S1024x4096_1_0) bitsLt_bf16_f32

/-- An entry of the reference's weight gradient is a sum over all 8192 rows. -/
theorem REF_at (a0 : FVec Ideal S8192x1024 .bf16) (a1 : FVec Ideal S8192x4096 .bf16) (y : S1024x4096.Idx) :
    REF a0 a1 y = ∑ k : Fin 8192, a0 (ix2 k (y 0)) * a1 (ix2 k (y 1)) := by
  pointwise [REF]
  refine Fin.sum_fin_congr fun k => mul_comm _ _

end Cert.Reference6Ideal.Value

namespace Cert.Kernel6Ideal.Value

open Cert.Kernel6Ideal Cert.Kernel6Ideal.Gen

variable (m : (ℓ : Loc nD τ sig) → Buf (Elt Ideal) ℓ)

open Cert.Reference6Ideal.Value (REF REF_at)

/-- Where each window's block sits at grid point `t`. -/
theorem idx_val : ∀ t : Fin cfg0.N, win0_0.index t = ![t.val, 0]
    ∧ win0_1.index t = ![t.val, 0]
    ∧ win0_2.index t = ![0, 0] :=
  (by decide +kernel : ∀ t : Fin grid0.N, _)

/-- What one grid point adds to entry `y` of the accumulator. -/
def part (x0 : Vec Ideal S1024x1024 .bf16) (x1 : Vec Ideal S1024x4096 .bf16) (y : S1024x4096.Idx) : EReal :=
  ∑ k : Fin 1024, x0 (ix2 k (y 0)) * x1 (ix2 k (y 1))

/-- The first grid point, which clears the accumulator, leaves its own part there. -/
theorem acc_first (c : Dev nD) (t : Fin cfg0.N) (h0 : t.val % 8 = 0) (y : S1024x4096.Idx) :
    (outsAt0 m c t.val t.isLt).2 y = (0 : EReal) + part (iblk m c 0 t) (iblk m c 1 t) y := by
  rw [outsAt0_A m c t h0 (by omega)]
  frame_out
  refine (Tiles.canon_newer [_] y [_, _, _, _] ?_).trans ?_
  · exact View.cover_of_tiledL (s := S1024x4096) _ S1024x1024.size (by sl_kernel_rfl) y
  canon_tiles x h
  all_goals
    simp (discharger := decide) only [↓View.readCov_skip, ↓View.readCov_fill]
    open_payloads; pointwise [part, k0_pay3]; blk_point [part]

/-- After a later tile of rows the accumulator holds what it held before plus the sum over that tile's rows. -/
theorem acc_next (c : Dev nD) (t : Fin cfg0.N) (h0 : ¬ t.val % 8 = 0) (y : S1024x4096.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h1 : t.val % 8 = 7
  · rw [outsAt0_C m c t h0 h1]
    frame_out
    simp only [read_unread_whole]
    canon_tiles x h
    all_goals open_payloads; pointwise [part]; blk_point [part]
  · rw [outsAt0_B m c t h0 h1]
    frame_out
    simp only [read_unread_whole]
    canon_tiles x h
    all_goals open_payloads; pointwise [part]; blk_point [part]

/-- At the last tile of rows the output block is the accumulator. -/
theorem out_last (c : Dev nD) (t : Fin cfg0.N) (h1 : t.val % 8 = 7) (y : S1024x4096.Idx) :
    (outsAt0 m c t.val t.isLt).1 y = ((outsAt0 m c t.val t.isLt).2 y : EReal) := by
  rw [outsAt0_C m c t (by omega) h1]
  frame_out
  unfold k0_pay2
  rw [View.readCov_eq_canon_ld, View.ld_unit_lit _ _ (by decide)]
  · generalize View.canon (Val := Elt Ideal) _ = Z
    rfl
  · exact View.cover_of_tiledL _ S1024x1024.size (by sl_kernel_rfl)

/-- The output array after the whole grid is the reference's weight gradient. -/
theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun y => ?_
  blk_simp
  rw [after0_2, out_last m c t0_7 rfl, Pipeline.eq_sum_fin_of_reset_step_apply_last (fun n h => (outsAt0 m c n h).2) 8 (fun _ => (0 : EReal)) _
    (fun t h j => by rw [acc_first m c t h])
    (fun t h j => by rw [acc_next m c t h])
    (le_of_eq N_0) t0_7 rfl y, zero_add, REF_at]
  unfold part
  refine Fin.sum_mul_add_congr (S := 8) fun t k hl => ?_
  blk_point [iblk, V, idx_val t]

end Cert.Kernel6Ideal.Value

end
-- ==== Proof.ClaimUpW.lean ====
/- The frames of the two programs for the gradient of the up projection's weights, and their equality over the extended reals. -/
module

public import proofs.«01_k».proof.Defs
public import proofs.«01_k».proof.Proof.UpW
public import proofs.«01_k».proof.Proof.Gen.Kernel6.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The kernel's results are the reference's. -/
theorem algebraic6 : Cert.algebraic_Kernel6Ideal_Reference6Ideal := by
  pair_intro
  · run_from Cert.Kernel6Ideal.Value.run_blocks m g
  · refine (θ_run Cert.Reference6Ideal.defs _ _).mono (fun r h c => ?_) (Cert.Reference6Ideal.Value.run m' g')
    obtain ⟨e0, e1⟩ := hagree c
    refine ⟨(h c).1.trans ?_, (h c).2⟩
    · rw [e0, e1]
      exact (Cert.Kernel6Ideal.Value.final m c).symm

end Cert.Proof

end
-- ==== Proof.Joined.lean ====
/- Five rows side by side, and a product with them as five products: the input projection's columns are those of the
   queries, the keys, the values, the convolution and the recurrence. -/
module

public import Idealize.ShloMosaic.Lib.Pointwise.Sums
public import Idealize.ShloMosaic.PureOps.Ideal

@[expose] public section

noncomputable section

open Idealize.ShloMosaic

namespace Cert.Joined

/-- Five rows of 384, 384, 384, 512 and 768 entries side by side. -/
def joined (b0 b1 b2 : Fin 384 → EReal) (b3 : Fin 512 → EReal) (b4 : Fin 768 → EReal) (j : Fin 2432) : EReal :=
  if h : j.val < 384 then b0 ⟨j.val, h⟩
  else if h : j.val - 384 < 384 then b1 ⟨j.val - 384, h⟩
  else if h : j.val - 384 - 384 < 384 then b2 ⟨j.val - 384 - 384, h⟩
  else if h : j.val - 384 - 384 - 384 < 512 then b3 ⟨j.val - 384 - 384 - 384, h⟩
  else b4 ⟨j.val - 384 - 384 - 384 - 512, by omega⟩

variable (b0 b1 b2 : Fin 384 → EReal) (b3 : Fin 512 → EReal) (b4 : Fin 768 → EReal)

/-- The product of the joined row with a row is the sum of the five parts' products. -/
theorem sum_joined (w : Fin 2432 → EReal) :
    ∑ f : Fin 2432, joined b0 b1 b2 b3 b4 f * w f
      = ∑ k : Fin 384, b0 k * w ⟨k.val, by have := k.isLt; omega⟩ + ∑ k : Fin 384, b1 k * w ⟨384 + k.val, by have := k.isLt; omega⟩
        + ∑ k : Fin 384, b2 k * w ⟨768 + k.val, by have := k.isLt; omega⟩ + ∑ k : Fin 512, b3 k * w ⟨1152 + k.val, by have := k.isLt; omega⟩
        + ∑ k : Fin 768, b4 k * w ⟨1664 + k.val, by have := k.isLt; omega⟩ := by
  rw [Fin.sum_univ_two_halves 1664 768 rfl, Fin.sum_univ_two_halves 1152 512 rfl, Fin.sum_univ_two_halves 768 384 rfl,
    Fin.sum_univ_two_halves 384 384 rfl]
  refine congrArg₂ (· + ·) (congrArg₂ (· + ·) (congrArg₂ (· + ·) (congrArg₂ (· + ·) ?_ ?_) ?_) ?_) ?_
  all_goals
    refine Finset.sum_congr rfl fun k _ => congrArg (· * _) ?_
    have hk := k.isLt
    unfold joined
  · rw [dif_pos (show k.val < 384 by omega)]
  · rw [dif_neg (show ¬ 384 + k.val < 384 by omega), dif_pos (show 384 + k.val - 384 < 384 by omega)]
    exact congrArg b1 (Fin.ext (by show 384 + k.val - 384 = k.val; omega))
  · rw [dif_neg (show ¬ 768 + k.val < 384 by omega), dif_neg (show ¬ 768 + k.val - 384 < 384 by omega), dif_pos (show 768 + k.val - 384 - 384 < 384 by omega)]
    exact congrArg b2 (Fin.ext (by show 768 + k.val - 384 - 384 = k.val; omega))
  · rw [dif_neg (show ¬ 1152 + k.val < 384 by omega), dif_neg (show ¬ 1152 + k.val - 384 < 384 by omega), dif_neg (show ¬ 1152 + k.val - 384 - 384 < 384 by omega),
      dif_pos (show 1152 + k.val - 384 - 384 - 384 < 512 by omega)]
    exact congrArg b3 (Fin.ext (by show 1152 + k.val - 384 - 384 - 384 = k.val; omega))
  · rw [dif_neg (show ¬ 1664 + k.val < 384 by omega), dif_neg (show ¬ 1664 + k.val - 384 < 384 by omega), dif_neg (show ¬ 1664 + k.val - 384 - 384 < 384 by omega),
      dif_neg (show ¬ 1664 + k.val - 384 - 384 - 384 < 512 by omega)]
    exact congrArg b4 (Fin.ext (by show 1664 + k.val - 384 - 384 - 384 - 512 = k.val; omega))

end Cert.Joined

end
-- ==== Proof.InprojW.lean ====
/- The gradient of the input projection's weights. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import proofs.«01_k».proof.Proof.Tiles
public import proofs.«01_k».proof.Proof.Joined

@[expose] public section

set_option maxRecDepth 16384

noncomputable section

open Idealize.ShloMosaic Idealize.ShloMosaic.TcCoe Idealize.SL.Sem
open Idealize.ShloMosaic.Pipeline (Dat)

namespace Cert.Reference7Ideal.Value

open Cert.Reference7Ideal Cert.Reference7Ideal.Gen

/-- The reference's gradient of `h · w` in `w`, the cotangent given in the five parts of the projection. -/
def REF (a0 : FVec Ideal S8192x384 .f32) (a1 : FVec Ideal S8192x384 .f32) (a2 : FVec Ideal S8192x384 .f32) (a3 : FVec Ideal S8192x512 .bf16) (a4 : FVec Ideal S8192x768 .bf16) (a5 : FVec Ideal S8192x1024 .bf16) : FVec Ideal S1024x2432 .bf16 :=
  truncf .bf16 (transpose S1024x2432 [1, 0] (Host.dotGeneral (φ₁ := .f32) (φ₂ := .f32) dot_S8192x2432_S8192x1024_S2432x1024_0_0_1_1_n_n none ((concatenate S8192x2432 1 [⟨S8192x384, (a0 : (⟨S8192x384, .f32⟩ : BufTy).Contents (Elt Ideal))⟩, ⟨S8192x384, (a1 : (⟨S8192x384, .f32⟩ : BufTy).Contents (Elt Ideal))⟩, ⟨S8192x384, (a2 : (⟨S8192x384, .f32⟩ : BufTy).Contents (Elt Ideal))⟩, ⟨S8192x512, ((extf .f32 a3 bitsLt_bf16_f32) : (⟨S8192x512, .f32⟩ : BufTy).Contents (Elt Ideal))⟩, ⟨S8192x768, ((extf .f32 a4 bitsLt_bf16_f32) : (⟨S8192x768, .f32⟩ : BufTy).Contents (Elt Ideal))⟩] concatenates_S8192x384_S8192x384_S8192x384_S8192x512_S8192x768_S8192x2432_d1 : (⟨S8192x2432, .f32⟩ : BufTy).Contents (Elt Ideal))) (extf .f32 a5 bitsLt_bf16_f32)) transposes_S2432x1024_S1024x2432_1_0) bitsLt_bf16_f32

open Cert.Joined (joined)

/-- The reference's gradient, entry by entry. -/
theorem REF_at (a0 : FVec Ideal S8192x384 .f32) (a1 : FVec Ideal S8192x384 .f32) (a2 : FVec Ideal S8192x384 .f32) (a3 : FVec Ideal S8192x512 .bf16) (a4 : FVec Ideal S8192x768 .bf16) (a5 : FVec Ideal S8192x1024 .bf16) (y : S1024x2432.Idx) :
    REF a0 a1 a2 a3 a4 a5 y = ∑ k : Fin 8192, a5 (ix2 k (y 0)) * joined (fun j => a0 (ix2 k j)) (fun j => a1 (ix2 k j))
      (fun j => a2 (ix2 k j)) (fun j => a3 (ix2 k j)) (fun j => a4 (ix2 k j)) (y 1) := by
  pointwise [REF]
  refine Fin.sum_fin_congr fun k => (mul_comm (G := EReal) _ _).trans (congrArg (fun z : EReal => _ * z) rfl)

end Cert.Reference7Ideal.Value

namespace Cert.Kernel7Ideal.Value

open Cert.Kernel7Ideal Cert.Kernel7Ideal.Gen

variable (m : (ℓ : Loc nD τ sig) → Buf (Elt Ideal) ℓ)

open Cert.Reference7Ideal.Value (REF REF_at)
open Cert.Joined (joined)

/-- Where each window's block sits at grid point `t`. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- What one grid point adds to entry `y` of the accumulator. -/
def part (x0 x1 x2 : Vec Ideal S1024x384 .f32) (x3 : Vec Ideal S1024x512 .bf16) (x4 : Vec Ideal S1024x768 .bf16)
    (x5 : Vec Ideal S1024x1024 .bf16) (y : S1024x2432.Idx) : EReal :=
  ∑ k : Fin 1024, x5 (ix2 k (y 0)) * joined (fun j => x0 (ix2 k j)) (fun j => x1 (ix2 k j))
      (fun j => x2 (ix2 k j)) (fun j => x3 (ix2 k j)) (fun j => x4 (ix2 k j)) (y 1)

/-- The first grid point, which clears the accumulator, leaves its own part there. -/
theorem acc_first (c : Dev nD) (t : Fin cfg0.N) (h0 : t.val % 8 = 0) (y : S1024x2432.Idx) :
    (outsAt0 m c t.val t.isLt).2 y
      = (0 : EReal) + part (iblk m c 0 t) (iblk m c 1 t) (iblk m c 2 t) (iblk m c 3 t) (iblk m c 4 t) (iblk m c 5 t) y := by
  rw [outsAt0_A m c t h0 (by omega)]
  frame_out
  refine (Tiles.canon_newer [_] y [_, _, _, _, _] ?_).trans ?_
  · exact View.cover_of_tiledBy (s := S1024x2432) _ ![1024, 128] (by sl_kernel_rfl) y
  canon_tiles x h using (View.cover_of_tiledBy (s := S1024x2432) _ ![1024, 128] (by sl_kernel_rfl) y)
  all_goals
    simp (discharger := decide) only [↓View.readCov_skip, ↓View.readCov_fill]
    open_payloads; pointwise [part, joined, k0_pay4, h1]
    blk_point [part]
  all_goals (exfalso; omega)

/-- Every later point adds its part. -/
theorem acc_next (c : Dev nD) (t : Fin cfg0.N) (h0 : ¬ t.val % 8 = 0) (y : S1024x2432.Idx) :
    (outsAt0 m c t.val t.isLt).2 y = ((outsAt0 m c (t.val - 1) (Nat.lt_of_le_of_lt (Nat.sub_le _ _) t.isLt)).2 y : EReal)
      + part (iblk m c 0 t) (iblk m c 1 t) (iblk m c 2 t) (iblk m c 3 t) (iblk m c 4 t) (iblk m c 5 t) y := by
  by_cases h1 : t.val % 8 = 7
  · rw [outsAt0_C m c t h0 h1]
    frame_out
    simp only [read_unread_whole]
    clear h0 h1
    canon_tiles x h using (View.cover_of_tiledBy (s := S1024x2432) _ ![1024, 128] (by sl_kernel_rfl) y)
    all_goals open_payloads; pointwise [part, joined, h1]; blk_point [part]
    all_goals (exfalso; omega)
  · rw [outsAt0_B m c t h0 h1]
    frame_out
    simp only [read_unread_whole]
    clear h0 h1
    canon_tiles x h using (View.cover_of_tiledBy (s := S1024x2432) _ ![1024, 128] (by sl_kernel_rfl) y)
    all_goals open_payloads; pointwise [part, joined, h1]; blk_point [part]
    all_goals (exfalso; omega)

/-- The last point writes the accumulator out. -/
theorem out_last (c : Dev nD) (t : Fin cfg0.N) (h1 : t.val % 8 = 7) (y : S1024x2432.Idx) :
    (outsAt0 m c t.val t.isLt).1 y = ((outsAt0 m c t.val t.isLt).2 y : EReal) := by
  rw [outsAt0_C m c t (by omega) h1]
  frame_out
  unfold k0_pay3
  rw [View.readCov_eq_canon_ld, View.ld_unit_lit _ _ (by decide)]
  · generalize View.canon (Val := Elt Ideal) _ = Z
    rfl
  · exact View.cover_of_tiledBy (s := S1024x2432) _ ![1024, 128] (by sl_kernel_rfl)

/-- The array after the run is the reference's gradient. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 6 t0_7 (by decide +kernel) _ fun y => ?_
  blk_simp
  rw [after0_6, out_last m c t0_7 rfl, Pipeline.eq_sum_fin_of_reset_step_apply_last (fun n h => (outsAt0 m c n h).2) 8 (fun _ => (0 : EReal)) _
    (fun t h j => by rw [acc_first m c t h])
    (fun t h j => by rw [acc_next m c t h])
    (le_of_eq N_0) t0_7 rfl y, zero_add, REF_at]
  unfold part
  refine Fin.sum_mul_add_congr (S := 8) fun t k hl => ?_
  blk_point [iblk, V, idx_val t]

end Cert.Kernel7Ideal.Value

end
-- ==== Proof.ClaimInprojW.lean ====
/- The frames of the two programs for the gradient of the input projection's weights, and their equality over the extended reals. -/
module

public import proofs.«01_k».proof.Defs
public import proofs.«01_k».proof.Proof.InprojW
public import proofs.«01_k».proof.Proof.Gen.Kernel7.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The kernel's results are the reference's. -/
theorem algebraic7 : Cert.algebraic_Kernel7Ideal_Reference7Ideal := by
  pair_intro
  · run_from Cert.Kernel7Ideal.Value.run_blocks m g
  · refine (θ_run Cert.Reference7Ideal.defs _ _).mono (fun r h c => ?_) (Cert.Reference7Ideal.Value.run m' g')
    obtain ⟨e0, e1, e2, e3, e4, e5⟩ := hagree c
    refine ⟨(h c).1.trans ?_, (h c).2⟩
    · rw [e0, e1, e2, e3, e4, e5]
      exact (Cert.Kernel7Ideal.Value.final m c).symm

end Cert.Proof

end
-- ==== Proof.InprojAct.lean ====
/- The gradient through the input projection and the first norm.

   The cotangent of the normed activation is the product of the five joined cotangents with the projection's weights;
   the kernel adds five products. The norm's gradient then follows row by row. -/
module

public import proofs.«01_k».proof.Proof.Gen.Kernel8Ideal.Value
public import proofs.«01_k».proof.Proof.Gen.Reference8Ideal.Run
public import Idealize.ShloMosaic.Lib.Pipeline.ValueKit
public import proofs.«01_k».proof.Proof.RmsNorm
public import proofs.«01_k».proof.Proof.Joined

@[expose] public section

set_option maxRecDepth 16384

noncomputable section

open Idealize.ShloMosaic Idealize.ShloMosaic.TcCoe Idealize.SL.Sem
open Idealize.ShloMosaic.Pipeline (Dat)

namespace Cert.Reference8Ideal.Value

open Cert.Reference8Ideal Cert.Reference8Ideal.Gen
open Cert.Joined (joined)

/-- The reference's gradient for the activation. -/
def REFx (a0 a1 a2 : FVec Ideal S8192x384 .f32) (a3 : FVec Ideal S8192x512 .bf16) (a4 : FVec Ideal S8192x768 .bf16) (a5 : FVec Ideal S1024x2432 .bf16) (a6 : FVec Ideal S8192x1024 .f32) (a7 : FVec Ideal S1x1024 .f32) (a8 : FVec Ideal S8192x1024 .f32) : FVec Ideal S8192x1024 .f32 :=
    addf (addf (addf a8 (mulf (mulf (Host.dotGeneral (φ₁ := .f32) (φ₂ := .f32) dot_S8192x2432_S1024x2432_S8192x1024_1_1_0_0_n_n none ((concatenate S8192x2432 1 [⟨S8192x384, (a0 : (⟨S8192x384, .f32⟩ : BufTy).Contents (Elt Ideal))⟩, ⟨S8192x384, (a1 : (⟨S8192x384, .f32⟩ : BufTy).Contents (Elt Ideal))⟩, ⟨S8192x384, (a2 : (⟨S8192x384, .f32⟩ : BufTy).Contents (Elt Ideal))⟩, ⟨S8192x512, ((extf .f32 a3 bitsLt_bf16_f32) : (⟨S8192x512, .f32⟩ : BufTy).Contents (Elt Ideal))⟩, ⟨S8192x768, ((extf .f32 a4 bitsLt_bf16_f32) : (⟨S8192x768, .f32⟩ : BufTy).Contents (Elt Ideal))⟩] concatenates_S8192x384_S8192x384_S8192x384_S8192x512_S8192x768_S8192x2432_d1 : (⟨S8192x2432, .f32⟩ : BufTy).Contents (Elt Ideal))) (extf .f32 a5 bitsLt_bf16_f32)) (broadcastInDim S8192x1024 ![0, 1] bcast_S1x1024_S8192x1024_0_1 a7)) (broadcastInDim S8192x1024 ![0, 1] bcast_S8192x1_S8192x1024_0_1 (Host.rsqrt (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a6 (broadcastInDim S8192x1024 ![0] bcast_S8192_S8192x1024_0 (Host.reduceAdd (Host.divf (mulf (shapeCast S8192x1 (Host.reduceAdd (mulf a6 (mulf (Host.dotGeneral (φ₁ := .f32) (φ₂ := .f32) dot_S8192x2432_S1024x2432_S8192x1024_1_1_0_0_n_n none ((concatenate S8192x2432 1 [⟨S8192x384, (a0 : (⟨S8192x384, .f32⟩ : BufTy).Contents (Elt Ideal))⟩, ⟨S8192x384, (a1 : (⟨S8192x384, .f32⟩ : BufTy).Contents (Elt Ideal))⟩, ⟨S8192x384, (a2 : (⟨S8192x384, .f32⟩ : BufTy).Contents (Elt Ideal))⟩, ⟨S8192x512, ((extf .f32 a3 bitsLt_bf16_f32) : (⟨S8192x512, .f32⟩ : BufTy).Contents (Elt Ideal))⟩, ⟨S8192x768, ((extf .f32 a4 bitsLt_bf16_f32) : (⟨S8192x768, .f32⟩ : BufTy).Contents (Elt Ideal))⟩] concatenates_S8192x384_S8192x384_S8192x384_S8192x512_S8192x768_S8192x2432_d1 : (⟨S8192x2432, .f32⟩ : BufTy).Contents (Elt Ideal))) (extf .f32 a5 bitsLt_bf16_f32)) (broadcastInDim S8192x1024 ![0, 1] bcast_S1x1024_S8192x1024_0_1 a7))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast S8192x1 (Host.reduceAdd (mulf a6 (mulf (Host.dotGeneral (φ₁ := .f32) (φ₂ := .f32) dot_S8192x2432_S1024x2432_S8192x1024_1_1_0_0_n_n none ((concatenate S8192x2432 1 [⟨S8192x384, (a0 : (⟨S8192x384, .f32⟩ : BufTy).Contents (Elt Ideal))⟩, ⟨S8192x384, (a1 : (⟨S8192x384, .f32⟩ : BufTy).Contents (Elt Ideal))⟩, ⟨S8192x384, (a2 : (⟨S8192x384, .f32⟩ : BufTy).Contents (Elt Ideal))⟩, ⟨S8192x512, ((extf .f32 a3 bitsLt_bf16_f32) : (⟨S8192x512, .f32⟩ : BufTy).Contents (Elt Ideal))⟩, ⟨S8192x768, ((extf .f32 a4 bitsLt_bf16_f32) : (⟨S8192x768, .f32⟩ : BufTy).Contents (Elt Ideal))⟩] concatenates_S8192x384_S8192x384_S8192x384_S8192x512_S8192x768_S8192x2432_d1 : (⟨S8192x2432, .f32⟩ : BufTy).Contents (Elt Ideal))) (extf .f32 a5 bitsLt_bf16_f32)) (broadcastInDim S8192x1024 ![0, 1] bcast_S1x1024_S8192x1024_0_1 a7))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a6)

/-- The reference's gradient for the gain. -/
def REFg (a0 a1 a2 : FVec Ideal S8192x384 .f32) (a3 : FVec Ideal S8192x512 .bf16) (a4 : FVec Ideal S8192x768 .bf16) (a5 : FVec Ideal S1024x2432 .bf16) (a6 : FVec Ideal S8192x1024 .f32) : FVec Ideal S1x1024 .f32 :=
  shapeCast S1x1024 (Host.reduceAdd (mulf (mulf a6 (broadcastInDim S8192x1024 ![0, 1] bcast_S8192x1_S8192x1024_0_1 (Host.rsqrt (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral (φ₁ := .f32) (φ₂ := .f32) dot_S8192x2432_S1024x2432_S8192x1024_1_1_0_0_n_n none ((concatenate S8192x2432 1 [⟨S8192x384, (a0 : (⟨S8192x384, .f32⟩ : BufTy).Contents (Elt Ideal))⟩, ⟨S8192x384, (a1 : (⟨S8192x384, .f32⟩ : BufTy).Contents (Elt Ideal))⟩, ⟨S8192x384, (a2 : (⟨S8192x384, .f32⟩ : BufTy).Contents (Elt Ideal))⟩, ⟨S8192x512, ((extf .f32 a3 bitsLt_bf16_f32) : (⟨S8192x512, .f32⟩ : BufTy).Contents (Elt Ideal))⟩, ⟨S8192x768, ((extf .f32 a4 bitsLt_bf16_f32) : (⟨S8192x768, .f32⟩ : BufTy).Contents (Elt Ideal))⟩] concatenates_S8192x384_S8192x384_S8192x384_S8192x512_S8192x768_S8192x2432_d1 : (⟨S8192x2432, .f32⟩ : BufTy).Contents (Elt Ideal))) (extf .f32 a5 bitsLt_bf16_f32))) (constant S_ .f32 0x00000000#32) reducesTo_S8192x1024_S1024_d0 h_S_) shapeCasts_S1024_S1x1024

/-- The cotangent of the normed activation. -/
def dot (a0 a1 a2 : FVec Ideal S8192x384 .f32) (a3 : FVec Ideal S8192x512 .bf16) (a4 : FVec Ideal S8192x768 .bf16) (a5 : FVec Ideal S1024x2432 .bf16) (r : Fin 8192) (j : Fin 1024) : EReal :=
  ∑ f : Fin 2432, joined (fun k => a0 (ix2 r k)) (fun k => a1 (ix2 r k)) (fun k => a2 (ix2 r k)) (fun k => a3 (ix2 r k)) (fun k => a4 (ix2 r k)) f * a5 (ix2 j f)

/-- What one row adds to entry `j` of the gain's gradient. -/
def gainRow (a0 a1 a2 : FVec Ideal S8192x384 .f32) (a3 : FVec Ideal S8192x512 .bf16) (a4 : FVec Ideal S8192x768 .bf16) (a5 : FVec Ideal S1024x2432 .bf16) (a6 : FVec Ideal S8192x1024 .f32) (r : Fin 8192) (j : Fin 1024) : EReal :=
  dot a0 a1 a2 a3 a4 a5 r j * (a6 (ix2 r j) * RmsNorm.rstd fun k => a6 (ix2 r k))

/-- The five cotangents side by side. -/
def cat (a0 a1 a2 : FVec Ideal S8192x384 .f32) (a3 : FVec Ideal S8192x512 .bf16) (a4 : FVec Ideal S8192x768 .bf16) : FVec Ideal S8192x2432 .f32 :=
  concatenate S8192x2432 1 [⟨S8192x384, (a0 : (⟨S8192x384, .f32⟩ : BufTy).Contents (Elt Ideal))⟩, ⟨S8192x384, (a1 : (⟨S8192x384, .f32⟩ : BufTy).Contents (Elt Ideal))⟩, ⟨S8192x384, (a2 : (⟨S8192x384, .f32⟩ : BufTy).Contents (Elt Ideal))⟩, ⟨S8192x512, ((extf .f32 a3 bitsLt_bf16_f32) : (⟨S8192x512, .f32⟩ : BufTy).Contents (Elt Ideal))⟩, ⟨S8192x768, ((extf .f32 a4 bitsLt_bf16_f32) : (⟨S8192x768, .f32⟩ : BufTy).Contents (Elt Ideal))⟩] concatenates_S8192x384_S8192x384_S8192x384_S8192x512_S8192x768_S8192x2432_d1

/-- The product with the weights. -/
def prod (a0 a1 a2 : FVec Ideal S8192x384 .f32) (a3 : FVec Ideal S8192x512 .bf16) (a4 : FVec Ideal S8192x768 .bf16) (a5 : FVec Ideal S1024x2432 .bf16) : FVec Ideal S8192x1024 .f32 :=
  Host.dotGeneral (φ₁ := .f32) (φ₂ := .f32) dot_S8192x2432_S1024x2432_S8192x1024_1_1_0_0_n_n none (cat a0 a1 a2 a3 a4) (extf .f32 a5 bitsLt_bf16_f32)

/-- An entry of the reference's product is the dot product of a joined row with a row of the weights. -/
theorem prod_at (a0 a1 a2 : FVec Ideal S8192x384 .f32) (a3 : FVec Ideal S8192x512 .bf16) (a4 : FVec Ideal S8192x768 .bf16) (a5 : FVec Ideal S1024x2432 .bf16) (r : Fin 8192) (j : Fin 1024) : prod a0 a1 a2 a3 a4 a5 (ix2 r j) = dot a0 a1 a2 a3 a4 a5 r j := by
  pointwise [prod, cat]
  rfl

/-- The reference's gradient for the activation, entry by entry. -/
theorem REFx_at (a0 a1 a2 : FVec Ideal S8192x384 .f32) (a3 : FVec Ideal S8192x512 .bf16) (a4 : FVec Ideal S8192x768 .bf16) (a5 : FVec Ideal S1024x2432 .bf16) (a6 : FVec Ideal S8192x1024 .f32) (a7 : FVec Ideal S1x1024 .f32) (a8 : FVec Ideal S8192x1024 .f32) (r : Fin 8192) (j : Fin 1024) :
    REFx a0 a1 a2 a3 a4 a5 a6 a7 a8 (ix2 r j) = RmsNorm.projected (fun k => a6 (ix2 r k)) (dot a0 a1 a2 a3 a4 a5 r) (fun k => a7 (ix2 0 k)) (a8 (ix2 r j)) j := by
  rw [RmsNorm.projected_eq_termwise]
  have h : REFx a0 a1 a2 a3 a4 a5 a6 a7 a8 =
        addf (addf (addf a8 (mulf (mulf (prod a0 a1 a2 a3 a4 a5) (broadcastInDim S8192x1024 ![0, 1] bcast_S1x1024_S8192x1024_0_1 a7)) (broadcastInDim S8192x1024 ![0, 1] bcast_S8192x1_S8192x1024_0_1 (Host.rsqrt (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a6 (broadcastInDim S8192x1024 ![0] bcast_S8192_S8192x1024_0 (Host.reduceAdd (Host.divf (mulf (shapeCast S8192x1 (Host.reduceAdd (mulf a6 (mulf (prod a0 a1 a2 a3 a4 a5) (broadcastInDim S8192x1024 ![0, 1] bcast_S1x1024_S8192x1024_0_1 a7))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast S8192x1 (Host.reduceAdd (mulf a6 (mulf (prod a0 a1 a2 a3 a4 a5) (broadcastInDim S8192x1024 ![0, 1] bcast_S1x1024_S8192x1024_0_1 a7))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a6) := rfl
  rw [h]
  pointwise [prod_at]
  simp only [Fin.sum_univ_one]
  rfl

/-- The reference's gradient for the gain, entry by entry. -/
theorem REFg_at (a0 a1 a2 : FVec Ideal S8192x384 .f32) (a3 : FVec Ideal S8192x512 .bf16) (a4 : FVec Ideal S8192x768 .bf16) (a5 : FVec Ideal S1024x2432 .bf16) (a6 : FVec Ideal S8192x1024 .f32) (y : S1x1024.Idx) :
    REFg a0 a1 a2 a3 a4 a5 a6 y = ∑ r : Fin 8192, gainRow a0 a1 a2 a3 a4 a5 a6 r (y 1) := by
  have h : REFg a0 a1 a2 a3 a4 a5 a6 =
      shapeCast S1x1024 (Host.reduceAdd (mulf (mulf a6 (broadcastInDim S8192x1024 ![0, 1] bcast_S8192x1_S8192x1024_0_1 (Host.rsqrt (addf (Host.divf (broadcastInDim S8192x1 ![0] bcast_S8192_S8192x1_0 (Host.reduceAdd (mulf a6 a6) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (prod a0 a1 a2 a3 a4 a5)) (constant S_ .f32 0x00000000#32) reducesTo_S8192x1024_S1024_d0 h_S_) shapeCasts_S1024_S1x1024 := rfl
  rw [h, eq_ix2 y]
  pointwise [prod_at]
  exact Fin.sum_fin_congr fun r => mul_comm (G := EReal) _ _

/-- The run's term for the activation's gradient is `REFx` of the arguments. -/
theorem res_eq (m : (ℓ : Loc nD τ sig) → Buf (Elt Ideal) ℓ) (c : Dev nD) : res_main_v40 m c = REFx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

end Cert.Reference8Ideal.Value

namespace Cert.Kernel8Ideal.Value

open Cert.Kernel8Ideal Cert.Kernel8Ideal.Gen

variable (m : (ℓ : Loc nD τ sig) → Buf (Elt Ideal) ℓ)

open Cert.Reference8Ideal.Value (REFx REFx_at REFg REFg_at dot gainRow)
open Cert.Joined (joined sum_joined)

/-- Where each window's block sits at grid point `t`. -/
theorem idx_val : ∀ t : Fin cfg0.N, win0_0.index t = ![t.val, 0]
    ∧ win0_1.index t = ![t.val, 0] ∧ win0_2.index t = ![t.val, 0] ∧ win0_3.index t = ![t.val, 0] ∧ win0_4.index t = ![t.val, 0]
    ∧ win0_5.index t = ![0, 0] ∧ win0_6.index t = ![t.val, 0] ∧ win0_7.index t = ![0, 0] ∧ win0_8.index t = ![t.val, 0]
    ∧ win0_9.index t = ![t.val, 0] ∧ win0_10.index t = ![0, 0] :=
  (by decide +kernel : ∀ t : Fin grid0.N, _)

/-- The cotangent of the normed activation over one block of rows. -/
def cot (x0 x1 x2 : Vec Ideal S512x384 .f32) (x3 : Vec Ideal S512x512 .bf16) (x4 : Vec Ideal S512x768 .bf16) (x5 : Vec Ideal S1024x2432 .bf16) (r : Fin 512) (j : Fin 1024) : EReal :=
  ∑ f : Fin 2432, joined (fun k => x0 (ix2 r k)) (fun k => x1 (ix2 r k)) (fun k => x2 (ix2 r k)) (fun k => x3 (ix2 r k)) (fun k => x4 (ix2 r k)) f * x5 (ix2 j f)

/-- The kernel's five products, added. -/
def five (x0 x1 x2 : Vec Ideal S512x384 .f32) (x3 : Vec Ideal S512x512 .bf16) (x4 : Vec Ideal S512x768 .bf16) (x5 : Vec Ideal S1024x2432 .bf16) : FVec Ideal S512x1024 .f32 :=
  k0_pay6 x0 (View.ld x5 (Rect.unit ![0, 0] ![1024, 384] inb_S1024x2432_S1024x384_0_0))
    x1 (View.ld x5 (Rect.unit ![0, 384] ![1024, 384] inb_S1024x2432_S1024x384_0_384))
    x2 (View.ld x5 (Rect.unit ![0, 768] ![1024, 384] inb_S1024x2432_S1024x384_0_768))
    x3 (View.ld x5 (Rect.unit ![0, 1152] ![1024, 512] inb_S1024x2432_S1024x512_0_1152))
    x4 (View.ld x5 (Rect.unit ![0, 1664] ![1024, 768] inb_S1024x2432_S1024x768_0_1664))

/-- The five products add up to the whole contraction. -/
theorem five_at (x0 x1 x2 : Vec Ideal S512x384 .f32) (x3 : Vec Ideal S512x512 .bf16) (x4 : Vec Ideal S512x768 .bf16) (x5 : Vec Ideal S1024x2432 .bf16) (r : Fin 512) (j : Fin 1024) : five x0 x1 x2 x3 x4 x5 (ix2 r j) = cot x0 x1 x2 x3 x4 x5 r j := by
  unfold cot
  rw [sum_joined]
  pointwise [five, k0_pay6]

/-- What the kernel stores for one row of a block, from the block's operands. -/
theorem row_at (x0 x1 x2 : Vec Ideal S512x384 .f32) (x3 : Vec Ideal S512x512 .bf16) (x4 : Vec Ideal S512x768 .bf16) (x5 : Vec Ideal S1024x2432 .bf16) (x6 : Vec Ideal S512x1024 .f32) (x7 : Vec Ideal S1x1024 .f32) (x8 : Vec Ideal S512x1024 .f32) (r : Fin 512) (j : Fin 1024) :
    k0_pay4 (five x0 x1 x2 x3 x4 x5) x7 x6 (k0_pay7 x6) k0_pay8 x8 (ix2 r j)
      = RmsNorm.projected (fun k => x6 (ix2 r k)) (cot x0 x1 x2 x3 x4 x5 r) (fun k => x7 (ix2 0 k)) (x8 (ix2 r j)) j := by
  pointwise [k0_pay4, k0_pay2, k0_pay1, k0_pay7, k0_pay8, five_at]
  rfl

/-- There are sixteen grid points. -/
theorem pt_lt (t : Fin cfg0.N) : t.val < 16 := t.isLt.trans_eq N_0

/-- Each block of `dx` is the gradient of the norm over its rows. -/
theorem out9 (c : Dev nD) (t : Fin cfg0.N) (r : Fin 512) (j : Fin 1024) :
    (outsAt0 m c t.val t.isLt).1 (ix2 r j) = RmsNorm.projected (fun k => iblk m c 6 t (ix2 r k)) (cot (iblk m c 0 t) (iblk m c 1 t) (iblk m c 2 t) (iblk m c 3 t) (iblk m c 4 t) (iblk m c 5 t) r) (fun k => iblk m c 7 t (ix2 0 k)) (iblk m c 8 t (ix2 r j)) j := by
  by_cases h0 : t.val % 16 = 0
  · rw [outsAt0_A m c t h0 (by have := pt_lt t; omega)]
    frame_out
    exact row_at (iblk m c 0 t) (iblk m c 1 t) (iblk m c 2 t) (iblk m c 3 t) (iblk m c 4 t) (iblk m c 5 t) (iblk m c 6 t) (iblk m c 7 t) (iblk m c 8 t) r j
  · rw [outsAt0_B m c t h0 (by omega)]
    frame_out
    exact row_at (iblk m c 0 t) (iblk m c 1 t) (iblk m c 2 t) (iblk m c 3 t) (iblk m c 4 t) (iblk m c 5 t) (iblk m c 6 t) (iblk m c 7 t) (iblk m c 8 t) r j

/-- What one row adds to entry `j` of the gain's gradient. -/
def rowPart (x0 x1 x2 : Vec Ideal S512x384 .f32) (x3 : Vec Ideal S512x512 .bf16) (x4 : Vec Ideal S512x768 .bf16) (x5 : Vec Ideal S1024x2432 .bf16) (x6 : Vec Ideal S512x1024 .f32) (r : Fin 512) (j : Fin 1024) : EReal :=
  cot x0 x1 x2 x3 x4 x5 r j * (x6 (ix2 r j) * RmsNorm.rstd fun k => x6 (ix2 r k))

/-- What one block of rows adds to entry `j` of the gain's gradient. -/
def part (x0 x1 x2 : Vec Ideal S512x384 .f32) (x3 : Vec Ideal S512x512 .bf16) (x4 : Vec Ideal S512x768 .bf16) (x5 : Vec Ideal S1024x2432 .bf16) (x6 : Vec Ideal S512x1024 .f32) (j : Fin 1024) : EReal :=
  ∑ r : Fin 512, rowPart x0 x1 x2 x3 x4 x5 x6 r j

/-- The payload of the gain's gradient is the block's part. -/
theorem pay3_at (x0 x1 x2 : Vec Ideal S512x384 .f32) (x3 : Vec Ideal S512x512 .bf16) (x4 : Vec Ideal S512x768 .bf16) (x5 : Vec Ideal S1024x2432 .bf16) (x6 : Vec Ideal S512x1024 .f32) (j : Fin 1024) :
    k0_pay3 (five x0 x1 x2 x3 x4 x5) x6 (k0_pay7 x6) k0_pay8 (ix2 0 j) = part x0 x1 x2 x3 x4 x5 x6 j := by
  pointwise [k0_pay3, k0_pay2, k0_pay1, k0_pay7, k0_pay8, five_at]
  rfl

/-- The first block of rows stores its part. -/
theorem gain_first (c : Dev nD) (t : Fin cfg0.N) (h0 : t.val % 16 = 0) (y : S1x1024.Idx) :
    (outsAt0 m c t.val t.isLt).2 y = (0 : EReal) + part (iblk m c 0 t) (iblk m c 1 t) (iblk m c 2 t) (iblk m c 3 t) (iblk m c 4 t) (iblk m c 5 t) (iblk m c 6 t) (y 1) := by
  rw [outsAt0_A m c t h0 (by have := pt_lt t; omega), zero_add]
  frame_out
  rw [eq_ix2 y, Fin.fin_one_eq_zero (y 0)]
  exact pay3_at _ _ _ _ _ _ _ _

/-- Every later block of rows adds its part. -/
theorem gain_next (c : Dev nD) (t : Fin cfg0.N) (h0 : ¬ t.val % 16 = 0) (y : S1x1024.Idx) :
    (outsAt0 m c t.val t.isLt).2 y = ((outsAt0 m c (t.val - 1) (Nat.lt_of_le_of_lt (Nat.sub_le _ _) t.isLt)).2 y : EReal) + part (iblk m c 0 t) (iblk m c 1 t) (iblk m c 2 t) (iblk m c 3 t) (iblk m c 4 t) (iblk m c 5 t) (iblk m c 6 t) (y 1) := by
  rw [outsAt0_B m c t h0 (by omega)]
  frame_out
  rw [eq_ix2 y, Fin.fin_one_eq_zero (y 0)]
  refine Eq.trans ?_ (congrArg (_ + ·) (pay3_at _ _ _ _ _ _ _ _))
  pointwise [k0_pay5]
  rfl

/-- Row `r` of the block at grid point `t`, in the whole array. -/
def row (t : Fin cfg0.N) (r : Fin 512) : Fin 8192 := ⟨t.val * 512 + r.val, by have := pt_lt t; have := r.isLt; omega⟩

/-! Each operand's block, in its array. -/

/-- The query gradient's block at tile `t` is its rows from `512 t` on. -/
theorem blk0 (c : Dev nD) (t : Fin cfg0.N) (r : Fin 512) (j : Fin 384) :
    iblk m c 0 t (ix2 r j) = m ((c : Thread nD τ).loc main_arg0) (ix2 (row t r) j) := by
  unfold row; blk_point [iblk, V, idx_val t]
/-- The key gradient's block. -/
theorem blk1 (c : Dev nD) (t : Fin cfg0.N) (r : Fin 512) (j : Fin 384) :
    iblk m c 1 t (ix2 r j) = m ((c : Thread nD τ).loc main_arg1) (ix2 (row t r) j) := by
  unfold row; blk_point [iblk, V, idx_val t]
/-- The value gradient's block. -/
theorem blk2 (c : Dev nD) (t : Fin cfg0.N) (r : Fin 512) (j : Fin 384) :
    iblk m c 2 t (ix2 r j) = m ((c : Thread nD τ).loc main_arg2) (ix2 (row t r) j) := by
  unfold row; blk_point [iblk, V, idx_val t]
/-- The block of the convolution branch's gradient. -/
theorem blk3 (c : Dev nD) (t : Fin cfg0.N) (r : Fin 512) (j : Fin 512) :
    iblk m c 3 t (ix2 r j) = m ((c : Thread nD τ).loc main_arg3) (ix2 (row t r) j) := by
  unfold row; blk_point [iblk, V, idx_val t]
/-- The block of the recurrence branch's gradient. -/
theorem blk4 (c : Dev nD) (t : Fin cfg0.N) (r : Fin 512) (j : Fin 768) :
    iblk m c 4 t (ix2 r j) = m ((c : Thread nD τ).loc main_arg4) (ix2 (row t r) j) := by
  unfold row; blk_point [iblk, V, idx_val t]
/-- The weights' block is the whole array. -/
theorem blk5 (c : Dev nD) (t : Fin cfg0.N) (r : Fin 1024) (j : Fin 2432) :
    iblk m c 5 t (ix2 r j) = m ((c : Thread nD τ).loc main_arg5) (ix2 r j) := by
  blk_point [iblk, V, idx_val t]
/-- The block of the layer's input. -/
theorem blk6 (c : Dev nD) (t : Fin cfg0.N) (r : Fin 512) (j : Fin 1024) :
    iblk m c 6 t (ix2 r j) = m ((c : Thread nD τ).loc main_arg6) (ix2 (row t r) j) := by
  unfold row; blk_point [iblk, V, idx_val t]
/-- The norm's gain is one row, the same at every tile. -/
theorem blk7 (c : Dev nD) (t : Fin cfg0.N) (r : Fin 1) (j : Fin 1024) :
    iblk m c 7 t (ix2 r j) = m ((c : Thread nD τ).loc main_arg7) (ix2 r j) := by
  blk_point [iblk, V, idx_val t]
/-- The block of the gradient carried past the norm. -/
theorem blk8 (c : Dev nD) (t : Fin cfg0.N) (r : Fin 512) (j : Fin 1024) :
    iblk m c 8 t (ix2 r j) = m ((c : Thread nD τ).loc main_arg8) (ix2 (row t r) j) := by
  unfold row; blk_point [iblk, V, idx_val t]

/-- The cotangent over a block's row is the one over the array's. -/
theorem cot_blk (c : Dev nD) (t : Fin cfg0.N) (r : Fin 512) :
    cot (iblk m c 0 t) (iblk m c 1 t) (iblk m c 2 t) (iblk m c 3 t) (iblk m c 4 t) (iblk m c 5 t) r = dot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) := by
  funext j
  unfold cot dot
  simp only [blk0, blk1, blk2, blk3, blk4, blk5]

/-- The gradient over one row of a block, in the arrays. -/
theorem projected_blk (c : Dev nD) (t : Fin cfg0.N) (r : Fin 512) (j : Fin 1024) :
    RmsNorm.projected (fun k => iblk m c 6 t (ix2 r k)) (cot (iblk m c 0 t) (iblk m c 1 t) (iblk m c 2 t) (iblk m c 3 t) (iblk m c 4 t) (iblk m c 5 t) r) (fun k => iblk m c 7 t (ix2 0 k)) (iblk m c 8 t (ix2 r j)) j
      = RmsNorm.projected (fun k => m ((c : Thread nD τ).loc main_arg6) (ix2 (row t r) k)) (dot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r))
          (fun k => m ((c : Thread nD τ).loc main_arg7) (ix2 0 k)) (m ((c : Thread nD τ).loc main_arg8) (ix2 (row t r) j)) j := by
  rw [cot_blk, blk8]
  simp only [blk6, blk7]

/-- What one row of a block adds to the gain's gradient, in the arrays. -/
theorem part_blk (c : Dev nD) (t : Fin cfg0.N) (r : Fin 512) (j : Fin 1024) :
    rowPart (iblk m c 0 t) (iblk m c 1 t) (iblk m c 2 t) (iblk m c 3 t) (iblk m c 4 t) (iblk m c 5 t) (iblk m c 6 t) r j = gainRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) j := by
  unfold rowPart gainRow
  rw [cot_blk]
  simp only [blk6]

/-- The gradient the kernel leaves for the activation is the reference's. -/
theorem final9 (c : Dev nD) : (dats m 0 c).arrAt 9 (cfgs 0).N = REFx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp; rw [after0_9]
  have he : ((win0_9.blk t).view.emb y : S8192x1024.Idx) = ix2 (row t (y 0)) (y 1) := by
    unfold row; blk_ext [idx_val t]
  refine Eq.trans ?_ ((congrArg _ he).trans (REFx_at _ _ _ _ _ _ _ _ _ _ _)).symm
  refine (congrArg _ (eq_ix2 y)).trans ((out9 m c t (y 0) (y 1)).trans ?_)
  exact projected_blk m c t (y 0) (y 1)

/-- The gradient the kernel leaves for the gain is the reference's. -/
theorem final10 (c : Dev nD) : (dats m 0 c).arrAt 10 (cfgs 0).N = REFg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 10 t0_15 (by decide +kernel) _ fun y => ?_
  blk_simp
  rw [after0_10, Pipeline.eq_sum_fin_of_reset_step_apply_last (fun n h => (outsAt0 m c n h).2) 16 (fun _ => (0 : EReal)) _
    (fun t h j => by rw [gain_first m c t h])
    (fun t h j => by rw [gain_next m c t h])
    (le_of_eq N_0) t0_15 rfl y, zero_add, REFg_at]
  unfold part
  refine Fin.sum_mul_add_congr (S := 16) fun t k hl => ?_
  exact part_blk m c t k (y 1)

end Cert.Kernel8Ideal.Value

end
-- ==== Proof.ClaimInprojAct.lean ====
/- The frames of the two programs for the gradients through the input projection and the first norm, and their equality over the extended reals. -/
module

public import proofs.«01_k».proof.Defs
public import proofs.«01_k».proof.Proof.InprojAct
public import proofs.«01_k».proof.Proof.Gen.Kernel8.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference8 : Cert.quiescent_Reference8Ideal := fun m g _ =>
  (θ_run Cert.Reference8Ideal.defs _ _).mono (fun r h => ⟨fun c => (h c).2.2, sem_eq_zero_of_no_sems (by decide) r.2⟩)
    (Cert.Reference8Ideal.Value.run m g)

/-- The kernel's results are the reference's. -/
theorem algebraic8 : Cert.algebraic_Kernel8Ideal_Reference8Ideal := by
  pair_intro
  · run_from Cert.Kernel8Ideal.Value.run_blocks m g
  · refine (θ_run Cert.Reference8Ideal.defs _ _).mono (fun r h c => ?_) (Cert.Reference8Ideal.Value.run m' g')
    obtain ⟨e0, e1, e2, e3, e4, e5, e6, e7, e8⟩ := hagree c
    refine ⟨(h c).1.trans ?_, (h c).2.1.trans ?_, (h c).2.2⟩
    · refine (Cert.Reference8Ideal.Value.res_eq m' c).trans ?_
      rw [e0, e1, e2, e3, e4, e5, e6, e7, e8]
      exact (Cert.Kernel8Ideal.Value.final9 m c).symm
    · refine Eq.trans (b := Cert.Reference8Ideal.Value.REFg (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6))) rfl ?_
      rw [e0, e1, e2, e3, e4, e5, e6]
      exact (Cert.Kernel8Ideal.Value.final10 m c).symm

end Cert.Proof

end
-- ==== Proof.Normed.lean ====
/- Root-mean-square normalisation of one row of 1024 entries. -/
module

public import proofs.«01_k».proof.Proof.RmsNorm

@[expose] public section

noncomputable section

open Idealize.ShloMosaic

namespace Cert.RmsNorm

/-- Entry `j` of the normalised row `x` with gain `g`. -/
def normed (x g : Fin 1024 → EReal) (j : Fin 1024) : EReal := x j * rstd x * g j

end Cert.RmsNorm

end
-- ==== Proof.Inproj.lean ====
/- What the input projection of the forward pass computes: the normalised rows, and their product with the weights,
   its 2432 columns handed out in three pieces. -/
module

public import proofs.«01_k».proof.Proof.Gen.Kernel9Ideal.Value
public import proofs.«01_k».proof.Proof.Gen.Reference9Ideal.Run
public import Idealize.ShloMosaic.Lib.Pipeline.ValueKit
public import proofs.«01_k».proof.Proof.Normed

@[expose] public section

set_option maxRecDepth 16384

noncomputable section

open Idealize.ShloMosaic Idealize.ShloMosaic.TcCoe Idealize.SL.Sem
open Idealize.ShloMosaic.Pipeline (Dat)

namespace Cert.Reference9Ideal.Value

open Cert.Reference9Ideal Cert.Reference9Ideal.Gen

/-- The reference's normalised rows. -/
def REFh (a0 : FVec Ideal S8192x1024 .f32) (a1 : FVec Ideal S1x1024 .f32) : FVec Ideal S8192x1024 .bf16 :=
  truncf .bf16 (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a1)) bitsLt_bf16_f32

/-- The normalised rows, entry by entry. -/
theorem REFh_at (a0 : FVec Ideal S8192x1024 .f32) (a1 : FVec Ideal S1x1024 .f32) (r : Fin 8192) (j : Fin 1024) :
    REFh a0 a1 (ix2 r j) = RmsNorm.normed (fun k => a0 (ix2 r k)) (fun k => a1 (ix2 0 k)) j := by
  pointwise [REFh]
  rfl

/-- The reference's columns of the queries, keys and values. -/
def REFq (a0 : FVec Ideal S8192x1024 .f32) (a1 : FVec Ideal S1x1024 .f32) (a2 : FVec Ideal S1024x2432 .bf16) : FVec Ideal S8192x1152 .f32 :=
  extractStridedSlice S8192x1152 ![0, 0] (Host.dotGeneral dot_S8192x1024_S1024x2432_S8192x2432_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a1)) (extf .f32 a2 bitsLt_bf16_f32)) slices_S8192x2432_S8192x1152_0_0

/-- The columns of the queries, keys and values, entry by entry. -/
theorem REFq_at (a0 : FVec Ideal S8192x1024 .f32) (a1 : FVec Ideal S1x1024 .f32) (a2 : FVec Ideal S1024x2432 .bf16) (r : Fin 8192) (j : Fin 1152) :
    REFq a0 a1 a2 (ix2 r j) = ∑ k : Fin 1024, RmsNorm.normed (fun k => a0 (ix2 r k)) (fun k => a1 (ix2 0 k)) k * a2 (ix2 k ⟨0 + j.val, by omega⟩) := by
  pointwise [REFq]
  rfl

/-- The reference's columns of the convolution's input and gate. -/
def REFc (a0 : FVec Ideal S8192x1024 .f32) (a1 : FVec Ideal S1x1024 .f32) (a2 : FVec Ideal S1024x2432 .bf16) : FVec Ideal S8192x512 .f32 :=
  extractStridedSlice S8192x512 ![0, 1152] (Host.dotGeneral dot_S8192x1024_S1024x2432_S8192x2432_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a1)) (extf .f32 a2 bitsLt_bf16_f32)) slices_S8192x2432_S8192x512_0_1152

/-- The columns of the convolution's input and gate, entry by entry. -/
theorem REFc_at (a0 : FVec Ideal S8192x1024 .f32) (a1 : FVec Ideal S1x1024 .f32) (a2 : FVec Ideal S1024x2432 .bf16) (r : Fin 8192) (j : Fin 512) :
    REFc a0 a1 a2 (ix2 r j) = ∑ k : Fin 1024, RmsNorm.normed (fun k => a0 (ix2 r k)) (fun k => a1 (ix2 0 k)) k * a2 (ix2 k ⟨1152 + j.val, by omega⟩) := by
  pointwise [REFc]
  rfl

/-- The reference's columns of the recurrence's input and gates. -/
def REFl (a0 : FVec Ideal S8192x1024 .f32) (a1 : FVec Ideal S1x1024 .f32) (a2 : FVec Ideal S1024x2432 .bf16) : FVec Ideal S8192x768 .f32 :=
  extractStridedSlice S8192x768 ![0, 1664] (Host.dotGeneral dot_S8192x1024_S1024x2432_S8192x2432_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a1)) (extf .f32 a2 bitsLt_bf16_f32)) slices_S8192x2432_S8192x768_0_1664

/-- The columns of the recurrence's input and gates, entry by entry. -/
theorem REFl_at (a0 : FVec Ideal S8192x1024 .f32) (a1 : FVec Ideal S1x1024 .f32) (a2 : FVec Ideal S1024x2432 .bf16) (r : Fin 8192) (j : Fin 768) :
    REFl a0 a1 a2 (ix2 r j) = ∑ k : Fin 1024, RmsNorm.normed (fun k => a0 (ix2 r k)) (fun k => a1 (ix2 0 k)) k * a2 (ix2 k ⟨1664 + j.val, by omega⟩) := by
  pointwise [REFl]
  rfl

end Cert.Reference9Ideal.Value

namespace Cert.Kernel9Ideal.Value

open Cert.Kernel9Ideal Cert.Kernel9Ideal.Gen

variable (m : (ℓ : Loc nD τ sig) → Buf (Elt Ideal) ℓ)

open Cert.Reference9Ideal.Value (REFh REFh_at REFq REFq_at REFc REFc_at REFl REFl_at)

/-- Where each window's block sits at grid point `t`. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- Row `r` of the block at grid point `t`, in the whole array. -/
def row (t : Fin cfg0.N) (r : Fin 512) : Fin 8192 := ⟨t.val * 512 + r.val, by have := t.isLt.trans_eq N_0; have := r.isLt; omega⟩

/-- The normalised row of a block, in the arrays. -/
theorem normed_blk (c : Dev nD) (t : Fin cfg0.N) {r r' : Fin 512} (h : r'.val = r.val) (k : Fin 1024) :
    RmsNorm.normed (fun k => View.ld (iblk m c 0 t) r0_0 (ix2 r k)) (fun k => View.ld (iblk m c 1 t) r0_1 (ix2 0 k)) k
      = RmsNorm.normed (fun k => m ((c : Thread nD τ).loc main_arg0) (ix2 (row t r') k)) (fun k => m ((c : Thread nD τ).loc main_arg1) (ix2 0 k)) k := by
  obtain rfl : r' = r := Fin.ext h
  refine congrArg₂ (fun x g => RmsNorm.normed x g k) (funext fun k => ?_) (funext fun k => ?_)
  · unfold row; blk_point [iblk, V, idx_val t]
  · blk_point [iblk, V, idx_val t]

/-- The payload of the normalised rows. -/
theorem pay1_at (x : Vec Ideal S512x1024 .f32) (g : Vec Ideal S1x1024 .f32) (r : Fin 512) (j : Fin 1024) :
    k0_pay1 x g (ix2 r j) = RmsNorm.normed (fun k => x (ix2 r k)) (fun k => g (ix2 0 k)) j := by
  pointwise [k0_pay1]
  rfl

/-- The payload of one product. -/
theorem payq_at (x : Vec Ideal S512x1024 .f32) (g : Vec Ideal S1x1024 .f32) (w : Vec Ideal S1024x1152 .bf16) (r : Fin 512) (j : Fin 1152) :
    k0_pay2 x g w (ix2 r j) = ∑ k : Fin 1024, RmsNorm.normed (fun k => x (ix2 r k)) (fun k => g (ix2 0 k)) k * w (ix2 k j) := by
  pointwise [k0_pay2, pay1_at]

/-- The payload of one product. -/
theorem payc_at (x : Vec Ideal S512x1024 .f32) (g : Vec Ideal S1x1024 .f32) (w : Vec Ideal S1024x512 .bf16) (r : Fin 512) (j : Fin 512) :
    k0_pay3 x g w (ix2 r j) = ∑ k : Fin 1024, RmsNorm.normed (fun k => x (ix2 r k)) (fun k => g (ix2 0 k)) k * w (ix2 k j) := by
  pointwise [k0_pay3, pay1_at]

/-- The payload of one product. -/
theorem payl_at (x : Vec Ideal S512x1024 .f32) (g : Vec Ideal S1x1024 .f32) (w : Vec Ideal S1024x768 .bf16) (r : Fin 512) (j : Fin 768) :
    k0_pay4 x g w (ix2 r j) = ∑ k : Fin 1024, RmsNorm.normed (fun k => x (ix2 r k)) (fun k => g (ix2 0 k)) k * w (ix2 k j) := by
  pointwise [k0_pay4, pay1_at]

set_option maxHeartbeats 1600000 in
/-- The normalised rows a grid point stores are the reference's, where they land. -/
theorem point3 (c : Dev nD) (t : Fin cfg0.N) (y) :
    out0_3 (iblk m c 0 t) (iblk m c 1 t) (iblk m c 2 t) y
      = REFh (m ((c : Thread nD τ).loc main_arg0)) (m ((c : Thread nD τ).loc main_arg1)) (((cfg0.win 3).blk t).view.emb y) := by
  have he : ((win0_3.blk t).view.emb y : S8192x1024.Idx) = ix2 (row t (y 0)) (y 1) := by
    unfold row; blk_ext [idx_val t]
  refine Eq.trans ?_ ((congrArg _ he).trans (REFh_at _ _ _ _)).symm
  canon_tiles x h
  all_goals
    rw [eq_ix2 x]
    refine (pay1_at _ _ _ _).trans ?_
    refine (normed_blk m c t h0 (x 1)).trans (congrArg _ (Fin.ext ?_))
    first | exact h1.symm | omega

/-- The array of normalised rows is the reference's. -/
theorem final3 (c : Dev nD) : (dats m 0 c).arrAt 3 (cfgs 0).N = REFh (m ((c : Thread nD τ).loc main_arg0)) (m ((c : Thread nD τ).loc main_arg1)) := by
  refine (dats m 0 c).arrAt_eq_of_covers 3 _ (by decide +kernel) fun t hf y => ?_
  blk_simp; rw [after0_3]
  exact point3 m c t y

set_option maxHeartbeats 1600000 in
/-- The columns of the queries, keys and values that a grid point stores are the reference's, where they land. -/
theorem point4 (c : Dev nD) (t : Fin cfg0.N) (y) :
    out0_4 (iblk m c 0 t) (iblk m c 1 t) (iblk m c 2 t) y
      = REFq (m ((c : Thread nD τ).loc main_arg0)) (m ((c : Thread nD τ).loc main_arg1)) (m ((c : Thread nD τ).loc main_arg2)) (((cfg0.win 4).blk t).view.emb y) := by
  have he : ((win0_4.blk t).view.emb y : S8192x1152.Idx) = ix2 (row t (y 0)) (y 1) := by
    unfold row; blk_ext [idx_val t]
  refine Eq.trans ?_ ((congrArg _ he).trans (REFq_at _ _ _ _ _)).symm
  canon_tiles x h
  all_goals
    rw [eq_ix2 x]
    first | refine (payq_at _ _ _ _ _).trans ?_
    refine Fin.sum_fin_congr fun k => ?_
    refine congrArg₂ (fun a b : EReal => a * b) (normed_blk m c t h0 k) ?_
    blk_point [iblk, V, idx_val t]

/-- The array of the queries, keys and values is the reference's. -/
theorem final4 (c : Dev nD) : (dats m 0 c).arrAt 4 (cfgs 0).N = REFq (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  exact point4 m c t y

set_option maxHeartbeats 1600000 in
/-- The columns of the convolution's input and gate that a grid point stores are the reference's, where they land. -/
theorem point5 (c : Dev nD) (t : Fin cfg0.N) (y) :
    out0_5 (iblk m c 0 t) (iblk m c 1 t) (iblk m c 2 t) y
      = REFc (m ((c : Thread nD τ).loc main_arg0)) (m ((c : Thread nD τ).loc main_arg1)) (m ((c : Thread nD τ).loc main_arg2)) (((cfg0.win 5).blk t).view.emb y) := by
  have he : ((win0_5.blk t).view.emb y : S8192x512.Idx) = ix2 (row t (y 0)) (y 1) := by
    unfold row; blk_ext [idx_val t]
  refine Eq.trans ?_ ((congrArg _ he).trans (REFc_at _ _ _ _ _)).symm
  canon_tiles x h
  all_goals
    rw [eq_ix2 x]
    first | refine (payc_at _ _ _ _ _).trans ?_
    refine Fin.sum_fin_congr fun k => ?_
    refine congrArg₂ (fun a b : EReal => a * b) (normed_blk m c t h0 k) ?_
    blk_point [iblk, V, idx_val t]

/-- The array of the convolution's input and gate is the reference's. -/
theorem final5 (c : Dev nD) : (dats m 0 c).arrAt 5 (cfgs 0).N = REFc (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  exact point5 m c t y

set_option maxHeartbeats 1600000 in
/-- The columns of the recurrence's input and gates that a grid point stores are the reference's, where they land. -/
theorem point6 (c : Dev nD) (t : Fin cfg0.N) (y) :
    out0_6 (iblk m c 0 t) (iblk m c 1 t) (iblk m c 2 t) y
      = REFl (m ((c : Thread nD τ).loc main_arg0)) (m ((c : Thread nD τ).loc main_arg1)) (m ((c : Thread nD τ).loc main_arg2)) (((cfg0.win 6).blk t).view.emb y) := by
  have he : ((win0_6.blk t).view.emb y : S8192x768.Idx) = ix2 (row t (y 0)) (y 1) := by
    unfold row; blk_ext [idx_val t]
  refine Eq.trans ?_ ((congrArg _ he).trans (REFl_at _ _ _ _ _)).symm
  canon_tiles x h
  all_goals
    rw [eq_ix2 x]
    first | refine (payl_at _ _ _ _ _).trans ?_
    refine Fin.sum_fin_congr fun k => ?_
    refine congrArg₂ (fun a b : EReal => a * b) (normed_blk m c t h0 k) ?_
    blk_point [iblk, V, idx_val t]

/-- The array of the recurrence's input and gates is the reference's. -/
theorem final6 (c : Dev nD) : (dats m 0 c).arrAt 6 (cfgs 0).N = REFl (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]
  exact point6 m c t y

end Cert.Kernel9Ideal.Value

end
-- ==== Proof.ClaimInproj.lean ====
/- The frames of the two programs for the input projection, and their equality over the extended reals. -/
module

public import proofs.«01_k».proof.Defs
public import proofs.«01_k».proof.Proof.Inproj
public import proofs.«01_k».proof.Proof.Gen.Kernel9.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference9 : Cert.quiescent_Reference9Ideal := fun m g _ =>
  (θ_run Cert.Reference9Ideal.defs _ _).mono (fun r h => ⟨fun c => (h c).2.2.2.2, sem_eq_zero_of_no_sems (by decide) r.2⟩)
    (Cert.Reference9Ideal.Value.run m g)

/-- The kernel's results are the reference's. -/
theorem algebraic9 : Cert.algebraic_Kernel9Ideal_Reference9Ideal := by
  pair_intro
  · run_from Cert.Kernel9Ideal.Value.run_blocks m g
  · refine (θ_run Cert.Reference9Ideal.defs _ _).mono (fun r h c => ?_) (Cert.Reference9Ideal.Value.run m' g')
    obtain ⟨e0, e1, e2⟩ := hagree c
    refine ⟨(h c).1.trans ?_, (h c).2.1.trans ?_, (h c).2.2.1.trans ?_, (h c).2.2.2.1.trans ?_, (h c).2.2.2.2⟩
    · refine Eq.trans (b := Cert.Reference9Ideal.Value.REFh (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) rfl ?_
      rw [e0, e1]
      exact (Cert.Kernel9Ideal.Value.final3 m c).symm
    · refine Eq.trans (b := Cert.Reference9Ideal.Value.REFq (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))) rfl ?_
      rw [e0, e1, e2]
      exact (Cert.Kernel9Ideal.Value.final4 m c).symm
    · refine Eq.trans (b := Cert.Reference9Ideal.Value.REFc (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))) rfl ?_
      rw [e0, e1, e2]
      exact (Cert.Kernel9Ideal.Value.final5 m c).symm
    · refine Eq.trans (b := Cert.Reference9Ideal.Value.REFl (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))) rfl ?_
      rw [e0, e1, e2]
      exact (Cert.Kernel9Ideal.Value.final6 m c).symm

end Cert.Proof

end
-- ==== Proof.Down.lean ====
/- What the down projection of the forward pass computes. One grid point squares 512 rows of the rectified
   activation and multiplies them by the weights, four blocks of 1024 features at a time, adding each product to the
   residual rows. The whole array is therefore the residual plus the product. -/
module

public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference10Ideal.Value

open Cert.Reference10Ideal Cert.Reference10Ideal.Gen

/-- The reference: the residual plus the squared activation times the weights. -/
def REF (a0 : FVec Ideal S8192x1024 .f32) (a1 : FVec Ideal S8192x4096 .bf16) (a2 : FVec Ideal S4096x1024 .bf16) : FVec Ideal S8192x1024 .f32 :=
  addf a0 (Host.dotGeneral dot_S8192x4096_S4096x1024_S8192x1024_1_0_0_1_n_n none (mulf (extf .f32 a1 bitsLt_bf16_f32) (extf .f32 a1 bitsLt_bf16_f32)) (extf .f32 a2 bitsLt_bf16_f32))

/-- The reference at an index, its contraction cut into four quarters. -/
theorem REF_at (a0 : FVec Ideal S8192x1024 .f32) (a1 : FVec Ideal S8192x4096 .bf16) (a2 : FVec Ideal S4096x1024 .bf16)
    (r : Fin 8192) (j : Fin 1024) :
    REF a0 a1 a2 (ix2 r j) = a0 (ix2 r j) + ∑ q : Fin 4, ∑ k : Fin 1024,
      a1 (ix2 r ⟨q.val * 1024 + k.val, by omega⟩) * a1 (ix2 r ⟨q.val * 1024 + k.val, by omega⟩) * a2 (ix2 ⟨q.val * 1024 + k.val, by omega⟩ j) := by
  pointwise [REF]
  exact congrArg (a0 (ix2 r j) + ·) (Fin.sum_univ_tiles 4 1024 rfl _)

end Cert.Reference10Ideal.Value

namespace Cert.Kernel10Ideal.Value

open Cert.Kernel10Ideal Cert.Kernel10Ideal.Gen

variable (m : (ℓ : Loc nD τ sig) → Buf (Elt Ideal) ℓ)

open Cert.Reference10Ideal.Value (REF REF_at)

/-- Where each window's block sits at grid point `t`. -/
theorem idx_val : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

set_option maxHeartbeats 1600000 in
/-- What a grid point stores at block index `y` is the reference at the place where `y` lands in the array. -/
theorem point3 (c : Dev nD) (t : Fin cfg0.N) (y) :
    out0_3 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  refine Eq.trans ?_ ((congrArg _ (eq_ix2 _)).trans (REF_at _ _ _ _ _)).symm
  canon_tiles x h
  all_goals
    rw [Fin.sum_univ_four, ← add_assoc, ← add_assoc, ← add_assoc]
    open_payloads; pointwise; blk_point [iblk, V, idx_val t]

/-- The array after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point3 m c t y

end Cert.Kernel10Ideal.Value

end
-- ==== Proof.ClaimDown.lean ====
/- The frames of the two programs for the down projection, and their equality over the extended reals. -/
module

public import proofs.«01_k».proof.Defs
public import proofs.«01_k».proof.Proof.Down
public import proofs.«01_k».proof.Proof.Gen.Kernel10.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference10 : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- The kernel's results are the reference's. -/
theorem algebraic10 : Cert.algebraic_Kernel10Ideal_Reference10Ideal := by
  pair_intro
  · run_from Cert.Kernel10Ideal.Value.run_blocks m g
  · refine (θ_run Cert.Reference10Ideal.defs _ _).mono (fun r h c => ?_) (Cert.Reference10Ideal.Value.run m' g')
    obtain ⟨e0, e1, e2⟩ := hagree c
    refine ⟨(h c).1.trans ?_, (h c).2⟩
    · refine Eq.trans (b := Cert.Reference10Ideal.Value.REF (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2))) rfl ?_
      rw [e0, e1, e2]
      exact (Cert.Kernel10Ideal.Value.final m c).symm

end Cert.Proof

end
-- ==== Proof.Up.lean ====
/- What the up projection of the forward pass computes: the normalised rows, and the rectified product of the
   normalised rows with the weights, 1024 columns at a time. -/
module

public import proofs.«01_k».proof.Proof.Gen.Kernel11Ideal.Value
public import proofs.«01_k».proof.Proof.Gen.Reference11Ideal.Run
public import Idealize.ShloMosaic.Lib.Pipeline.ValueKit
public import proofs.«01_k».proof.Proof.Normed

@[expose] public section

set_option maxRecDepth 16384

noncomputable section

open Idealize.ShloMosaic Idealize.ShloMosaic.TcCoe Idealize.SL.Sem
open Idealize.ShloMosaic.Pipeline (Dat)

namespace Cert.Reference11Ideal.Value

open Cert.Reference11Ideal Cert.Reference11Ideal.Gen

/-- The reference's normalised rows. -/
def REFh (a0 : FVec Ideal S8192x1024 .f32) (a1 : FVec Ideal S1x1024 .f32) : FVec Ideal S8192x1024 .bf16 :=
  truncf .bf16 (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a1)) bitsLt_bf16_f32

/-- The reference's rectified product. -/
def REFr (a0 : FVec Ideal S8192x1024 .f32) (a1 : FVec Ideal S1x1024 .f32) (a2 : FVec Ideal S1024x4096 .bf16) : FVec Ideal S8192x4096 .bf16 :=
  truncf .bf16 (maximumf (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a1)) (extf .f32 a2 bitsLt_bf16_f32)) (broadcastInDim S8192x4096 ![] bcast_S_S8192x4096 (constant S_ .f32 0x00000000#32))) bitsLt_bf16_f32

/-- The normalised rows, entry by entry. -/
theorem REFh_at (a0 : FVec Ideal S8192x1024 .f32) (a1 : FVec Ideal S1x1024 .f32) (r : Fin 8192) (j : Fin 1024) :
    REFh a0 a1 (ix2 r j) = RmsNorm.normed (fun k => a0 (ix2 r k)) (fun k => a1 (ix2 0 k)) j := by
  pointwise [REFh]
  rfl

/-- The rectified product, entry by entry. -/
theorem REFr_at (a0 : FVec Ideal S8192x1024 .f32) (a1 : FVec Ideal S1x1024 .f32) (a2 : FVec Ideal S1024x4096 .bf16) (r : Fin 8192) (j : Fin 4096) :
    REFr a0 a1 a2 (ix2 r j) = max (∑ k : Fin 1024, RmsNorm.normed (fun k => a0 (ix2 r k)) (fun k => a1 (ix2 0 k)) k * a2 (ix2 k j)) 0 := by
  pointwise [REFr]
  rfl

end Cert.Reference11Ideal.Value

namespace Cert.Kernel11Ideal.Value

open Cert.Kernel11Ideal Cert.Kernel11Ideal.Gen

variable (m : (ℓ : Loc nD τ sig) → Buf (Elt Ideal) ℓ)

open Cert.Reference11Ideal.Value (REFh REFh_at REFr REFr_at)

/-- Where each window's block sits at grid point `t`. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- Row `r` of the block at grid point `t`, in the whole array. -/
def row (t : Fin cfg0.N) (r : Fin 512) : Fin 8192 := ⟨t.val * 512 + r.val, by have := t.isLt.trans_eq N_0; have := r.isLt; omega⟩

/-- The normalised row of a block, in the arrays. -/
theorem normed_blk (c : Dev nD) (t : Fin cfg0.N) {r r' : Fin 512} (h : r'.val = r.val) (k : Fin 1024) :
    RmsNorm.normed (fun k => View.ld (iblk m c 0 t) r0_0 (ix2 r k)) (fun k => View.ld (iblk m c 1 t) r0_1 (ix2 0 k)) k
      = RmsNorm.normed (fun k => m ((c : Thread nD τ).loc main_arg0) (ix2 (row t r') k)) (fun k => m ((c : Thread nD τ).loc main_arg1) (ix2 0 k)) k := by
  obtain rfl : r' = r := Fin.ext h
  refine congrArg₂ (fun x g => RmsNorm.normed x g k) (funext fun k => ?_) (funext fun k => ?_)
  · unfold row; blk_point [iblk, V, idx_val t]
  · blk_point [iblk, V, idx_val t]

/-- The payload of the normalised rows. -/
theorem pay3_at (x : Vec Ideal S512x1024 .f32) (g : Vec Ideal S1x1024 .f32) (r : Fin 512) (j : Fin 1024) :
    k0_pay3 x g (ix2 r j) = RmsNorm.normed (fun k => x (ix2 r k)) (fun k => g (ix2 0 k)) j := by
  pointwise [k0_pay3]
  rfl

/-- The payload of one product. -/
theorem payD_at (x : Vec Ideal S512x1024 .f32) (g : Vec Ideal S1x1024 .f32) (w : Vec Ideal S1024x1024 .bf16) (r : Fin 512) (j : Fin 1024) :
    k0_pay2 (k0_pay3 x g) w (ix2 r j) = max (∑ k : Fin 1024, RmsNorm.normed (fun k => x (ix2 r k)) (fun k => g (ix2 0 k)) k * w (ix2 k j)) 0 := by
  pointwise [k0_pay2, pay3_at]

/-- The payload of one product. -/
theorem payC_at (x : Vec Ideal S512x1024 .f32) (g : Vec Ideal S1x1024 .f32) (w : Vec Ideal S1024x1024 .bf16) (r : Fin 512) (j : Fin 1024) :
    k0_pay1 (k0_pay6 x g w) (k0_pay7 (F := Ideal)) (ix2 r j) = max (∑ k : Fin 1024, RmsNorm.normed (fun k => x (ix2 r k)) (fun k => g (ix2 0 k)) k * w (ix2 k j)) 0 := by
  pointwise [k0_pay1, k0_pay6, k0_pay7, pay3_at]

/-- The payload of one product. -/
theorem payB_at (x : Vec Ideal S512x1024 .f32) (g : Vec Ideal S1x1024 .f32) (w : Vec Ideal S1024x1024 .bf16) (r : Fin 512) (j : Fin 1024) :
    k0_pay5 x g w (ix2 r j) = max (∑ k : Fin 1024, RmsNorm.normed (fun k => x (ix2 r k)) (fun k => g (ix2 0 k)) k * w (ix2 k j)) 0 := by
  pointwise [k0_pay5, pay3_at]

/-- The payload of one product. -/
theorem payA_at (x : Vec Ideal S512x1024 .f32) (g : Vec Ideal S1x1024 .f32) (w : Vec Ideal S1024x1024 .bf16) (r : Fin 512) (j : Fin 1024) :
    k0_pay4 x g w (ix2 r j) = max (∑ k : Fin 1024, RmsNorm.normed (fun k => x (ix2 r k)) (fun k => g (ix2 0 k)) k * w (ix2 k j)) 0 := by
  pointwise [k0_pay4, pay3_at]

set_option maxHeartbeats 1600000 in
/-- The normalised rows a grid point stores are the reference's, where they land. -/
theorem point3 (c : Dev nD) (t : Fin cfg0.N) (y) :
    out0_3 (iblk m c 0 t) (iblk m c 1 t) (iblk m c 2 t) y
      = REFh (m ((c : Thread nD τ).loc main_arg0)) (m ((c : Thread nD τ).loc main_arg1)) (((cfg0.win 3).blk t).view.emb y) := by
  have he : ((win0_3.blk t).view.emb y : S8192x1024.Idx) = ix2 (row t (y 0)) (y 1) := by
    unfold row; blk_ext [idx_val t]
  refine Eq.trans ?_ ((congrArg _ he).trans (REFh_at _ _ _ _)).symm
  canon_tiles x h
  all_goals
    rw [eq_ix2 x]
    refine (pay3_at _ _ _ _).trans ?_
    refine (normed_blk m c t h0 (x 1)).trans (congrArg _ (Fin.ext ?_))
    first | exact h1.symm | omega

/-- The array of normalised rows is the reference's. -/
theorem final3 (c : Dev nD) : (dats m 0 c).arrAt 3 (cfgs 0).N = REFh (m ((c : Thread nD τ).loc main_arg0)) (m ((c : Thread nD τ).loc main_arg1)) := by
  refine (dats m 0 c).arrAt_eq_of_covers 3 _ (by decide +kernel) fun t hf y => ?_
  blk_simp; rw [after0_3]
  exact point3 m c t y

set_option maxHeartbeats 1600000 in
/-- The rectified product a grid point stores is the reference's, where it lands. -/
theorem point4 (c : Dev nD) (t : Fin cfg0.N) (y) :
    out0_4 (iblk m c 0 t) (iblk m c 1 t) (iblk m c 2 t) y
      = REFr (m ((c : Thread nD τ).loc main_arg0)) (m ((c : Thread nD τ).loc main_arg1)) (m ((c : Thread nD τ).loc main_arg2)) (((cfg0.win 4).blk t).view.emb y) := by
  have he : ((win0_4.blk t).view.emb y : S8192x4096.Idx) = ix2 (row t (y 0)) (y 1) := by
    unfold row; blk_ext [idx_val t]
  refine Eq.trans ?_ ((congrArg _ he).trans (REFr_at _ _ _ _ _)).symm
  canon_tiles x h
  all_goals
    rw [eq_ix2 x]
    first | refine (payA_at _ _ _ _ _).trans ?_ | refine (payB_at _ _ _ _ _).trans ?_ | refine (payC_at _ _ _ _ _).trans ?_ | refine (payD_at _ _ _ _ _).trans ?_
    refine congrArg (fun z : EReal => max z 0) ?_
    refine Fin.sum_fin_congr fun k => ?_
    refine congrArg₂ (fun a b : EReal => a * b) (normed_blk m c t h0 k) ?_
    blk_point [iblk, V, idx_val t]

/-- The array of rectified products is the reference's. -/
theorem final4 (c : Dev nD) : (dats m 0 c).arrAt 4 (cfgs 0).N = REFr (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  exact point4 m c t y

end Cert.Kernel11Ideal.Value

end
-- ==== Proof.ClaimUp.lean ====
/- The frames of the two programs for the up projection, and their equality over the extended reals. -/
module

public import proofs.«01_k».proof.Defs
public import proofs.«01_k».proof.Proof.Up
public import proofs.«01_k».proof.Proof.Gen.Kernel11.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference11 : Cert.quiescent_Reference11Ideal := fun m g _ =>
  (θ_run Cert.Reference11Ideal.defs _ _).mono (fun r h => ⟨fun c => (h c).2.2, sem_eq_zero_of_no_sems (by decide) r.2⟩)
    (Cert.Reference11Ideal.Value.run m g)

/-- The kernel's results are the reference's. -/
theorem algebraic11 : Cert.algebraic_Kernel11Ideal_Reference11Ideal := by
  pair_intro
  · run_from Cert.Kernel11Ideal.Value.run_blocks m g
  · refine (θ_run Cert.Reference11Ideal.defs _ _).mono (fun r h c => ?_) (Cert.Reference11Ideal.Value.run m' g')
    obtain ⟨e0, e1, e2⟩ := hagree c
    refine ⟨(h c).1.trans ?_, (h c).2.1.trans ?_, (h c).2.2⟩
    · refine Eq.trans (b := Cert.Reference11Ideal.Value.REFh (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1))) rfl ?_
      rw [e0, e1]
      exact (Cert.Kernel11Ideal.Value.final3 m c).symm
    · refine Eq.trans (b := Cert.Reference11Ideal.Value.REFr (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2))) rfl ?_
      rw [e0, e1, e2]
      exact (Cert.Kernel11Ideal.Value.final4 m c).symm

end Cert.Proof

end
-- ==== Proof.Adamw.lean ====
/- One entry of the optimiser's update, over the extended reals. -/
module

public import Idealize.ShloMosaic.Lib.IdealHost
public import Idealize.ShloMosaic.PureOps.Ideal

@[expose] public section

noncomputable section

open Idealize.ShloMosaic

namespace Cert.Adamw

/-- The new first moment, from the gradient `g` and the old moment `mu`. -/
def newM (g mu : EReal) : EReal := Ideal.ofBits .f32 0x3F666666#32 * mu + Ideal.ofBits .f32 0x3DCCCCCD#32 * g

/-- The new second moment, from the gradient `g` and the old moment `nu`. -/
def newV (g nu : EReal) : EReal := Ideal.ofBits .f32 0x3F7FBE77#32 * nu + Ideal.ofBits .f32 0x3A83126F#32 * (g * g)

/-- The step: the corrected first moment over the root of the corrected second, plus the decayed weight `w`, times minus
    the learning rate. -/
def delta (g w mu nu : EReal) : EReal :=
  Ideal.ofBits .f32 0xBA83126F#32 *
    (Ideal.div (Ideal.div (newM g mu) (Ideal.ofBits .f32 0x3F26BD02#32))
        (Ideal.sqrt (Ideal.div (newV g nu) (Ideal.ofBits .f32 0x3C231ACC#32)) + Ideal.ofBits .f32 0x322BCC77#32)
      + Ideal.ofBits .f32 0x3C23D70A#32 * w)

end Cert.Adamw

end
-- ==== Proof.AdamwIn.lean ====
/- What the summed gradient and the optimiser's step of the input projection compute. The kernel adds the eight devices' parts
   slot by slot, layer 0 from one array and layer 1 from the other, and updates the moments and the weights entry by entry. -/
module

public import proofs.«01_k».proof.Proof.Gen.Kernel14Ideal.Value
public import proofs.«01_k».proof.Proof.Gen.Reference14Ideal.Run
public import Idealize.ShloMosaic.Lib.Pipeline.ValueKit
public import proofs.«01_k».proof.Proof.Adamw

@[expose] public section

set_option maxRecDepth 16384

noncomputable section

open Idealize.ShloMosaic Idealize.ShloMosaic.TcCoe Idealize.SL.Sem
open Idealize.ShloMosaic.Pipeline (Dat)

namespace Cert.Reference14Ideal.Value

open Cert.Reference14Ideal Cert.Reference14Ideal.Gen

/-- The reference's summed gradient. -/
def REFG (a0 a1 : FVec Ideal S8x1024x304 .bf16) : FVec Ideal S2x1024x304 .f32 :=
  concatenate S2x1024x304 0 [⟨S1x1024x304, (broadcastInDim S1x1024x304 ![1, 2] bcast_S1024x304_S1x1024x304_1_2 (Host.reduceAdd (extf .f32 a0 bitsLt_bf16_f32) (constant S_ .f32 0x00000000#32) reducesTo_S8x1024x304_S1024x304_d0 h_S_))⟩, ⟨S1x1024x304, (broadcastInDim S1x1024x304 ![1, 2] bcast_S1024x304_S1x1024x304_1_2 (Host.reduceAdd (extf .f32 a1 bitsLt_bf16_f32) (constant S_ .f32 0x00000000#32) reducesTo_S8x1024x304_S1024x304_d0 h_S_))⟩] concatenates_S1x1024x304_S1x1024x304_S2x1024x304_d0

/-- The reference's step. -/
def REFD (a0 a1 : FVec Ideal S8x1024x304 .bf16) (a2 : FVec Ideal S2x1024x304 .f32) (a3 : FVec Ideal S2x1024x304 .f32) (a4 : FVec Ideal S2x1024x304 .f32) : FVec Ideal S2x1024x304 .f32 :=
  mulf (broadcastInDim S2x1024x304 ![] bcast_S_S2x1024x304 (constant S_ .f32 0xBA83126F#32)) (addf (Host.divf (Host.divf (addf (mulf (broadcastInDim S2x1024x304 ![] bcast_S_S2x1024x304 (constant S_ .f32 0x3F666666#32)) a3) (mulf (broadcastInDim S2x1024x304 ![] bcast_S_S2x1024x304 (constant S_ .f32 0x3DCCCCCD#32)) (REFG a0 a1))) (broadcastInDim S2x1024x304 ![] bcast_S_S2x1024x304 (constant S_ .f32 0x3F26BD02#32))) (addf (Host.sqrt (Host.divf (addf (mulf (broadcastInDim S2x1024x304 ![] bcast_S_S2x1024x304 (constant S_ .f32 0x3F7FBE77#32)) a4) (mulf (broadcastInDim S2x1024x304 ![] bcast_S_S2x1024x304 (constant S_ .f32 0x3A83126F#32)) (mulf (REFG a0 a1) (REFG a0 a1)))) (broadcastInDim S2x1024x304 ![] bcast_S_S2x1024x304 (constant S_ .f32 0x3C231ACC#32)))) (broadcastInDim S2x1024x304 ![] bcast_S_S2x1024x304 (constant S_ .f32 0x322BCC77#32)))) (mulf (broadcastInDim S2x1024x304 ![] bcast_S_S2x1024x304 (constant S_ .f32 0x3C23D70A#32)) a2))

/-- The reference's new first moment. -/
def REFM (a0 a1 : FVec Ideal S8x1024x304 .bf16) (a3 : FVec Ideal S2x1024x304 .f32) : FVec Ideal S2x1024x304 .f32 :=
  addf (mulf (broadcastInDim S2x1024x304 ![] bcast_S_S2x1024x304 (constant S_ .f32 0x3F666666#32)) a3) (mulf (broadcastInDim S2x1024x304 ![] bcast_S_S2x1024x304 (constant S_ .f32 0x3DCCCCCD#32)) (REFG a0 a1))

/-- The reference's new second moment. -/
def REFV (a0 a1 : FVec Ideal S8x1024x304 .bf16) (a4 : FVec Ideal S2x1024x304 .f32) : FVec Ideal S2x1024x304 .f32 :=
  addf (mulf (broadcastInDim S2x1024x304 ![] bcast_S_S2x1024x304 (constant S_ .f32 0x3F7FBE77#32)) a4) (mulf (broadcastInDim S2x1024x304 ![] bcast_S_S2x1024x304 (constant S_ .f32 0x3A83126F#32)) (mulf (REFG a0 a1) (REFG a0 a1)))

/-- The eight parts of a layer, added at one entry. -/
def summed (a0 a1 : FVec Ideal S8x1024x304 .bf16) (l : Fin 2) (i : Fin 1024) (j : Fin 304) : EReal :=
  if l.val = 0 then ∑ s : Fin 8, a0 (ix3 s i j) else ∑ s : Fin 8, a1 (ix3 s i j)

/-- The summed gradient, entry by entry. -/
theorem REFG_at (a0 a1 : FVec Ideal S8x1024x304 .bf16) (l : Fin 2) (i : Fin 1024) (j : Fin 304) : REFG a0 a1 (ix3 l i j) = summed a0 a1 l i j := by
  pointwise [REFG, summed]
  match l with
  | ⟨0, _⟩ => rfl
  | ⟨1, _⟩ => rfl

/-- The step, entry by entry. -/
theorem REFD_at (a0 a1 : FVec Ideal S8x1024x304 .bf16) (a2 : FVec Ideal S2x1024x304 .f32) (a3 : FVec Ideal S2x1024x304 .f32) (a4 : FVec Ideal S2x1024x304 .f32) (l : Fin 2) (i : Fin 1024) (j : Fin 304) :
    REFD a0 a1 a2 a3 a4 (ix3 l i j) = Adamw.delta (summed a0 a1 l i j) (a2 (ix3 l i j)) (a3 (ix3 l i j)) (a4 (ix3 l i j)) := by
  pointwise [REFD, REFG_at]
  rfl

/-- The new first moment, entry by entry. -/
theorem REFM_at (a0 a1 : FVec Ideal S8x1024x304 .bf16) (a3 : FVec Ideal S2x1024x304 .f32) (l : Fin 2) (i : Fin 1024) (j : Fin 304) :
    REFM a0 a1 a3 (ix3 l i j) = Adamw.newM (summed a0 a1 l i j) (a3 (ix3 l i j)) := by
  pointwise [REFM, REFG_at]
  rfl

/-- The new second moment, entry by entry. -/
theorem REFV_at (a0 a1 : FVec Ideal S8x1024x304 .bf16) (a4 : FVec Ideal S2x1024x304 .f32) (l : Fin 2) (i : Fin 1024) (j : Fin 304) :
    REFV a0 a1 a4 (ix3 l i j) = Adamw.newV (summed a0 a1 l i j) (a4 (ix3 l i j)) := by
  pointwise [REFV, REFG_at]
  rfl

end Cert.Reference14Ideal.Value

namespace Cert.Kernel14Ideal.Value

open Cert.Kernel14Ideal Cert.Kernel14Ideal.Gen

variable (m : (ℓ : Loc nD τ sig) → Buf (Elt Ideal) ℓ)

open Cert.Reference14Ideal.Value (REFG REFG_at REFD REFD_at REFM REFM_at REFV REFV_at summed)

/-- Where each window's block sits at grid point `t`. -/
theorem idx_val : ∀ t : Fin cfg0.N, win0_0.index t = ![0, if t.val < 4 then t.val else 3, 0]
    ∧ win0_1.index t = ![0, t.val - 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The first grid coordinate tells the layers apart. -/
theorem layer_sel : ∀ t : Fin cfg0.N, Scalar.cmpi .eq (BitVec.ofNat 32 (grid0.coords t 0).val) 0#32 = if t.val < 4 then 1#1 else 0#1 :=
  (by decide +kernel : ∀ t : Fin grid0.N, _)

/-- There are 8 grid points. -/
theorem pt_lt (t : Fin cfg0.N) : t.val < 8 := t.isLt.trans_eq N_0

/-- The layer of grid point `t`. -/
def layer (t : Fin cfg0.N) : Fin 2 := ⟨t.val / 4, by have := pt_lt t; omega⟩

/-- Row `r` of the parts' block at grid point `t`, in the whole array. -/
def row (t : Fin cfg0.N) (r : Fin 256) : Fin 1024 := ⟨t.val % 4 * 256 + r.val, by have := pt_lt t; have := r.isLt; omega⟩

/-- The eight slots of the first array, added in order. -/
theorem slots0 (x : Vec Ideal S8x256x304 .bf16) (r : Fin 256) (j : Fin 304) :
    k0_pay3 (View.ld x r0_0) (View.ld x r0_1) (View.ld x r0_2) (View.ld x r0_3) (View.ld x r0_4) (View.ld x r0_5) (View.ld x r0_6) (View.ld x r0_7) (ix2 r j) = ∑ s : Fin 8, x (ix3 s r j) := by
  pointwise [k0_pay3]
  rw [Fin.sum_univ_eight]

/-- Of the two layers' sums the kernel keeps the one the flag asks for. -/
theorem slots1 (b : BitVec 1) (u : FVec Ideal S256x304 .f32) (x : Vec Ideal S8x256x304 .bf16) (r : Fin 256) (j : Fin 304) :
    k0_pay4 b u (View.ld x r0_0) (View.ld x r0_1) (View.ld x r0_2) (View.ld x r0_3) (View.ld x r0_4) (View.ld x r0_5) (View.ld x r0_6) (View.ld x r0_7) (ix2 r j) = if b = 1#1 then u (ix2 r j) else ∑ s : Fin 8, x (ix3 s r j) := by
  rw [Fin.sum_univ_eight]
  obtain rfl | rfl : b = 1#1 ∨ b = 0#1 := by revert b; decide
  · rw [if_pos rfl]
    have hs : ∀ v w : FVec Ideal S256x304 .f32, Scalar.select 1#1 v w = v := fun v w => if_pos (by decide)
    pointwise [k0_pay4, hs]
  · rw [if_neg (by decide)]
    have hs : ∀ v w : FVec Ideal S256x304 .f32, Scalar.select 0#1 v w = w := fun v w => if_neg (by decide)
    pointwise [k0_pay4, hs]

/-- The parts' block for layer 0. -/
theorem blk0 (c : Dev nD) (t : Fin cfg0.N) (h : t.val < 4) (s : Fin 8) (r : Fin 256) (j : Fin 304) :
    iblk m c 0 t (ix3 s r j) = (m ((c : Thread nD τ).loc main_arg0)) (ix3 s (row t r) j) := by
  unfold row; blk_point [iblk, V, idx_val t, if_pos h, Nat.mod_eq_of_lt h]

/-- The parts' block for layer 1. -/
theorem blk1 (c : Dev nD) (t : Fin cfg0.N) (h : ¬t.val < 4) (s : Fin 8) (r : Fin 256) (j : Fin 304) :
    iblk m c 1 t (ix3 s r j) = (m ((c : Thread nD τ).loc main_arg1)) (ix3 s (row t r) j) := by
  have := pt_lt t
  have : t.val % 4 = t.val - 4 := by omega
  unfold row; blk_point [iblk, V, idx_val t]

/-- The block of the weights. -/
theorem blk2 (c : Dev nD) (t : Fin cfg0.N) (r : Fin 256) (j : Fin 304) :
    iblk m c 2 t (ix3 0 r j) = (m ((c : Thread nD τ).loc main_arg2)) (ix3 (layer t) (row t r) j) := by
  unfold row layer; blk_point [iblk, V, idx_val t]

/-- The block of the first moment. -/
theorem blk3 (c : Dev nD) (t : Fin cfg0.N) (r : Fin 256) (j : Fin 304) :
    iblk m c 3 t (ix3 0 r j) = (m ((c : Thread nD τ).loc main_arg3)) (ix3 (layer t) (row t r) j) := by
  unfold row layer; blk_point [iblk, V, idx_val t]

/-- The block of the second moment. -/
theorem blk4 (c : Dev nD) (t : Fin cfg0.N) (r : Fin 256) (j : Fin 304) :
    iblk m c 4 t (ix3 0 r j) = (m ((c : Thread nD τ).loc main_arg4)) (ix3 (layer t) (row t r) j) := by
  unfold row layer; blk_point [iblk, V, idx_val t]

/-- The gradient a grid point sums, in the arrays. -/
def grad (c : Dev nD) (t : Fin cfg0.N) : FVec Ideal S256x304 .f32 :=
  k0_pay9 (grid0.coords t) (iblk m c 0 t) (iblk m c 1 t) (iblk m c 2 t) (iblk m c 3 t) (iblk m c 4 t)

/-- The gradient a grid point sums is the reference's. -/
theorem grad_at (c : Dev nD) (t : Fin cfg0.N) (r : Fin 256) (j : Fin 304) :
    grad m c t (ix2 r j) = summed (m ((c : Thread nD τ).loc main_arg0)) (m ((c : Thread nD τ).loc main_arg1)) (layer t) (row t r) j := by
  unfold grad k0_pay9 summed
  refine (slots1 _ _ _ r j).trans ?_
  rw [layer_sel]
  have hl : (layer t).val = t.val / 4 := rfl
  have := pt_lt t
  by_cases h : t.val < 4
  · rw [if_pos h, if_pos rfl, if_pos (by omega)]
    exact (slots0 _ r j).trans (Fin.sum_fin_congr fun s => blk0 m c t h s r j)
  · rw [if_neg h, if_neg (by decide), if_neg (by omega)]
    exact Fin.sum_fin_congr fun s => blk1 m c t h s r j

/-! What each output stores, from the summed gradient and the blocks. -/

/-- The gradient itself. -/
theorem payG (g : FVec Ideal S256x304 .f32) (r : Fin 256) (j : Fin 304) : k0_pay5 g (ix3 0 r j) = g (ix2 r j) := by
  pointwise [k0_pay5]

/-- The step. -/
theorem payD (g : FVec Ideal S256x304 .f32) (w mu nu : Vec Ideal S1x256x304 .f32) (r : Fin 256) (j : Fin 304) :
    k0_pay8 g (View.ld w r0_8) (View.ld mu r0_8) (View.ld nu r0_8) (ix3 0 r j)
      = Adamw.delta (g (ix2 r j)) (w (ix3 0 r j)) (mu (ix3 0 r j)) (nu (ix3 0 r j)) := by
  pointwise [k0_pay8, k0_pay6, k0_pay7]
  rfl

/-- The new first moment. -/
theorem payM (g : FVec Ideal S256x304 .f32) (mu : Vec Ideal S1x256x304 .f32) (r : Fin 256) (j : Fin 304) :
    k0_pay1 (k0_pay6 g (View.ld mu r0_8)) (ix3 0 r j) = Adamw.newM (g (ix2 r j)) (mu (ix3 0 r j)) := by
  pointwise [k0_pay1, k0_pay6]
  rfl

/-- The new second moment. -/
theorem payV (g : FVec Ideal S256x304 .f32) (nu : Vec Ideal S1x256x304 .f32) (r : Fin 256) (j : Fin 304) :
    k0_pay2 (k0_pay7 g (View.ld nu r0_8)) (ix3 0 r j) = Adamw.newV (g (ix2 r j)) (nu (ix3 0 r j)) := by
  pointwise [k0_pay2, k0_pay7]
  rfl

/-- The summed gradient a grid point stores is the reference's, where it lands. -/
theorem point5 (c : Dev nD) (t : Fin cfg0.N) (y) :
    out0_5 (grid0.coords t) (iblk m c 0 t) (iblk m c 1 t) (iblk m c 2 t) (iblk m c 3 t) (iblk m c 4 t) y
      = REFG (m ((c : Thread nD τ).loc main_arg0)) (m ((c : Thread nD τ).loc main_arg1)) (((cfg0.win 5).blk t).view.emb y) := by
  have he : ((win0_5.blk t).view.emb y : S2x1024x304.Idx) = ix3 (layer t) (row t (y 1)) (y 2) := by
    unfold row layer; blk_ext [idx_val t]
  refine Eq.trans ?_ ((congrArg _ he).trans (REFG_at _ _ _ _ _)).symm
  canon_tiles x h
  have e1 : y 1 = x 1 := Fin.ext h1
  have e2 : y 2 = x 2 := Fin.ext h2
  rw [e1, e2]
  rw [eq_ix3 x, Fin.fin_one_eq_zero (x 0)]
  refine (payG (grad m c t) _ _).trans ?_
  rw [grad_at m c t (x 1) (x 2)]
  rfl

/-- The array of the summed gradient is the reference's. -/
theorem final5 (c : Dev nD) : (dats m 0 c).arrAt 5 (cfgs 0).N = REFG (m ((c : Thread nD τ).loc main_arg0)) (m ((c : Thread nD τ).loc main_arg1)) := by
  refine (dats m 0 c).arrAt_eq_of_covers 5 _ (by decide +kernel) fun t hf y => ?_
  blk_simp; rw [after0_5]
  exact point5 m c t y

/-- The step a grid point stores is the reference's, where it lands. -/
theorem point6 (c : Dev nD) (t : Fin cfg0.N) (y) :
    out0_6 (grid0.coords t) (iblk m c 0 t) (iblk m c 1 t) (iblk m c 2 t) (iblk m c 3 t) (iblk m c 4 t) y
      = REFD (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have he : ((win0_6.blk t).view.emb y : S2x1024x304.Idx) = ix3 (layer t) (row t (y 1)) (y 2) := by
    unfold row layer; blk_ext [idx_val t]
  refine Eq.trans ?_ ((congrArg _ he).trans (REFD_at _ _ _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payD (grad m c t) _ _ _ _ _).trans ?_
  rw [grad_at m c t (x 1) (x 2), blk2 m c t (x 1) (x 2), blk3 m c t (x 1) (x 2), blk4 m c t (x 1) (x 2)]
  rfl

/-- The array of the step is the reference's. -/
theorem final6 (c : Dev nD) : (dats m 0 c).arrAt 6 (cfgs 0).N = REFD (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  exact point6 m c t y

/-- The new first moment a grid point stores is the reference's, where it lands. -/
theorem point7 (c : Dev nD) (t : Fin cfg0.N) (y) :
    out0_7 (grid0.coords t) (iblk m c 0 t) (iblk m c 1 t) (iblk m c 2 t) (iblk m c 3 t) (iblk m c 4 t) y
      = REFM (m ((c : Thread nD τ).loc main_arg0)) (m ((c : Thread nD τ).loc main_arg1)) (m ((c : Thread nD τ).loc main_arg3)) (((cfg0.win 7).blk t).view.emb y) := by
  have he : ((win0_7.blk t).view.emb y : S2x1024x304.Idx) = ix3 (layer t) (row t (y 1)) (y 2) := by
    unfold row layer; blk_ext [idx_val t]
  refine Eq.trans ?_ ((congrArg _ he).trans (REFM_at _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payM (grad m c t) _ _ _).trans ?_
  rw [grad_at m c t (x 1) (x 2), blk3 m c t (x 1) (x 2)]
  rfl

/-- The array of the new first moment is the reference's. -/
theorem final7 (c : Dev nD) : (dats m 0 c).arrAt 7 (cfgs 0).N = REFM (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp; rw [after0_7]
  exact point7 m c t y

/-- The new second moment a grid point stores is the reference's, where it lands. -/
theorem point8 (c : Dev nD) (t : Fin cfg0.N) (y) :
    out0_8 (grid0.coords t) (iblk m c 0 t) (iblk m c 1 t) (iblk m c 2 t) (iblk m c 3 t) (iblk m c 4 t) y
      = REFV (m ((c : Thread nD τ).loc main_arg0)) (m ((c : Thread nD τ).loc main_arg1)) (m ((c : Thread nD τ).loc main_arg4)) (((cfg0.win 8).blk t).view.emb y) := by
  have he : ((win0_8.blk t).view.emb y : S2x1024x304.Idx) = ix3 (layer t) (row t (y 1)) (y 2) := by
    unfold row layer; blk_ext [idx_val t]
  refine Eq.trans ?_ ((congrArg _ he).trans (REFV_at _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payV (grad m c t) _ _ _).trans ?_
  rw [grad_at m c t (x 1) (x 2), blk4 m c t (x 1) (x 2)]
  rfl

/-- The array of the new second moment is the reference's. -/
theorem final8 (c : Dev nD) : (dats m 0 c).arrAt 8 (cfgs 0).N = REFV (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp; rw [after0_8]
  exact point8 m c t y

end Cert.Kernel14Ideal.Value

end
-- ==== Proof.ClaimAdamwIn.lean ====
/- The frames of the two programs for the optimiser's step of the input projection, and their equality over the extended reals. -/
module

public import proofs.«01_k».proof.Defs
public import proofs.«01_k».proof.Proof.AdamwIn
public import proofs.«01_k».proof.Proof.Gen.Kernel14.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference14 : Cert.quiescent_Reference14Ideal := fun m g _ =>
  (θ_run Cert.Reference14Ideal.defs _ _).mono (fun r h => ⟨fun c => (h c).2.2.2.2, sem_eq_zero_of_no_sems (by decide) r.2⟩)
    (Cert.Reference14Ideal.Value.run m g)

/-- The kernel's results are the reference's. -/
theorem algebraic14 : Cert.algebraic_Kernel14Ideal_Reference14Ideal := by
  pair_intro
  · run_from Cert.Kernel14Ideal.Value.run_blocks m g
  · refine (θ_run Cert.Reference14Ideal.defs _ _).mono (fun r h c => ?_) (Cert.Reference14Ideal.Value.run m' g')
    obtain ⟨e0, e1, e2, e3, e4⟩ := hagree c
    refine ⟨(h c).1.trans ?_, (h c).2.1.trans ?_, (h c).2.2.1.trans ?_, (h c).2.2.2.1.trans ?_, (h c).2.2.2.2⟩
    · refine Eq.trans (b := Cert.Reference14Ideal.Value.REFG (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1))) rfl ?_
      rw [e0, e1]
      exact (Cert.Kernel14Ideal.Value.final5 m c).symm
    · refine Eq.trans (b := Cert.Reference14Ideal.Value.REFD (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4))) rfl ?_
      rw [e0, e1, e2, e3, e4]
      exact (Cert.Kernel14Ideal.Value.final6 m c).symm
    · refine Eq.trans (b := Cert.Reference14Ideal.Value.REFM (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg3))) rfl ?_
      rw [e0, e1, e3]
      exact (Cert.Kernel14Ideal.Value.final7 m c).symm
    · refine Eq.trans (b := Cert.Reference14Ideal.Value.REFV (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg4))) rfl ?_
      rw [e0, e1, e4]
      exact (Cert.Kernel14Ideal.Value.final8 m c).symm

end Cert.Proof

end
-- ==== Proof.AdamwOut.lean ====
/- What the summed gradient and the optimiser's step of the output projection compute. The kernel adds the eight devices' parts
   slot by slot, layer 0 from one array and layer 1 from the other, and updates the moments and the weights entry by entry. -/
module

public import proofs.«01_k».proof.Proof.Gen.Kernel15Ideal.Value
public import proofs.«01_k».proof.Proof.Gen.Reference15Ideal.Run
public import Idealize.ShloMosaic.Lib.Pipeline.ValueKit
public import proofs.«01_k».proof.Proof.Adamw

@[expose] public section

set_option maxRecDepth 16384

noncomputable section

open Idealize.ShloMosaic Idealize.ShloMosaic.TcCoe Idealize.SL.Sem
open Idealize.ShloMosaic.Pipeline (Dat)

namespace Cert.Reference15Ideal.Value

open Cert.Reference15Ideal Cert.Reference15Ideal.Gen

/-- The reference's summed gradient. -/
def REFG (a0 a1 : FVec Ideal S8x128x1024 .bf16) : FVec Ideal S2x128x1024 .f32 :=
  concatenate S2x128x1024 0 [⟨S1x128x1024, (broadcastInDim S1x128x1024 ![1, 2] bcast_S128x1024_S1x128x1024_1_2 (Host.reduceAdd (extf .f32 a0 bitsLt_bf16_f32) (constant S_ .f32 0x00000000#32) reducesTo_S8x128x1024_S128x1024_d0 h_S_))⟩, ⟨S1x128x1024, (broadcastInDim S1x128x1024 ![1, 2] bcast_S128x1024_S1x128x1024_1_2 (Host.reduceAdd (extf .f32 a1 bitsLt_bf16_f32) (constant S_ .f32 0x00000000#32) reducesTo_S8x128x1024_S128x1024_d0 h_S_))⟩] concatenates_S1x128x1024_S1x128x1024_S2x128x1024_d0

/-- The reference's step. -/
def REFD (a0 a1 : FVec Ideal S8x128x1024 .bf16) (a2 : FVec Ideal S2x128x1024 .f32) (a3 : FVec Ideal S2x128x1024 .f32) (a4 : FVec Ideal S2x128x1024 .f32) : FVec Ideal S2x128x1024 .f32 :=
  mulf (broadcastInDim S2x128x1024 ![] bcast_S_S2x128x1024 (constant S_ .f32 0xBA83126F#32)) (addf (Host.divf (Host.divf (addf (mulf (broadcastInDim S2x128x1024 ![] bcast_S_S2x128x1024 (constant S_ .f32 0x3F666666#32)) a3) (mulf (broadcastInDim S2x128x1024 ![] bcast_S_S2x128x1024 (constant S_ .f32 0x3DCCCCCD#32)) (REFG a0 a1))) (broadcastInDim S2x128x1024 ![] bcast_S_S2x128x1024 (constant S_ .f32 0x3F26BD02#32))) (addf (Host.sqrt (Host.divf (addf (mulf (broadcastInDim S2x128x1024 ![] bcast_S_S2x128x1024 (constant S_ .f32 0x3F7FBE77#32)) a4) (mulf (broadcastInDim S2x128x1024 ![] bcast_S_S2x128x1024 (constant S_ .f32 0x3A83126F#32)) (mulf (REFG a0 a1) (REFG a0 a1)))) (broadcastInDim S2x128x1024 ![] bcast_S_S2x128x1024 (constant S_ .f32 0x3C231ACC#32)))) (broadcastInDim S2x128x1024 ![] bcast_S_S2x128x1024 (constant S_ .f32 0x322BCC77#32)))) (mulf (broadcastInDim S2x128x1024 ![] bcast_S_S2x128x1024 (constant S_ .f32 0x3C23D70A#32)) a2))

/-- The reference's new first moment. -/
def REFM (a0 a1 : FVec Ideal S8x128x1024 .bf16) (a3 : FVec Ideal S2x128x1024 .f32) : FVec Ideal S2x128x1024 .f32 :=
  addf (mulf (broadcastInDim S2x128x1024 ![] bcast_S_S2x128x1024 (constant S_ .f32 0x3F666666#32)) a3) (mulf (broadcastInDim S2x128x1024 ![] bcast_S_S2x128x1024 (constant S_ .f32 0x3DCCCCCD#32)) (REFG a0 a1))

/-- The reference's new second moment. -/
def REFV (a0 a1 : FVec Ideal S8x128x1024 .bf16) (a4 : FVec Ideal S2x128x1024 .f32) : FVec Ideal S2x128x1024 .f32 :=
  addf (mulf (broadcastInDim S2x128x1024 ![] bcast_S_S2x128x1024 (constant S_ .f32 0x3F7FBE77#32)) a4) (mulf (broadcastInDim S2x128x1024 ![] bcast_S_S2x128x1024 (constant S_ .f32 0x3A83126F#32)) (mulf (REFG a0 a1) (REFG a0 a1)))

/-- The eight parts of a layer, added at one entry. -/
def summed (a0 a1 : FVec Ideal S8x128x1024 .bf16) (l : Fin 2) (i : Fin 128) (j : Fin 1024) : EReal :=
  if l.val = 0 then ∑ s : Fin 8, a0 (ix3 s i j) else ∑ s : Fin 8, a1 (ix3 s i j)

/-- The summed gradient, entry by entry. -/
theorem REFG_at (a0 a1 : FVec Ideal S8x128x1024 .bf16) (l : Fin 2) (i : Fin 128) (j : Fin 1024) : REFG a0 a1 (ix3 l i j) = summed a0 a1 l i j := by
  pointwise [REFG, summed]
  match l with
  | ⟨0, _⟩ => rfl
  | ⟨1, _⟩ => rfl

/-- The step, entry by entry. -/
theorem REFD_at (a0 a1 : FVec Ideal S8x128x1024 .bf16) (a2 : FVec Ideal S2x128x1024 .f32) (a3 : FVec Ideal S2x128x1024 .f32) (a4 : FVec Ideal S2x128x1024 .f32) (l : Fin 2) (i : Fin 128) (j : Fin 1024) :
    REFD a0 a1 a2 a3 a4 (ix3 l i j) = Adamw.delta (summed a0 a1 l i j) (a2 (ix3 l i j)) (a3 (ix3 l i j)) (a4 (ix3 l i j)) := by
  pointwise [REFD, REFG_at]
  rfl

/-- The new first moment, entry by entry. -/
theorem REFM_at (a0 a1 : FVec Ideal S8x128x1024 .bf16) (a3 : FVec Ideal S2x128x1024 .f32) (l : Fin 2) (i : Fin 128) (j : Fin 1024) :
    REFM a0 a1 a3 (ix3 l i j) = Adamw.newM (summed a0 a1 l i j) (a3 (ix3 l i j)) := by
  pointwise [REFM, REFG_at]
  rfl

/-- The new second moment, entry by entry. -/
theorem REFV_at (a0 a1 : FVec Ideal S8x128x1024 .bf16) (a4 : FVec Ideal S2x128x1024 .f32) (l : Fin 2) (i : Fin 128) (j : Fin 1024) :
    REFV a0 a1 a4 (ix3 l i j) = Adamw.newV (summed a0 a1 l i j) (a4 (ix3 l i j)) := by
  pointwise [REFV, REFG_at]
  rfl

end Cert.Reference15Ideal.Value

namespace Cert.Kernel15Ideal.Value

open Cert.Kernel15Ideal Cert.Kernel15Ideal.Gen

variable (m : (ℓ : Loc nD τ sig) → Buf (Elt Ideal) ℓ)

open Cert.Reference15Ideal.Value (REFG REFG_at REFD REFD_at REFM REFM_at REFV REFV_at summed)

/-- Where each window's block sits at grid point `t`. -/
theorem idx_val : ∀ t : Fin cfg0.N, win0_0.index t = ![0, if t.val < 1 then t.val else 0, 0]
    ∧ win0_1.index t = ![0, t.val - 1, 0]
    ∧ win0_2.index t = ![t.val / 1, t.val % 1, 0]
    ∧ win0_3.index t = ![t.val / 1, t.val % 1, 0]
    ∧ win0_4.index t = ![t.val / 1, t.val % 1, 0]
    ∧ win0_5.index t = ![t.val / 1, t.val % 1, 0]
    ∧ win0_6.index t = ![t.val / 1, t.val % 1, 0]
    ∧ win0_7.index t = ![t.val / 1, t.val % 1, 0]
    ∧ win0_8.index t = ![t.val / 1, t.val % 1, 0] :=
  (by decide +kernel : ∀ t : Fin grid0.N, _)

/-- The first grid coordinate tells the layers apart. -/
theorem layer_sel : ∀ t : Fin cfg0.N, Scalar.cmpi .eq (BitVec.ofNat 32 (grid0.coords t 0).val) 0#32 = if t.val < 1 then 1#1 else 0#1 :=
  (by decide +kernel : ∀ t : Fin grid0.N, _)

/-- There are 2 grid points. -/
theorem pt_lt (t : Fin cfg0.N) : t.val < 2 := t.isLt.trans_eq N_0

/-- The layer of grid point `t`. -/
def layer (t : Fin cfg0.N) : Fin 2 := ⟨t.val / 1, by have := pt_lt t; omega⟩

/-- Row `r` of the parts' block at grid point `t`, in the whole array. -/
def row (t : Fin cfg0.N) (r : Fin 128) : Fin 128 := ⟨t.val % 1 * 128 + r.val, by have := pt_lt t; have := r.isLt; omega⟩

/-- The eight slots of the first array, added in order. -/
theorem slots0 (x : Vec Ideal S8x128x1024 .bf16) (r : Fin 128) (j : Fin 1024) :
    k0_pay3 (View.ld x r0_0) (View.ld x r0_1) (View.ld x r0_2) (View.ld x r0_3) (View.ld x r0_4) (View.ld x r0_5) (View.ld x r0_6) (View.ld x r0_7) (ix2 r j) = ∑ s : Fin 8, x (ix3 s r j) := by
  pointwise [k0_pay3]
  rw [Fin.sum_univ_eight]

/-- Of the two layers' sums the kernel keeps the one the flag asks for. -/
theorem slots1 (b : BitVec 1) (u : FVec Ideal S128x1024 .f32) (x : Vec Ideal S8x128x1024 .bf16) (r : Fin 128) (j : Fin 1024) :
    k0_pay4 b u (View.ld x r0_0) (View.ld x r0_1) (View.ld x r0_2) (View.ld x r0_3) (View.ld x r0_4) (View.ld x r0_5) (View.ld x r0_6) (View.ld x r0_7) (ix2 r j) = if b = 1#1 then u (ix2 r j) else ∑ s : Fin 8, x (ix3 s r j) := by
  rw [Fin.sum_univ_eight]
  obtain rfl | rfl : b = 1#1 ∨ b = 0#1 := by revert b; decide
  · rw [if_pos rfl]
    have hs : ∀ v w : FVec Ideal S128x1024 .f32, Scalar.select 1#1 v w = v := fun v w => if_pos (by decide)
    pointwise [k0_pay4, hs]
  · rw [if_neg (by decide)]
    have hs : ∀ v w : FVec Ideal S128x1024 .f32, Scalar.select 0#1 v w = w := fun v w => if_neg (by decide)
    pointwise [k0_pay4, hs]

/-- The parts' block for layer 0. -/
theorem blk0 (c : Dev nD) (t : Fin cfg0.N) (h : t.val < 1) (s : Fin 8) (r : Fin 128) (j : Fin 1024) :
    iblk m c 0 t (ix3 s r j) = (m ((c : Thread nD τ).loc main_arg0)) (ix3 s (row t r) j) := by
  unfold row; blk_point [iblk, V, idx_val t, if_pos h, Nat.mod_eq_of_lt h]

/-- The parts' block for layer 1. -/
theorem blk1 (c : Dev nD) (t : Fin cfg0.N) (h : ¬t.val < 1) (s : Fin 8) (r : Fin 128) (j : Fin 1024) :
    iblk m c 1 t (ix3 s r j) = (m ((c : Thread nD τ).loc main_arg1)) (ix3 s (row t r) j) := by
  have := pt_lt t
  have : t.val % 1 = t.val - 1 := by omega
  unfold row; blk_point [iblk, V, idx_val t]

/-- The block of the weights. -/
theorem blk2 (c : Dev nD) (t : Fin cfg0.N) (r : Fin 128) (j : Fin 1024) :
    iblk m c 2 t (ix3 0 r j) = (m ((c : Thread nD τ).loc main_arg2)) (ix3 (layer t) (row t r) j) := by
  unfold row layer; blk_point [iblk, V, idx_val t]

/-- The block of the first moment. -/
theorem blk3 (c : Dev nD) (t : Fin cfg0.N) (r : Fin 128) (j : Fin 1024) :
    iblk m c 3 t (ix3 0 r j) = (m ((c : Thread nD τ).loc main_arg3)) (ix3 (layer t) (row t r) j) := by
  unfold row layer; blk_point [iblk, V, idx_val t]

/-- The block of the second moment. -/
theorem blk4 (c : Dev nD) (t : Fin cfg0.N) (r : Fin 128) (j : Fin 1024) :
    iblk m c 4 t (ix3 0 r j) = (m ((c : Thread nD τ).loc main_arg4)) (ix3 (layer t) (row t r) j) := by
  unfold row layer; blk_point [iblk, V, idx_val t]

/-- The gradient a grid point sums, in the arrays. -/
def grad (c : Dev nD) (t : Fin cfg0.N) : FVec Ideal S128x1024 .f32 :=
  k0_pay9 (grid0.coords t) (iblk m c 0 t) (iblk m c 1 t) (iblk m c 2 t) (iblk m c 3 t) (iblk m c 4 t)

/-- The gradient a grid point sums is the reference's. -/
theorem grad_at (c : Dev nD) (t : Fin cfg0.N) (r : Fin 128) (j : Fin 1024) :
    grad m c t (ix2 r j) = summed (m ((c : Thread nD τ).loc main_arg0)) (m ((c : Thread nD τ).loc main_arg1)) (layer t) (row t r) j := by
  unfold grad k0_pay9 summed
  refine (slots1 _ _ _ r j).trans ?_
  rw [layer_sel]
  have hl : (layer t).val = t.val / 1 := rfl
  have := pt_lt t
  by_cases h : t.val < 1
  · rw [if_pos h, if_pos rfl, if_pos (by omega)]
    exact (slots0 _ r j).trans (Fin.sum_fin_congr fun s => blk0 m c t h s r j)
  · rw [if_neg h, if_neg (by decide), if_neg (by omega)]
    exact Fin.sum_fin_congr fun s => blk1 m c t h s r j

/-! What each output stores, from the summed gradient and the blocks. -/

/-- The gradient itself. -/
theorem payG (g : FVec Ideal S128x1024 .f32) (r : Fin 128) (j : Fin 1024) : k0_pay5 g (ix3 0 r j) = g (ix2 r j) := by
  pointwise [k0_pay5]

/-- The step. -/
theorem payD (g : FVec Ideal S128x1024 .f32) (w mu nu : Vec Ideal S1x128x1024 .f32) (r : Fin 128) (j : Fin 1024) :
    k0_pay8 g (View.ld w r0_8) (View.ld mu r0_8) (View.ld nu r0_8) (ix3 0 r j)
      = Adamw.delta (g (ix2 r j)) (w (ix3 0 r j)) (mu (ix3 0 r j)) (nu (ix3 0 r j)) := by
  pointwise [k0_pay8, k0_pay6, k0_pay7]
  rfl

/-- The new first moment. -/
theorem payM (g : FVec Ideal S128x1024 .f32) (mu : Vec Ideal S1x128x1024 .f32) (r : Fin 128) (j : Fin 1024) :
    k0_pay1 (k0_pay6 g (View.ld mu r0_8)) (ix3 0 r j) = Adamw.newM (g (ix2 r j)) (mu (ix3 0 r j)) := by
  pointwise [k0_pay1, k0_pay6]
  rfl

/-- The new second moment. -/
theorem payV (g : FVec Ideal S128x1024 .f32) (nu : Vec Ideal S1x128x1024 .f32) (r : Fin 128) (j : Fin 1024) :
    k0_pay2 (k0_pay7 g (View.ld nu r0_8)) (ix3 0 r j) = Adamw.newV (g (ix2 r j)) (nu (ix3 0 r j)) := by
  pointwise [k0_pay2, k0_pay7]
  rfl

/-- The summed gradient a grid point stores is the reference's, where it lands. -/
theorem point5 (c : Dev nD) (t : Fin cfg0.N) (y) :
    out0_5 (grid0.coords t) (iblk m c 0 t) (iblk m c 1 t) (iblk m c 2 t) (iblk m c 3 t) (iblk m c 4 t) y
      = REFG (m ((c : Thread nD τ).loc main_arg0)) (m ((c : Thread nD τ).loc main_arg1)) (((cfg0.win 5).blk t).view.emb y) := by
  have he : ((win0_5.blk t).view.emb y : S2x128x1024.Idx) = ix3 (layer t) (row t (y 1)) (y 2) := by
    unfold row layer; blk_ext [idx_val t]
  refine Eq.trans ?_ ((congrArg _ he).trans (REFG_at _ _ _ _ _)).symm
  canon_tiles x h
  have e1 : y 1 = x 1 := Fin.ext h1
  have e2 : y 2 = x 2 := Fin.ext h2
  rw [e1, e2]
  rw [eq_ix3 x, Fin.fin_one_eq_zero (x 0)]
  refine (payG (grad m c t) _ _).trans ?_
  rw [grad_at m c t (x 1) (x 2)]
  rfl

/-- The array of the summed gradient is the reference's. -/
theorem final5 (c : Dev nD) : (dats m 0 c).arrAt 5 (cfgs 0).N = REFG (m ((c : Thread nD τ).loc main_arg0)) (m ((c : Thread nD τ).loc main_arg1)) := by
  refine (dats m 0 c).arrAt_eq_of_covers 5 _ (by decide +kernel) fun t hf y => ?_
  blk_simp; rw [after0_5]
  exact point5 m c t y

/-- The step a grid point stores is the reference's, where it lands. -/
theorem point6 (c : Dev nD) (t : Fin cfg0.N) (y) :
    out0_6 (grid0.coords t) (iblk m c 0 t) (iblk m c 1 t) (iblk m c 2 t) (iblk m c 3 t) (iblk m c 4 t) y
      = REFD (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have he : ((win0_6.blk t).view.emb y : S2x128x1024.Idx) = ix3 (layer t) (row t (y 1)) (y 2) := by
    unfold row layer; blk_ext [idx_val t]
  refine Eq.trans ?_ ((congrArg _ he).trans (REFD_at _ _ _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payD (grad m c t) _ _ _ _ _).trans ?_
  rw [grad_at m c t (x 1) (x 2), blk2 m c t (x 1) (x 2), blk3 m c t (x 1) (x 2), blk4 m c t (x 1) (x 2)]
  rfl

/-- The array of the step is the reference's. -/
theorem final6 (c : Dev nD) : (dats m 0 c).arrAt 6 (cfgs 0).N = REFD (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  exact point6 m c t y

/-- The new first moment a grid point stores is the reference's, where it lands. -/
theorem point7 (c : Dev nD) (t : Fin cfg0.N) (y) :
    out0_7 (grid0.coords t) (iblk m c 0 t) (iblk m c 1 t) (iblk m c 2 t) (iblk m c 3 t) (iblk m c 4 t) y
      = REFM (m ((c : Thread nD τ).loc main_arg0)) (m ((c : Thread nD τ).loc main_arg1)) (m ((c : Thread nD τ).loc main_arg3)) (((cfg0.win 7).blk t).view.emb y) := by
  have he : ((win0_7.blk t).view.emb y : S2x128x1024.Idx) = ix3 (layer t) (row t (y 1)) (y 2) := by
    unfold row layer; blk_ext [idx_val t]
  refine Eq.trans ?_ ((congrArg _ he).trans (REFM_at _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payM (grad m c t) _ _ _).trans ?_
  rw [grad_at m c t (x 1) (x 2), blk3 m c t (x 1) (x 2)]
  rfl

/-- The array of the new first moment is the reference's. -/
theorem final7 (c : Dev nD) : (dats m 0 c).arrAt 7 (cfgs 0).N = REFM (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp; rw [after0_7]
  exact point7 m c t y

/-- The new second moment a grid point stores is the reference's, where it lands. -/
theorem point8 (c : Dev nD) (t : Fin cfg0.N) (y) :
    out0_8 (grid0.coords t) (iblk m c 0 t) (iblk m c 1 t) (iblk m c 2 t) (iblk m c 3 t) (iblk m c 4 t) y
      = REFV (m ((c : Thread nD τ).loc main_arg0)) (m ((c : Thread nD τ).loc main_arg1)) (m ((c : Thread nD τ).loc main_arg4)) (((cfg0.win 8).blk t).view.emb y) := by
  have he : ((win0_8.blk t).view.emb y : S2x128x1024.Idx) = ix3 (layer t) (row t (y 1)) (y 2) := by
    unfold row layer; blk_ext [idx_val t]
  refine Eq.trans ?_ ((congrArg _ he).trans (REFV_at _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payV (grad m c t) _ _ _).trans ?_
  rw [grad_at m c t (x 1) (x 2), blk4 m c t (x 1) (x 2)]
  rfl

/-- The array of the new second moment is the reference's. -/
theorem final8 (c : Dev nD) : (dats m 0 c).arrAt 8 (cfgs 0).N = REFV (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp; rw [after0_8]
  exact point8 m c t y

end Cert.Kernel15Ideal.Value

end
-- ==== Proof.ClaimAdamwOut.lean ====
/- The frames of the two programs for the optimiser's step of the output projection, and their equality over the extended reals. -/
module

public import proofs.«01_k».proof.Defs
public import proofs.«01_k».proof.Proof.AdamwOut
public import proofs.«01_k».proof.Proof.Gen.Kernel15.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference15 : Cert.quiescent_Reference15Ideal := fun m g _ =>
  (θ_run Cert.Reference15Ideal.defs _ _).mono (fun r h => ⟨fun c => (h c).2.2.2.2, sem_eq_zero_of_no_sems (by decide) r.2⟩)
    (Cert.Reference15Ideal.Value.run m g)

/-- The kernel's results are the reference's. -/
theorem algebraic15 : Cert.algebraic_Kernel15Ideal_Reference15Ideal := by
  pair_intro
  · run_from Cert.Kernel15Ideal.Value.run_blocks m g
  · refine (θ_run Cert.Reference15Ideal.defs _ _).mono (fun r h c => ?_) (Cert.Reference15Ideal.Value.run m' g')
    obtain ⟨e0, e1, e2, e3, e4⟩ := hagree c
    refine ⟨(h c).1.trans ?_, (h c).2.1.trans ?_, (h c).2.2.1.trans ?_, (h c).2.2.2.1.trans ?_, (h c).2.2.2.2⟩
    · refine Eq.trans (b := Cert.Reference15Ideal.Value.REFG (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1))) rfl ?_
      rw [e0, e1]
      exact (Cert.Kernel15Ideal.Value.final5 m c).symm
    · refine Eq.trans (b := Cert.Reference15Ideal.Value.REFD (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) (m' ((c.tc : Thread Cert.Reference15Ideal.nD Cert.Reference15Ideal.τ).loc Cert.Reference15Ideal.main_arg4))) rfl ?_
      rw [e0, e1, e2, e3, e4]
      exact (Cert.Kernel15Ideal.Value.final6 m c).symm
    · refine Eq.trans (b := Cert.Reference15Ideal.Value.REFM (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg3))) rfl ?_
      rw [e0, e1, e3]
      exact (Cert.Kernel15Ideal.Value.final7 m c).symm
    · refine Eq.trans (b := Cert.Reference15Ideal.Value.REFV (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg4))) rfl ?_
      rw [e0, e1, e4]
      exact (Cert.Kernel15Ideal.Value.final8 m c).symm

end Cert.Proof

end
-- ==== Proof.AdamwUp.lean ====
/- What the summed gradient and the optimiser's step of the up projection compute. The kernel adds the eight devices' parts
   slot by slot, layer 0 from one array and layer 1 from the other, and updates the moments and the weights entry by entry. -/
module

public import proofs.«01_k».proof.Proof.Gen.Kernel16Ideal.Value
public import proofs.«01_k».proof.Proof.Gen.Reference16Ideal.Run
public import Idealize.ShloMosaic.Lib.Pipeline.ValueKit
public import proofs.«01_k».proof.Proof.Adamw

@[expose] public section

set_option maxRecDepth 16384

noncomputable section

open Idealize.ShloMosaic Idealize.ShloMosaic.TcCoe Idealize.SL.Sem
open Idealize.ShloMosaic.Pipeline (Dat)

namespace Cert.Reference16Ideal.Value

open Cert.Reference16Ideal Cert.Reference16Ideal.Gen

/-- The reference's summed gradient. -/
def REFG (a0 a1 : FVec Ideal S8x1024x512 .bf16) : FVec Ideal S2x1024x512 .f32 :=
  concatenate S2x1024x512 0 [⟨S1x1024x512, (broadcastInDim S1x1024x512 ![1, 2] bcast_S1024x512_S1x1024x512_1_2 (Host.reduceAdd (extf .f32 a0 bitsLt_bf16_f32) (constant S_ .f32 0x00000000#32) reducesTo_S8x1024x512_S1024x512_d0 h_S_))⟩, ⟨S1x1024x512, (broadcastInDim S1x1024x512 ![1, 2] bcast_S1024x512_S1x1024x512_1_2 (Host.reduceAdd (extf .f32 a1 bitsLt_bf16_f32) (constant S_ .f32 0x00000000#32) reducesTo_S8x1024x512_S1024x512_d0 h_S_))⟩] concatenates_S1x1024x512_S1x1024x512_S2x1024x512_d0

/-- The reference's step. -/
def REFD (a0 a1 : FVec Ideal S8x1024x512 .bf16) (a2 : FVec Ideal S2x1024x512 .f32) (a3 : FVec Ideal S2x1024x512 .f32) (a4 : FVec Ideal S2x1024x512 .f32) : FVec Ideal S2x1024x512 .f32 :=
  mulf (broadcastInDim S2x1024x512 ![] bcast_S_S2x1024x512 (constant S_ .f32 0xBA83126F#32)) (addf (Host.divf (Host.divf (addf (mulf (broadcastInDim S2x1024x512 ![] bcast_S_S2x1024x512 (constant S_ .f32 0x3F666666#32)) a3) (mulf (broadcastInDim S2x1024x512 ![] bcast_S_S2x1024x512 (constant S_ .f32 0x3DCCCCCD#32)) (REFG a0 a1))) (broadcastInDim S2x1024x512 ![] bcast_S_S2x1024x512 (constant S_ .f32 0x3F26BD02#32))) (addf (Host.sqrt (Host.divf (addf (mulf (broadcastInDim S2x1024x512 ![] bcast_S_S2x1024x512 (constant S_ .f32 0x3F7FBE77#32)) a4) (mulf (broadcastInDim S2x1024x512 ![] bcast_S_S2x1024x512 (constant S_ .f32 0x3A83126F#32)) (mulf (REFG a0 a1) (REFG a0 a1)))) (broadcastInDim S2x1024x512 ![] bcast_S_S2x1024x512 (constant S_ .f32 0x3C231ACC#32)))) (broadcastInDim S2x1024x512 ![] bcast_S_S2x1024x512 (constant S_ .f32 0x322BCC77#32)))) (mulf (broadcastInDim S2x1024x512 ![] bcast_S_S2x1024x512 (constant S_ .f32 0x3C23D70A#32)) a2))

/-- The reference's new first moment. -/
def REFM (a0 a1 : FVec Ideal S8x1024x512 .bf16) (a3 : FVec Ideal S2x1024x512 .f32) : FVec Ideal S2x1024x512 .f32 :=
  addf (mulf (broadcastInDim S2x1024x512 ![] bcast_S_S2x1024x512 (constant S_ .f32 0x3F666666#32)) a3) (mulf (broadcastInDim S2x1024x512 ![] bcast_S_S2x1024x512 (constant S_ .f32 0x3DCCCCCD#32)) (REFG a0 a1))

/-- The reference's new second moment. -/
def REFV (a0 a1 : FVec Ideal S8x1024x512 .bf16) (a4 : FVec Ideal S2x1024x512 .f32) : FVec Ideal S2x1024x512 .f32 :=
  addf (mulf (broadcastInDim S2x1024x512 ![] bcast_S_S2x1024x512 (constant S_ .f32 0x3F7FBE77#32)) a4) (mulf (broadcastInDim S2x1024x512 ![] bcast_S_S2x1024x512 (constant S_ .f32 0x3A83126F#32)) (mulf (REFG a0 a1) (REFG a0 a1)))

/-- The eight parts of a layer, added at one entry. -/
def summed (a0 a1 : FVec Ideal S8x1024x512 .bf16) (l : Fin 2) (i : Fin 1024) (j : Fin 512) : EReal :=
  if l.val = 0 then ∑ s : Fin 8, a0 (ix3 s i j) else ∑ s : Fin 8, a1 (ix3 s i j)

/-- The summed gradient, entry by entry. -/
theorem REFG_at (a0 a1 : FVec Ideal S8x1024x512 .bf16) (l : Fin 2) (i : Fin 1024) (j : Fin 512) : REFG a0 a1 (ix3 l i j) = summed a0 a1 l i j := by
  pointwise [REFG, summed]
  match l with
  | ⟨0, _⟩ => rfl
  | ⟨1, _⟩ => rfl

/-- The step, entry by entry. -/
theorem REFD_at (a0 a1 : FVec Ideal S8x1024x512 .bf16) (a2 : FVec Ideal S2x1024x512 .f32) (a3 : FVec Ideal S2x1024x512 .f32) (a4 : FVec Ideal S2x1024x512 .f32) (l : Fin 2) (i : Fin 1024) (j : Fin 512) :
    REFD a0 a1 a2 a3 a4 (ix3 l i j) = Adamw.delta (summed a0 a1 l i j) (a2 (ix3 l i j)) (a3 (ix3 l i j)) (a4 (ix3 l i j)) := by
  pointwise [REFD, REFG_at]
  rfl

/-- The new first moment, entry by entry. -/
theorem REFM_at (a0 a1 : FVec Ideal S8x1024x512 .bf16) (a3 : FVec Ideal S2x1024x512 .f32) (l : Fin 2) (i : Fin 1024) (j : Fin 512) :
    REFM a0 a1 a3 (ix3 l i j) = Adamw.newM (summed a0 a1 l i j) (a3 (ix3 l i j)) := by
  pointwise [REFM, REFG_at]
  rfl

/-- The new second moment, entry by entry. -/
theorem REFV_at (a0 a1 : FVec Ideal S8x1024x512 .bf16) (a4 : FVec Ideal S2x1024x512 .f32) (l : Fin 2) (i : Fin 1024) (j : Fin 512) :
    REFV a0 a1 a4 (ix3 l i j) = Adamw.newV (summed a0 a1 l i j) (a4 (ix3 l i j)) := by
  pointwise [REFV, REFG_at]
  rfl

end Cert.Reference16Ideal.Value

namespace Cert.Kernel16Ideal.Value

open Cert.Kernel16Ideal Cert.Kernel16Ideal.Gen

variable (m : (ℓ : Loc nD τ sig) → Buf (Elt Ideal) ℓ)

open Cert.Reference16Ideal.Value (REFG REFG_at REFD REFD_at REFM REFM_at REFV REFV_at summed)

/-- Where each window's block sits at grid point `t`. -/
theorem idx_val : ∀ t : Fin cfg0.N, win0_0.index t = ![0, if t.val < 4 then t.val else 3, 0]
    ∧ win0_1.index t = ![0, t.val - 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The first grid coordinate tells the layers apart. -/
theorem layer_sel : ∀ t : Fin cfg0.N, Scalar.cmpi .eq (BitVec.ofNat 32 (grid0.coords t 0).val) 0#32 = if t.val < 4 then 1#1 else 0#1 :=
  (by decide +kernel : ∀ t : Fin grid0.N, _)

/-- There are 8 grid points. -/
theorem pt_lt (t : Fin cfg0.N) : t.val < 8 := t.isLt.trans_eq N_0

/-- The layer of grid point `t`. -/
def layer (t : Fin cfg0.N) : Fin 2 := ⟨t.val / 4, by have := pt_lt t; omega⟩

/-- Row `r` of the parts' block at grid point `t`, in the whole array. -/
def row (t : Fin cfg0.N) (r : Fin 256) : Fin 1024 := ⟨t.val % 4 * 256 + r.val, by have := pt_lt t; have := r.isLt; omega⟩

/-- The eight slots of the first array, added in order. -/
theorem slots0 (x : Vec Ideal S8x256x512 .bf16) (r : Fin 256) (j : Fin 512) :
    k0_pay3 (View.ld x r0_0) (View.ld x r0_1) (View.ld x r0_2) (View.ld x r0_3) (View.ld x r0_4) (View.ld x r0_5) (View.ld x r0_6) (View.ld x r0_7) (ix2 r j) = ∑ s : Fin 8, x (ix3 s r j) := by
  pointwise [k0_pay3]
  rw [Fin.sum_univ_eight]

/-- Of the two layers' sums the kernel keeps the one the flag asks for. -/
theorem slots1 (b : BitVec 1) (u : FVec Ideal S256x512 .f32) (x : Vec Ideal S8x256x512 .bf16) (r : Fin 256) (j : Fin 512) :
    k0_pay4 b u (View.ld x r0_0) (View.ld x r0_1) (View.ld x r0_2) (View.ld x r0_3) (View.ld x r0_4) (View.ld x r0_5) (View.ld x r0_6) (View.ld x r0_7) (ix2 r j) = if b = 1#1 then u (ix2 r j) else ∑ s : Fin 8, x (ix3 s r j) := by
  rw [Fin.sum_univ_eight]
  obtain rfl | rfl : b = 1#1 ∨ b = 0#1 := by revert b; decide
  · rw [if_pos rfl]
    have hs : ∀ v w : FVec Ideal S256x512 .f32, Scalar.select 1#1 v w = v := fun v w => if_pos (by decide)
    pointwise [k0_pay4, hs]
  · rw [if_neg (by decide)]
    have hs : ∀ v w : FVec Ideal S256x512 .f32, Scalar.select 0#1 v w = w := fun v w => if_neg (by decide)
    pointwise [k0_pay4, hs]

/-- The parts' block for layer 0. -/
theorem blk0 (c : Dev nD) (t : Fin cfg0.N) (h : t.val < 4) (s : Fin 8) (r : Fin 256) (j : Fin 512) :
    iblk m c 0 t (ix3 s r j) = (m ((c : Thread nD τ).loc main_arg0)) (ix3 s (row t r) j) := by
  unfold row; blk_point [iblk, V, idx_val t, if_pos h, Nat.mod_eq_of_lt h]

/-- The parts' block for layer 1. -/
theorem blk1 (c : Dev nD) (t : Fin cfg0.N) (h : ¬t.val < 4) (s : Fin 8) (r : Fin 256) (j : Fin 512) :
    iblk m c 1 t (ix3 s r j) = (m ((c : Thread nD τ).loc main_arg1)) (ix3 s (row t r) j) := by
  have := pt_lt t
  have : t.val % 4 = t.val - 4 := by omega
  unfold row; blk_point [iblk, V, idx_val t]

/-- The block of the weights. -/
theorem blk2 (c : Dev nD) (t : Fin cfg0.N) (r : Fin 256) (j : Fin 512) :
    iblk m c 2 t (ix3 0 r j) = (m ((c : Thread nD τ).loc main_arg2)) (ix3 (layer t) (row t r) j) := by
  unfold row layer; blk_point [iblk, V, idx_val t]

/-- The block of the first moment. -/
theorem blk3 (c : Dev nD) (t : Fin cfg0.N) (r : Fin 256) (j : Fin 512) :
    iblk m c 3 t (ix3 0 r j) = (m ((c : Thread nD τ).loc main_arg3)) (ix3 (layer t) (row t r) j) := by
  unfold row layer; blk_point [iblk, V, idx_val t]

/-- The block of the second moment. -/
theorem blk4 (c : Dev nD) (t : Fin cfg0.N) (r : Fin 256) (j : Fin 512) :
    iblk m c 4 t (ix3 0 r j) = (m ((c : Thread nD τ).loc main_arg4)) (ix3 (layer t) (row t r) j) := by
  unfold row layer; blk_point [iblk, V, idx_val t]

/-- The gradient a grid point sums, in the arrays. -/
def grad (c : Dev nD) (t : Fin cfg0.N) : FVec Ideal S256x512 .f32 :=
  k0_pay9 (grid0.coords t) (iblk m c 0 t) (iblk m c 1 t) (iblk m c 2 t) (iblk m c 3 t) (iblk m c 4 t)

/-- The gradient a grid point sums is the reference's. -/
theorem grad_at (c : Dev nD) (t : Fin cfg0.N) (r : Fin 256) (j : Fin 512) :
    grad m c t (ix2 r j) = summed (m ((c : Thread nD τ).loc main_arg0)) (m ((c : Thread nD τ).loc main_arg1)) (layer t) (row t r) j := by
  unfold grad k0_pay9 summed
  refine (slots1 _ _ _ r j).trans ?_
  rw [layer_sel]
  have hl : (layer t).val = t.val / 4 := rfl
  have := pt_lt t
  by_cases h : t.val < 4
  · rw [if_pos h, if_pos rfl, if_pos (by omega)]
    exact (slots0 _ r j).trans (Fin.sum_fin_congr fun s => blk0 m c t h s r j)
  · rw [if_neg h, if_neg (by decide), if_neg (by omega)]
    exact Fin.sum_fin_congr fun s => blk1 m c t h s r j

/-! What each output stores, from the summed gradient and the blocks. -/

/-- The gradient itself. -/
theorem payG (g : FVec Ideal S256x512 .f32) (r : Fin 256) (j : Fin 512) : k0_pay5 g (ix3 0 r j) = g (ix2 r j) := by
  pointwise [k0_pay5]

/-- The step. -/
theorem payD (g : FVec Ideal S256x512 .f32) (w mu nu : Vec Ideal S1x256x512 .f32) (r : Fin 256) (j : Fin 512) :
    k0_pay8 g (View.ld w r0_8) (View.ld mu r0_8) (View.ld nu r0_8) (ix3 0 r j)
      = Adamw.delta (g (ix2 r j)) (w (ix3 0 r j)) (mu (ix3 0 r j)) (nu (ix3 0 r j)) := by
  pointwise [k0_pay8, k0_pay6, k0_pay7]
  rfl

/-- The new first moment. -/
theorem payM (g : FVec Ideal S256x512 .f32) (mu : Vec Ideal S1x256x512 .f32) (r : Fin 256) (j : Fin 512) :
    k0_pay1 (k0_pay6 g (View.ld mu r0_8)) (ix3 0 r j) = Adamw.newM (g (ix2 r j)) (mu (ix3 0 r j)) := by
  pointwise [k0_pay1, k0_pay6]
  rfl

/-- The new second moment. -/
theorem payV (g : FVec Ideal S256x512 .f32) (nu : Vec Ideal S1x256x512 .f32) (r : Fin 256) (j : Fin 512) :
    k0_pay2 (k0_pay7 g (View.ld nu r0_8)) (ix3 0 r j) = Adamw.newV (g (ix2 r j)) (nu (ix3 0 r j)) := by
  pointwise [k0_pay2, k0_pay7]
  rfl

/-- The summed gradient a grid point stores is the reference's, where it lands. -/
theorem point5 (c : Dev nD) (t : Fin cfg0.N) (y) :
    out0_5 (grid0.coords t) (iblk m c 0 t) (iblk m c 1 t) (iblk m c 2 t) (iblk m c 3 t) (iblk m c 4 t) y
      = REFG (m ((c : Thread nD τ).loc main_arg0)) (m ((c : Thread nD τ).loc main_arg1)) (((cfg0.win 5).blk t).view.emb y) := by
  have he : ((win0_5.blk t).view.emb y : S2x1024x512.Idx) = ix3 (layer t) (row t (y 1)) (y 2) := by
    unfold row layer; blk_ext [idx_val t]
  refine Eq.trans ?_ ((congrArg _ he).trans (REFG_at _ _ _ _ _)).symm
  canon_tiles x h
  have e1 : y 1 = x 1 := Fin.ext h1
  have e2 : y 2 = x 2 := Fin.ext h2
  rw [e1, e2]
  rw [eq_ix3 x, Fin.fin_one_eq_zero (x 0)]
  refine (payG (grad m c t) _ _).trans ?_
  rw [grad_at m c t (x 1) (x 2)]
  rfl

/-- The array of the summed gradient is the reference's. -/
theorem final5 (c : Dev nD) : (dats m 0 c).arrAt 5 (cfgs 0).N = REFG (m ((c : Thread nD τ).loc main_arg0)) (m ((c : Thread nD τ).loc main_arg1)) := by
  refine (dats m 0 c).arrAt_eq_of_covers 5 _ (by decide +kernel) fun t hf y => ?_
  blk_simp; rw [after0_5]
  exact point5 m c t y

/-- The step a grid point stores is the reference's, where it lands. -/
theorem point6 (c : Dev nD) (t : Fin cfg0.N) (y) :
    out0_6 (grid0.coords t) (iblk m c 0 t) (iblk m c 1 t) (iblk m c 2 t) (iblk m c 3 t) (iblk m c 4 t) y
      = REFD (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have he : ((win0_6.blk t).view.emb y : S2x1024x512.Idx) = ix3 (layer t) (row t (y 1)) (y 2) := by
    unfold row layer; blk_ext [idx_val t]
  refine Eq.trans ?_ ((congrArg _ he).trans (REFD_at _ _ _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payD (grad m c t) _ _ _ _ _).trans ?_
  rw [grad_at m c t (x 1) (x 2), blk2 m c t (x 1) (x 2), blk3 m c t (x 1) (x 2), blk4 m c t (x 1) (x 2)]
  rfl

/-- The array of the step is the reference's. -/
theorem final6 (c : Dev nD) : (dats m 0 c).arrAt 6 (cfgs 0).N = REFD (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  exact point6 m c t y

/-- The new first moment a grid point stores is the reference's, where it lands. -/
theorem point7 (c : Dev nD) (t : Fin cfg0.N) (y) :
    out0_7 (grid0.coords t) (iblk m c 0 t) (iblk m c 1 t) (iblk m c 2 t) (iblk m c 3 t) (iblk m c 4 t) y
      = REFM (m ((c : Thread nD τ).loc main_arg0)) (m ((c : Thread nD τ).loc main_arg1)) (m ((c : Thread nD τ).loc main_arg3)) (((cfg0.win 7).blk t).view.emb y) := by
  have he : ((win0_7.blk t).view.emb y : S2x1024x512.Idx) = ix3 (layer t) (row t (y 1)) (y 2) := by
    unfold row layer; blk_ext [idx_val t]
  refine Eq.trans ?_ ((congrArg _ he).trans (REFM_at _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payM (grad m c t) _ _ _).trans ?_
  rw [grad_at m c t (x 1) (x 2), blk3 m c t (x 1) (x 2)]
  rfl

/-- The array of the new first moment is the reference's. -/
theorem final7 (c : Dev nD) : (dats m 0 c).arrAt 7 (cfgs 0).N = REFM (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp; rw [after0_7]
  exact point7 m c t y

/-- The new second moment a grid point stores is the reference's, where it lands. -/
theorem point8 (c : Dev nD) (t : Fin cfg0.N) (y) :
    out0_8 (grid0.coords t) (iblk m c 0 t) (iblk m c 1 t) (iblk m c 2 t) (iblk m c 3 t) (iblk m c 4 t) y
      = REFV (m ((c : Thread nD τ).loc main_arg0)) (m ((c : Thread nD τ).loc main_arg1)) (m ((c : Thread nD τ).loc main_arg4)) (((cfg0.win 8).blk t).view.emb y) := by
  have he : ((win0_8.blk t).view.emb y : S2x1024x512.Idx) = ix3 (layer t) (row t (y 1)) (y 2) := by
    unfold row layer; blk_ext [idx_val t]
  refine Eq.trans ?_ ((congrArg _ he).trans (REFV_at _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payV (grad m c t) _ _ _).trans ?_
  rw [grad_at m c t (x 1) (x 2), blk4 m c t (x 1) (x 2)]
  rfl

/-- The array of the new second moment is the reference's. -/
theorem final8 (c : Dev nD) : (dats m 0 c).arrAt 8 (cfgs 0).N = REFV (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp; rw [after0_8]
  exact point8 m c t y

end Cert.Kernel16Ideal.Value

end
-- ==== Proof.ClaimAdamwUp.lean ====
/- The frames of the two programs for the optimiser's step of the up projection, and their equality over the extended reals. -/
module

public import proofs.«01_k».proof.Defs
public import proofs.«01_k».proof.Proof.AdamwUp
public import proofs.«01_k».proof.Proof.Gen.Kernel16.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference16 : Cert.quiescent_Reference16Ideal := fun m g _ =>
  (θ_run Cert.Reference16Ideal.defs _ _).mono (fun r h => ⟨fun c => (h c).2.2.2.2, sem_eq_zero_of_no_sems (by decide) r.2⟩)
    (Cert.Reference16Ideal.Value.run m g)

/-- The kernel's results are the reference's. -/
theorem algebraic16 : Cert.algebraic_Kernel16Ideal_Reference16Ideal := by
  pair_intro
  · run_from Cert.Kernel16Ideal.Value.run_blocks m g
  · refine (θ_run Cert.Reference16Ideal.defs _ _).mono (fun r h c => ?_) (Cert.Reference16Ideal.Value.run m' g')
    obtain ⟨e0, e1, e2, e3, e4⟩ := hagree c
    refine ⟨(h c).1.trans ?_, (h c).2.1.trans ?_, (h c).2.2.1.trans ?_, (h c).2.2.2.1.trans ?_, (h c).2.2.2.2⟩
    · refine Eq.trans (b := Cert.Reference16Ideal.Value.REFG (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1))) rfl ?_
      rw [e0, e1]
      exact (Cert.Kernel16Ideal.Value.final5 m c).symm
    · refine Eq.trans (b := Cert.Reference16Ideal.Value.REFD (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4))) rfl ?_
      rw [e0, e1, e2, e3, e4]
      exact (Cert.Kernel16Ideal.Value.final6 m c).symm
    · refine Eq.trans (b := Cert.Reference16Ideal.Value.REFM (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg3))) rfl ?_
      rw [e0, e1, e3]
      exact (Cert.Kernel16Ideal.Value.final7 m c).symm
    · refine Eq.trans (b := Cert.Reference16Ideal.Value.REFV (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg4))) rfl ?_
      rw [e0, e1, e4]
      exact (Cert.Kernel16Ideal.Value.final8 m c).symm

end Cert.Proof

end
-- ==== Proof.AdamwDown.lean ====
/- What the summed gradient and the optimiser's step of the down projection compute. The kernel adds the eight devices' parts
   slot by slot, layer 0 from one array and layer 1 from the other, and updates the moments and the weights entry by entry. -/
module

public import proofs.«01_k».proof.Proof.Gen.Kernel17Ideal.Value
public import proofs.«01_k».proof.Proof.Gen.Reference17Ideal.Run
public import Idealize.ShloMosaic.Lib.Pipeline.ValueKit
public import proofs.«01_k».proof.Proof.Adamw

@[expose] public section

set_option maxRecDepth 16384

noncomputable section

open Idealize.ShloMosaic Idealize.ShloMosaic.TcCoe Idealize.SL.Sem
open Idealize.ShloMosaic.Pipeline (Dat)

namespace Cert.Reference17Ideal.Value

open Cert.Reference17Ideal Cert.Reference17Ideal.Gen

/-- The reference's summed gradient. -/
def REFG (a0 a1 : FVec Ideal S8x1024x512 .bf16) : FVec Ideal S2x512x1024 .f32 :=
  transpose S2x512x1024 [0, 2, 1] (concatenate S2x1024x512 0 [⟨S1x1024x512, (broadcastInDim S1x1024x512 ![1, 2] bcast_S1024x512_S1x1024x512_1_2 (Host.reduceAdd (extf .f32 a0 bitsLt_bf16_f32) (constant S_ .f32 0x00000000#32) reducesTo_S8x1024x512_S1024x512_d0 h_S_))⟩, ⟨S1x1024x512, (broadcastInDim S1x1024x512 ![1, 2] bcast_S1024x512_S1x1024x512_1_2 (Host.reduceAdd (extf .f32 a1 bitsLt_bf16_f32) (constant S_ .f32 0x00000000#32) reducesTo_S8x1024x512_S1024x512_d0 h_S_))⟩] concatenates_S1x1024x512_S1x1024x512_S2x1024x512_d0) transposes_S2x1024x512_S2x512x1024_0_2_1

/-- The reference's step. -/
def REFD (a0 a1 : FVec Ideal S8x1024x512 .bf16) (a2 : FVec Ideal S2x512x1024 .f32) (a3 : FVec Ideal S2x512x1024 .f32) (a4 : FVec Ideal S2x512x1024 .f32) : FVec Ideal S2x512x1024 .f32 :=
  mulf (broadcastInDim S2x512x1024 ![] bcast_S_S2x512x1024 (constant S_ .f32 0xBA83126F#32)) (addf (Host.divf (Host.divf (addf (mulf (broadcastInDim S2x512x1024 ![] bcast_S_S2x512x1024 (constant S_ .f32 0x3F666666#32)) a3) (mulf (broadcastInDim S2x512x1024 ![] bcast_S_S2x512x1024 (constant S_ .f32 0x3DCCCCCD#32)) (REFG a0 a1))) (broadcastInDim S2x512x1024 ![] bcast_S_S2x512x1024 (constant S_ .f32 0x3F26BD02#32))) (addf (Host.sqrt (Host.divf (addf (mulf (broadcastInDim S2x512x1024 ![] bcast_S_S2x512x1024 (constant S_ .f32 0x3F7FBE77#32)) a4) (mulf (broadcastInDim S2x512x1024 ![] bcast_S_S2x512x1024 (constant S_ .f32 0x3A83126F#32)) (mulf (REFG a0 a1) (REFG a0 a1)))) (broadcastInDim S2x512x1024 ![] bcast_S_S2x512x1024 (constant S_ .f32 0x3C231ACC#32)))) (broadcastInDim S2x512x1024 ![] bcast_S_S2x512x1024 (constant S_ .f32 0x322BCC77#32)))) (mulf (broadcastInDim S2x512x1024 ![] bcast_S_S2x512x1024 (constant S_ .f32 0x3C23D70A#32)) a2))

/-- The reference's new first moment. -/
def REFM (a0 a1 : FVec Ideal S8x1024x512 .bf16) (a3 : FVec Ideal S2x512x1024 .f32) : FVec Ideal S2x512x1024 .f32 :=
  addf (mulf (broadcastInDim S2x512x1024 ![] bcast_S_S2x512x1024 (constant S_ .f32 0x3F666666#32)) a3) (mulf (broadcastInDim S2x512x1024 ![] bcast_S_S2x512x1024 (constant S_ .f32 0x3DCCCCCD#32)) (REFG a0 a1))

/-- The reference's new second moment. -/
def REFV (a0 a1 : FVec Ideal S8x1024x512 .bf16) (a4 : FVec Ideal S2x512x1024 .f32) : FVec Ideal S2x512x1024 .f32 :=
  addf (mulf (broadcastInDim S2x512x1024 ![] bcast_S_S2x512x1024 (constant S_ .f32 0x3F7FBE77#32)) a4) (mulf (broadcastInDim S2x512x1024 ![] bcast_S_S2x512x1024 (constant S_ .f32 0x3A83126F#32)) (mulf (REFG a0 a1) (REFG a0 a1)))

/-- The eight parts of a layer, added at one entry. -/
def summed (a0 a1 : FVec Ideal S8x1024x512 .bf16) (l : Fin 2) (i : Fin 512) (j : Fin 1024) : EReal :=
  if l.val = 0 then ∑ s : Fin 8, a0 (ix3 s j i) else ∑ s : Fin 8, a1 (ix3 s j i)

/-- The summed gradient, entry by entry. -/
theorem REFG_at (a0 a1 : FVec Ideal S8x1024x512 .bf16) (l : Fin 2) (i : Fin 512) (j : Fin 1024) : REFG a0 a1 (ix3 l i j) = summed a0 a1 l i j := by
  pointwise [REFG, summed]
  match l with
  | ⟨0, _⟩ => rfl
  | ⟨1, _⟩ => rfl

/-- The step, entry by entry. -/
theorem REFD_at (a0 a1 : FVec Ideal S8x1024x512 .bf16) (a2 : FVec Ideal S2x512x1024 .f32) (a3 : FVec Ideal S2x512x1024 .f32) (a4 : FVec Ideal S2x512x1024 .f32) (l : Fin 2) (i : Fin 512) (j : Fin 1024) :
    REFD a0 a1 a2 a3 a4 (ix3 l i j) = Adamw.delta (summed a0 a1 l i j) (a2 (ix3 l i j)) (a3 (ix3 l i j)) (a4 (ix3 l i j)) := by
  pointwise [REFD, REFG_at]
  rfl

/-- The new first moment, entry by entry. -/
theorem REFM_at (a0 a1 : FVec Ideal S8x1024x512 .bf16) (a3 : FVec Ideal S2x512x1024 .f32) (l : Fin 2) (i : Fin 512) (j : Fin 1024) :
    REFM a0 a1 a3 (ix3 l i j) = Adamw.newM (summed a0 a1 l i j) (a3 (ix3 l i j)) := by
  pointwise [REFM, REFG_at]
  rfl

/-- The new second moment, entry by entry. -/
theorem REFV_at (a0 a1 : FVec Ideal S8x1024x512 .bf16) (a4 : FVec Ideal S2x512x1024 .f32) (l : Fin 2) (i : Fin 512) (j : Fin 1024) :
    REFV a0 a1 a4 (ix3 l i j) = Adamw.newV (summed a0 a1 l i j) (a4 (ix3 l i j)) := by
  pointwise [REFV, REFG_at]
  rfl

end Cert.Reference17Ideal.Value

namespace Cert.Kernel17Ideal.Value

open Cert.Kernel17Ideal Cert.Kernel17Ideal.Gen

variable (m : (ℓ : Loc nD τ sig) → Buf (Elt Ideal) ℓ)

open Cert.Reference17Ideal.Value (REFG REFG_at REFD REFD_at REFM REFM_at REFV REFV_at summed)

/-- Where each window's block sits at grid point `t`. -/
theorem idx_val : ∀ t : Fin cfg0.N, win0_0.index t = ![0, if t.val < 4 then t.val else 3, 0]
    ∧ win0_1.index t = ![0, t.val - 4, 0]
    ∧ win0_2.index t = ![t.val / 4, 0, t.val % 4]
    ∧ win0_3.index t = ![t.val / 4, 0, t.val % 4]
    ∧ win0_4.index t = ![t.val / 4, 0, t.val % 4]
    ∧ win0_5.index t = ![t.val / 4, 0, t.val % 4]
    ∧ win0_6.index t = ![t.val / 4, 0, t.val % 4]
    ∧ win0_7.index t = ![t.val / 4, 0, t.val % 4]
    ∧ win0_8.index t = ![t.val / 4, 0, t.val % 4] :=
  (by decide +kernel : ∀ t : Fin grid0.N, _)

/-- The first grid coordinate tells the layers apart. -/
theorem layer_sel : ∀ t : Fin cfg0.N, Scalar.cmpi .eq (BitVec.ofNat 32 (grid0.coords t 0).val) 0#32 = if t.val < 4 then 1#1 else 0#1 :=
  (by decide +kernel : ∀ t : Fin grid0.N, _)

/-- There are 8 grid points. -/
theorem pt_lt (t : Fin cfg0.N) : t.val < 8 := t.isLt.trans_eq N_0

/-- The layer of grid point `t`. -/
def layer (t : Fin cfg0.N) : Fin 2 := ⟨t.val / 4, by have := pt_lt t; omega⟩

/-- Row `r` of the parts' block at grid point `t`, in the whole array. -/
def row (t : Fin cfg0.N) (r : Fin 256) : Fin 1024 := ⟨t.val % 4 * 256 + r.val, by have := pt_lt t; have := r.isLt; omega⟩

/-- The eight slots of the first array, added in order. -/
theorem slots0 (x : Vec Ideal S8x256x512 .bf16) (r : Fin 256) (j : Fin 512) :
    k0_pay3 (View.ld x r0_0) (View.ld x r0_1) (View.ld x r0_2) (View.ld x r0_3) (View.ld x r0_4) (View.ld x r0_5) (View.ld x r0_6) (View.ld x r0_7) (ix2 r j) = ∑ s : Fin 8, x (ix3 s r j) := by
  pointwise [k0_pay3]
  rw [Fin.sum_univ_eight]

/-- Of the two layers' sums the kernel keeps the one the flag asks for. -/
theorem slots1 (b : BitVec 1) (u : FVec Ideal S256x512 .f32) (x : Vec Ideal S8x256x512 .bf16) (r : Fin 256) (j : Fin 512) :
    k0_pay4 b u (View.ld x r0_0) (View.ld x r0_1) (View.ld x r0_2) (View.ld x r0_3) (View.ld x r0_4) (View.ld x r0_5) (View.ld x r0_6) (View.ld x r0_7) (ix2 j r) = if b = 1#1 then u (ix2 r j) else ∑ s : Fin 8, x (ix3 s r j) := by
  rw [Fin.sum_univ_eight]
  obtain rfl | rfl : b = 1#1 ∨ b = 0#1 := by revert b; decide
  · rw [if_pos rfl]
    have hs : ∀ v w : FVec Ideal S512x256 .f32, Scalar.select 1#1 v w = v := fun v w => if_pos (by decide)
    pointwise [k0_pay4, hs]
  · rw [if_neg (by decide)]
    have hs : ∀ v w : FVec Ideal S512x256 .f32, Scalar.select 0#1 v w = w := fun v w => if_neg (by decide)
    pointwise [k0_pay4, hs]

/-- The parts' block for layer 0. -/
theorem blk0 (c : Dev nD) (t : Fin cfg0.N) (h : t.val < 4) (s : Fin 8) (r : Fin 256) (j : Fin 512) :
    iblk m c 0 t (ix3 s r j) = (m ((c : Thread nD τ).loc main_arg0)) (ix3 s (row t r) j) := by
  unfold row; blk_point [iblk, V, idx_val t, if_pos h, Nat.mod_eq_of_lt h]

/-- The parts' block for layer 1. -/
theorem blk1 (c : Dev nD) (t : Fin cfg0.N) (h : ¬t.val < 4) (s : Fin 8) (r : Fin 256) (j : Fin 512) :
    iblk m c 1 t (ix3 s r j) = (m ((c : Thread nD τ).loc main_arg1)) (ix3 s (row t r) j) := by
  have := pt_lt t
  have : t.val % 4 = t.val - 4 := by omega
  unfold row; blk_point [iblk, V, idx_val t]

/-- The block of the weights. -/
theorem blk2 (c : Dev nD) (t : Fin cfg0.N) (r : Fin 256) (j : Fin 512) :
    iblk m c 2 t (ix3 0 j r) = (m ((c : Thread nD τ).loc main_arg2)) (ix3 (layer t) j (row t r)) := by
  unfold row layer; blk_point [iblk, V, idx_val t]

/-- The block of the first moment. -/
theorem blk3 (c : Dev nD) (t : Fin cfg0.N) (r : Fin 256) (j : Fin 512) :
    iblk m c 3 t (ix3 0 j r) = (m ((c : Thread nD τ).loc main_arg3)) (ix3 (layer t) j (row t r)) := by
  unfold row layer; blk_point [iblk, V, idx_val t]

/-- The block of the second moment. -/
theorem blk4 (c : Dev nD) (t : Fin cfg0.N) (r : Fin 256) (j : Fin 512) :
    iblk m c 4 t (ix3 0 j r) = (m ((c : Thread nD τ).loc main_arg4)) (ix3 (layer t) j (row t r)) := by
  unfold row layer; blk_point [iblk, V, idx_val t]

/-- The gradient a grid point sums, in the arrays. -/
def grad (c : Dev nD) (t : Fin cfg0.N) : FVec Ideal S512x256 .f32 :=
  k0_pay9 (grid0.coords t) (iblk m c 0 t) (iblk m c 1 t) (iblk m c 2 t) (iblk m c 3 t) (iblk m c 4 t)

/-- The gradient a grid point sums is the reference's. -/
theorem grad_at (c : Dev nD) (t : Fin cfg0.N) (r : Fin 256) (j : Fin 512) :
    grad m c t (ix2 j r) = summed (m ((c : Thread nD τ).loc main_arg0)) (m ((c : Thread nD τ).loc main_arg1)) (layer t) j (row t r) := by
  unfold grad k0_pay9 summed
  refine (slots1 _ _ _ r j).trans ?_
  rw [layer_sel]
  have hl : (layer t).val = t.val / 4 := rfl
  have := pt_lt t
  by_cases h : t.val < 4
  · rw [if_pos h, if_pos rfl, if_pos (by omega)]
    exact (slots0 _ r j).trans (Fin.sum_fin_congr fun s => blk0 m c t h s r j)
  · rw [if_neg h, if_neg (by decide), if_neg (by omega)]
    exact Fin.sum_fin_congr fun s => blk1 m c t h s r j

/-! What each output stores, from the summed gradient and the blocks. -/

/-- The gradient itself. -/
theorem payG (g : FVec Ideal S512x256 .f32) (r : Fin 512) (j : Fin 256) : k0_pay5 g (ix3 0 r j) = g (ix2 r j) := by
  pointwise [k0_pay5]

/-- The step. -/
theorem payD (g : FVec Ideal S512x256 .f32) (w mu nu : Vec Ideal S1x512x256 .f32) (r : Fin 512) (j : Fin 256) :
    k0_pay8 g (View.ld w r0_8) (View.ld mu r0_8) (View.ld nu r0_8) (ix3 0 r j)
      = Adamw.delta (g (ix2 r j)) (w (ix3 0 r j)) (mu (ix3 0 r j)) (nu (ix3 0 r j)) := by
  pointwise [k0_pay8, k0_pay6, k0_pay7]
  rfl

/-- The new first moment. -/
theorem payM (g : FVec Ideal S512x256 .f32) (mu : Vec Ideal S1x512x256 .f32) (r : Fin 512) (j : Fin 256) :
    k0_pay1 (k0_pay6 g (View.ld mu r0_8)) (ix3 0 r j) = Adamw.newM (g (ix2 r j)) (mu (ix3 0 r j)) := by
  pointwise [k0_pay1, k0_pay6]
  rfl

/-- The new second moment. -/
theorem payV (g : FVec Ideal S512x256 .f32) (nu : Vec Ideal S1x512x256 .f32) (r : Fin 512) (j : Fin 256) :
    k0_pay2 (k0_pay7 g (View.ld nu r0_8)) (ix3 0 r j) = Adamw.newV (g (ix2 r j)) (nu (ix3 0 r j)) := by
  pointwise [k0_pay2, k0_pay7]
  rfl

/-- The summed gradient a grid point stores is the reference's, where it lands. -/
theorem point5 (c : Dev nD) (t : Fin cfg0.N) (y) :
    out0_5 (grid0.coords t) (iblk m c 0 t) (iblk m c 1 t) (iblk m c 2 t) (iblk m c 3 t) (iblk m c 4 t) y
      = REFG (m ((c : Thread nD τ).loc main_arg0)) (m ((c : Thread nD τ).loc main_arg1)) (((cfg0.win 5).blk t).view.emb y) := by
  have he : ((win0_5.blk t).view.emb y : S2x512x1024.Idx) = ix3 (layer t) (y 1) (row t (y 2)) := by
    unfold row layer; blk_ext [idx_val t]
  refine Eq.trans ?_ ((congrArg _ he).trans (REFG_at _ _ _ _ _)).symm
  canon_tiles x h
  have e1 : y 1 = x 1 := Fin.ext h1
  have e2 : y 2 = x 2 := Fin.ext h2
  rw [e1, e2]
  rw [eq_ix3 x, Fin.fin_one_eq_zero (x 0)]
  refine (payG (grad m c t) _ _).trans ?_
  rw [grad_at m c t (x 2) (x 1)]
  rfl

/-- The array of the summed gradient is the reference's. -/
theorem final5 (c : Dev nD) : (dats m 0 c).arrAt 5 (cfgs 0).N = REFG (m ((c : Thread nD τ).loc main_arg0)) (m ((c : Thread nD τ).loc main_arg1)) := by
  refine (dats m 0 c).arrAt_eq_of_covers 5 _ (by decide +kernel) fun t hf y => ?_
  blk_simp; rw [after0_5]
  exact point5 m c t y

/-- The step a grid point stores is the reference's, where it lands. -/
theorem point6 (c : Dev nD) (t : Fin cfg0.N) (y) :
    out0_6 (grid0.coords t) (iblk m c 0 t) (iblk m c 1 t) (iblk m c 2 t) (iblk m c 3 t) (iblk m c 4 t) y
      = REFD (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have he : ((win0_6.blk t).view.emb y : S2x512x1024.Idx) = ix3 (layer t) (y 1) (row t (y 2)) := by
    unfold row layer; blk_ext [idx_val t]
  refine Eq.trans ?_ ((congrArg _ he).trans (REFD_at _ _ _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payD (grad m c t) _ _ _ _ _).trans ?_
  rw [grad_at m c t (x 2) (x 1), blk2 m c t (x 2) (x 1), blk3 m c t (x 2) (x 1), blk4 m c t (x 2) (x 1)]
  rfl

/-- The array of the step is the reference's. -/
theorem final6 (c : Dev nD) : (dats m 0 c).arrAt 6 (cfgs 0).N = REFD (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  exact point6 m c t y

/-- The new first moment a grid point stores is the reference's, where it lands. -/
theorem point7 (c : Dev nD) (t : Fin cfg0.N) (y) :
    out0_7 (grid0.coords t) (iblk m c 0 t) (iblk m c 1 t) (iblk m c 2 t) (iblk m c 3 t) (iblk m c 4 t) y
      = REFM (m ((c : Thread nD τ).loc main_arg0)) (m ((c : Thread nD τ).loc main_arg1)) (m ((c : Thread nD τ).loc main_arg3)) (((cfg0.win 7).blk t).view.emb y) := by
  have he : ((win0_7.blk t).view.emb y : S2x512x1024.Idx) = ix3 (layer t) (y 1) (row t (y 2)) := by
    unfold row layer; blk_ext [idx_val t]
  refine Eq.trans ?_ ((congrArg _ he).trans (REFM_at _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payM (grad m c t) _ _ _).trans ?_
  rw [grad_at m c t (x 2) (x 1), blk3 m c t (x 2) (x 1)]
  rfl

/-- The array of the new first moment is the reference's. -/
theorem final7 (c : Dev nD) : (dats m 0 c).arrAt 7 (cfgs 0).N = REFM (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp; rw [after0_7]
  exact point7 m c t y

/-- The new second moment a grid point stores is the reference's, where it lands. -/
theorem point8 (c : Dev nD) (t : Fin cfg0.N) (y) :
    out0_8 (grid0.coords t) (iblk m c 0 t) (iblk m c 1 t) (iblk m c 2 t) (iblk m c 3 t) (iblk m c 4 t) y
      = REFV (m ((c : Thread nD τ).loc main_arg0)) (m ((c : Thread nD τ).loc main_arg1)) (m ((c : Thread nD τ).loc main_arg4)) (((cfg0.win 8).blk t).view.emb y) := by
  have he : ((win0_8.blk t).view.emb y : S2x512x1024.Idx) = ix3 (layer t) (y 1) (row t (y 2)) := by
    unfold row layer; blk_ext [idx_val t]
  refine Eq.trans ?_ ((congrArg _ he).trans (REFV_at _ _ _ _ _ _)).symm
  canon_tiles x h
  have e1 : y 1 = x 1 := Fin.ext h1
  have e2 : y 2 = x 2 := Fin.ext h2
  rw [e1, e2]
  rw [eq_ix3 x, Fin.fin_one_eq_zero (x 0)]
  refine (payV (grad m c t) _ _ _).trans ?_
  rw [grad_at m c t (x 2) (x 1), blk4 m c t (x 2) (x 1)]
  rfl

/-- The array of the new second moment is the reference's. -/
theorem final8 (c : Dev nD) : (dats m 0 c).arrAt 8 (cfgs 0).N = REFV (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp; rw [after0_8]
  exact point8 m c t y

end Cert.Kernel17Ideal.Value

end
-- ==== Proof.ClaimAdamwDown.lean ====
/- The frames of the two programs for the optimiser's step of the down projection, and their equality over the extended reals. -/
module

public import proofs.«01_k».proof.Defs
public import proofs.«01_k».proof.Proof.AdamwDown
public import proofs.«01_k».proof.Proof.Gen.Kernel17.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference17 : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run m g)

/-- The kernel's results are the reference's. -/
theorem algebraic17 : Cert.algebraic_Kernel17Ideal_Reference17Ideal := by
  pair_intro
  · run_from Cert.Kernel17Ideal.Value.run_blocks m g
  · refine (θ_run Cert.Reference17Ideal.defs _ _).mono (fun r h c => ?_) (Cert.Reference17Ideal.Value.run m' g')
    obtain ⟨e0, e1, e2, e3, e4⟩ := hagree c
    refine ⟨(h c).1.trans ?_, (h c).2.1.trans ?_, (h c).2.2.1.trans ?_, (h c).2.2.2.1.trans ?_, (h c).2.2.2.2⟩
    · refine Eq.trans (b := Cert.Reference17Ideal.Value.REFG (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1))) rfl ?_
      rw [e0, e1]
      exact (Cert.Kernel17Ideal.Value.final5 m c).symm
    · refine Eq.trans (b := Cert.Reference17Ideal.Value.REFD (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg3)) (m' ((c.tc : Thread Cert.Reference17Ideal.nD Cert.Reference17Ideal.τ).loc Cert.Reference17Ideal.main_arg4))) rfl ?_
      rw [e0, e1, e2, e3, e4]
      exact (Cert.Kernel17Ideal.Value.final6 m c).symm
    · refine Eq.trans (b := Cert.Reference17Ideal.Value.REFM (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg3))) rfl ?_
      rw [e0, e1, e3]
      exact (Cert.Kernel17Ideal.Value.final7 m c).symm
    · refine Eq.trans (b := Cert.Reference17Ideal.Value.REFV (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg4))) rfl ?_
      rw [e0, e1, e4]
      exact (Cert.Kernel17Ideal.Value.final8 m c).symm

end Cert.Proof

end
-- ==== Proof.LossRow.lean ====
/- The loss head over one row of 1024 entries: half the mean of squared differences between the normalised row and its
   target, and the cotangent it hands back. -/
module

public import proofs.«01_k».proof.Proof.Normed

@[expose] public section

noncomputable section

open Idealize.ShloMosaic

namespace Cert.RmsNorm

/-- The normalised row minus its target. -/
def diff (x g t : Fin 1024 → EReal) (j : Fin 1024) : EReal := normed x g j - t j

/-- One half. -/
def onehalf : EReal := Ideal.ofBits .f32 0x3F000000#32

/-- What the row adds to the loss, before the factor of one half. -/
def lossRow (x g t : Fin 1024 → EReal) : EReal := Ideal.div (∑ k, diff x g t k * diff x g t k) n

/-- The cotangent of the normalised row. -/
def cotRow (x g t : Fin 1024 → EReal) (j : Fin 1024) : EReal := diff x g t j * Ideal.ofBits .f32 0x3A800000#32

/-- One half as a real number. -/
theorem onehalf_eq : onehalf = ((1 / 2 : ℝ) : EReal) := by
  simp [onehalf, Ideal.ofBits, Ideal.ieee, -EReal.coe_mul]; norm_num

/-- The reciprocal of the row's length as a real number. -/
theorem inv_eq : Ideal.ofBits .f32 0x3A800000#32 = ((1 / 1024 : ℝ) : EReal) := by
  simp [Ideal.ofBits, Ideal.ieee, -EReal.coe_mul]; norm_num

/-- One as a real number. -/
theorem one_eq : Ideal.ofBits .f32 0x3F800000#32 = ((1 : ℝ) : EReal) := by
  simp [Ideal.ofBits, Ideal.ieee, -EReal.coe_mul, -EReal.coe_one]; norm_num

/-- Two as a real number. -/
theorem two_eq : Ideal.ofBits .f32 0x40000000#32 = ((2 : ℝ) : EReal) := by
  simp [Ideal.ofBits, Ideal.ieee, -EReal.coe_mul]; norm_num

/-- The derivative of half the mean of squares is the difference over the row's length. -/
theorem cot_of_mean (d : EReal) :
    Ideal.div (onehalf * Ideal.ofBits .f32 0x3F800000#32) n * (Ideal.ofBits .f32 0x40000000#32 * d) = d * Ideal.ofBits .f32 0x3A800000#32 := by
  rw [onehalf_eq, one_eq, two_eq, inv_eq, n_eq, Ideal.div_coe (by norm_num), ← mul_assoc, ← EReal.coe_mul, ← EReal.coe_mul, ← EReal.coe_mul, mul_comm]
  congr 2
  norm_num

/-- The same with the factor of one already dropped. -/
theorem cot_of_half (d : EReal) :
    Ideal.div onehalf n * (Ideal.ofBits .f32 0x40000000#32 * d) = d * Ideal.ofBits .f32 0x3A800000#32 := by
  rw [← cot_of_mean, one_eq, EReal.coe_one, mul_one]

/-- Half a sum is the sum of halves. -/
theorem half_sum {ι : Type*} [Fintype ι] (f : ι → EReal) : onehalf * ∑ k, f k = ∑ k, f k * onehalf := by
  rw [mul_comm, onehalf_eq]
  exact sum_mul_real _ _ _ (by norm_num)

end Cert.RmsNorm

end
-- ==== Proof.DownLoss.lean ====
/- What layer 1's down projection with the loss head computes: the projection and residual, the normalised rows, the
   loss, and the gradients for the projection's result and for the gain. -/
module

public import proofs.«01_k».proof.Proof.Gen.Kernel13Ideal.Value
public import proofs.«01_k».proof.Proof.Gen.Reference13Ideal.Run
public import Idealize.ShloMosaic.Lib.Pipeline.ValueKit
public import proofs.«01_k».proof.Proof.LossRow

@[expose] public section

set_option maxRecDepth 16384

noncomputable section

open Idealize.ShloMosaic Idealize.ShloMosaic.TcCoe Idealize.SL.Sem
open Idealize.ShloMosaic.Pipeline (Dat)

namespace Cert.Reference13Ideal.Value

open Cert.Reference13Ideal Cert.Reference13Ideal.Gen

/-- The residual plus the squared activation times the weights. -/
def X2 (a0 : FVec Ideal S8192x1024 .f32) (a1 : FVec Ideal S8192x4096 .bf16) (a2 : FVec Ideal S4096x1024 .bf16) : FVec Ideal S8192x1024 .f32 :=
  addf a0 (Host.dotGeneral dot_S8192x4096_S4096x1024_S8192x1024_1_0_0_1_n_n none (mulf (extf .f32 a1 bitsLt_bf16_f32) (extf .f32 a1 bitsLt_bf16_f32)) (extf .f32 a2 bitsLt_bf16_f32))

/-- The normalised rows of `x` minus the targets. -/
def DIFF (x : FVec Ideal S8192x1024 .f32) (a3 : FVec Ideal S8192x1024 .f32) (a4 : FVec Ideal S1x1024 .f32) : FVec Ideal S8192x1024 .f32 :=
  subf (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a4)) a3

/-- The reference's gradient for the rows `x`. -/
def REFx (x : FVec Ideal S8192x1024 .f32) (a3 : FVec Ideal S8192x1024 .f32) (a4 : FVec Ideal S1x1024 .f32) : FVec Ideal S8192x1024 .f32 :=
  addf (addf (mulf (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (DIFF x a3 a4))) (broadcastInDim S8192x1024 ![0, 1] bcast_S1x1024_S8192x1024_0_1 a4)) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf x (broadcastInDim S8192x1024 ![0] bcast_S8192_S8192x1024_0 (Host.reduceAdd (Host.divf (mulf (shapeCast S8192x1 (Host.reduceAdd (mulf x (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (DIFF x a3 a4))) (broadcastInDim S8192x1024 ![0, 1] bcast_S1x1024_S8192x1024_0_1 a4))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast S8192x1 (Host.reduceAdd (mulf x (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (DIFF x a3 a4))) (broadcastInDim S8192x1024 ![0, 1] bcast_S1x1024_S8192x1024_0_1 a4))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)

/-- The reference's loss, repeated over a block. -/
def REFl (x : FVec Ideal S8192x1024 .f32) (a3 : FVec Ideal S8192x1024 .f32) (a4 : FVec Ideal S1x1024 .f32) : FVec Ideal S8x128 .f32 :=
  broadcastInDim S8x128 ![] bcast_S_S8x128 (mulf (constant S_ .f32 0x3F000000#32) (Host.reduceAdd (Host.divf (Host.reduceAdd (mulf (DIFF x a3 a4) (DIFF x a3 a4)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

/-- The reference's gradient for the gain. -/
def REFg (x : FVec Ideal S8192x1024 .f32) (a3 : FVec Ideal S8192x1024 .f32) (a4 : FVec Ideal S1x1024 .f32) : FVec Ideal S1x1024 .f32 :=
  shapeCast S1x1024 (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (DIFF x a3 a4)))) (constant S_ .f32 0x00000000#32) reducesTo_S8192x1024_S1024_d0 h_S_) shapeCasts_S1024_S1x1024

/-- The reference's loss, from the call's arguments. -/
def LOSS (a0 : FVec Ideal S8192x1024 .f32) (a1 : FVec Ideal S8192x4096 .bf16) (a2 : FVec Ideal S4096x1024 .bf16) (a3 : FVec Ideal S8192x1024 .f32) (a4 : FVec Ideal S1x1024 .f32) : FVec Ideal S8x128 .f32 := REFl (X2 a0 a1 a2) a3 a4

/-- The reference's gradient for the gain, from the call's arguments. -/
def GAIN (a0 : FVec Ideal S8192x1024 .f32) (a1 : FVec Ideal S8192x4096 .bf16) (a2 : FVec Ideal S4096x1024 .bf16) (a3 : FVec Ideal S8192x1024 .f32) (a4 : FVec Ideal S1x1024 .f32) : FVec Ideal S1x1024 .f32 := REFg (X2 a0 a1 a2) a3 a4

/-- The projection, entry by entry. -/
def x2 (a0 : FVec Ideal S8192x1024 .f32) (a1 : FVec Ideal S8192x4096 .bf16) (a2 : FVec Ideal S4096x1024 .bf16) (r : Fin 8192) (j : Fin 1024) : EReal :=
  a0 (ix2 r j) + ∑ f : Fin 4096, a1 (ix2 r f) * a1 (ix2 r f) * a2 (ix2 f j)

/-- The projection's array, entry by entry. -/
theorem X2_at (a0 : FVec Ideal S8192x1024 .f32) (a1 : FVec Ideal S8192x4096 .bf16) (a2 : FVec Ideal S4096x1024 .bf16) (r : Fin 8192) (j : Fin 1024) : X2 a0 a1 a2 (ix2 r j) = x2 a0 a1 a2 r j := by
  pointwise [X2]
  rfl

/-- The differences, entry by entry. -/
theorem DIFF_at (x : FVec Ideal S8192x1024 .f32) (a3 : FVec Ideal S8192x1024 .f32) (a4 : FVec Ideal S1x1024 .f32) (r : Fin 8192) (j : Fin 1024) : DIFF x a3 a4 (ix2 r j) = RmsNorm.diff (fun k => x (ix2 r k)) (fun k => a4 (ix2 0 k)) (fun k => a3 (ix2 r k)) j := by
  pointwise [DIFF]
  rfl

/-- The gradient for the rows, entry by entry. -/
theorem REFx_at (x : FVec Ideal S8192x1024 .f32) (a3 : FVec Ideal S8192x1024 .f32) (a4 : FVec Ideal S1x1024 .f32) (r : Fin 8192) (j : Fin 1024) :
    REFx x a3 a4 (ix2 r j) = RmsNorm.projected (fun k => x (ix2 r k)) (RmsNorm.cotRow (fun k => x (ix2 r k)) (fun k => a4 (ix2 0 k)) (fun k => a3 (ix2 r k))) (fun k => a4 (ix2 0 k)) 0 j := by
  have hc : RmsNorm.cotRow (fun k => x (ix2 r k)) (fun k => a4 (ix2 0 k)) (fun k => a3 (ix2 r k)) = fun k => Ideal.div (RmsNorm.onehalf * Ideal.ofBits .f32 0x3F800000#32) RmsNorm.n * (Ideal.ofBits .f32 0x40000000#32 * RmsNorm.diff (fun k => x (ix2 r k)) (fun k => a4 (ix2 0 k)) (fun k => a3 (ix2 r k)) k) :=
    funext fun k => (RmsNorm.cot_of_mean _).symm
  rw [RmsNorm.projected_eq_termwise, hc]
  unfold RmsNorm.termwise
  rw [zero_add]
  pointwise [REFx, DIFF_at]
  simp only [Fin.sum_univ_one]
  rfl

/-- The loss. -/
theorem REFl_at (x : FVec Ideal S8192x1024 .f32) (a3 : FVec Ideal S8192x1024 .f32) (a4 : FVec Ideal S1x1024 .f32) (y : S8x128.Idx) :
    REFl x a3 a4 y = ∑ r : Fin 8192, RmsNorm.lossRow (fun k => x (ix2 r k)) (fun k => a4 (ix2 0 k)) (fun k => a3 (ix2 r k)) * RmsNorm.onehalf := by
  rw [← RmsNorm.half_sum, eq_ix2 y]
  pointwise [REFl, DIFF_at]
  rfl

/-- The gradient for the gain, entry by entry. -/
theorem REFg_at (x : FVec Ideal S8192x1024 .f32) (a3 : FVec Ideal S8192x1024 .f32) (a4 : FVec Ideal S1x1024 .f32) (y : S1x1024.Idx) :
    REFg x a3 a4 y = ∑ r : Fin 8192, RmsNorm.cotRow (fun k => x (ix2 r k)) (fun k => a4 (ix2 0 k)) (fun k => a3 (ix2 r k)) (y 1) * (x (ix2 r (y 1)) * RmsNorm.rstd (fun k => x (ix2 r k))) := by
  rw [eq_ix2 y]
  pointwise [REFg, DIFF_at]
  refine Fin.sum_fin_congr fun r => (mul_comm (G := EReal) _ _).trans ?_
  exact congrArg (· * _) (RmsNorm.cot_of_half _)

/-- The run's term for the gradient of the rows is `REFx` of the arguments. -/
theorem res_eq (m : (ℓ : Loc nD τ sig) → Buf (Elt Ideal) ℓ) (c : Dev nD) :
    res_main_v53 m c = REFx (X2 (m ((c : Thread nD τ).loc main_arg0)) (m ((c : Thread nD τ).loc main_arg1)) (m ((c : Thread nD τ).loc main_arg2))) (m ((c : Thread nD τ).loc main_arg3)) (m ((c : Thread nD τ).loc main_arg4)) := rfl

end Cert.Reference13Ideal.Value

namespace Cert.Kernel13Ideal.Value

open Cert.Kernel13Ideal Cert.Kernel13Ideal.Gen

variable (m : (ℓ : Loc nD τ sig) → Buf (Elt Ideal) ℓ)

open Cert.Reference13Ideal.Value (X2 x2 X2_at REFx REFx_at REFl REFl_at REFg REFg_at)

/-- Where each window's block sits at grid point `t`. -/
theorem idx_val : ∀ t : Fin cfg0.N, win0_0.index t = ![t.val, 0]
    ∧ win0_1.index t = ![t.val, 0] ∧ win0_2.index t = ![0, 0] ∧ win0_3.index t = ![t.val, 0] ∧ win0_4.index t = ![0, 0]
    ∧ win0_5.index t = ![t.val, 0] ∧ win0_6.index t = ![0, 0] ∧ win0_7.index t = ![0, 0] :=
  (by decide +kernel : ∀ t : Fin grid0.N, _)

/-- There are sixteen grid points. -/
theorem pt_lt (t : Fin cfg0.N) : t.val < 16 := t.isLt.trans_eq N_0

/-- Row `r` of the block at grid point `t`, in the whole array. -/
def row (t : Fin cfg0.N) (r : Fin 512) : Fin 8192 := ⟨t.val * 512 + r.val, by have := pt_lt t; have := r.isLt; omega⟩

/-- The projection over one block of rows, a quarter of the features at a time. -/
def sums (x0 : Vec Ideal S512x1024 .f32) (x1 : Vec Ideal S512x4096 .bf16) (x2 : Vec Ideal S4096x1024 .bf16) : FVec Ideal S512x1024 .f32 :=
  k0_pay5 x0 (View.ld x1 (Rect.unit ![0, 0] ![512, 1024] inb_S512x4096_S512x1024_0_0)) (View.ld x2 (Rect.unit ![0, 0] ![1024, 1024] inb_S4096x1024_S1024x1024_0_0)) (View.ld x1 (Rect.unit ![0, 1024] ![512, 1024] inb_S512x4096_S512x1024_0_1024)) (View.ld x2 (Rect.unit ![1024, 0] ![1024, 1024] inb_S4096x1024_S1024x1024_1024_0)) (View.ld x1 (Rect.unit ![0, 2048] ![512, 1024] inb_S512x4096_S512x1024_0_2048)) (View.ld x2 (Rect.unit ![2048, 0] ![1024, 1024] inb_S4096x1024_S1024x1024_2048_0)) (View.ld x1 (Rect.unit ![0, 3072] ![512, 1024] inb_S512x4096_S512x1024_0_3072)) (View.ld x2 (Rect.unit ![3072, 0] ![1024, 1024] inb_S4096x1024_S1024x1024_3072_0))

/-- The quarters add up to the whole contraction. -/
theorem sums_at (x0 : Vec Ideal S512x1024 .f32) (x1 : Vec Ideal S512x4096 .bf16) (x2 : Vec Ideal S4096x1024 .bf16) (r : Fin 512) (j : Fin 1024) :
    sums x0 x1 x2 (ix2 r j) = x0 (ix2 r j) + ∑ f : Fin 4096, x1 (ix2 r f) * x1 (ix2 r f) * x2 (ix2 f j) := by
  pointwise [sums, k0_pay5]
  refine Eq.trans ?_ (congrArg (x0 (ix2 r j) + ·) (Fin.sum_univ_tiles 4 1024 rfl _)).symm
  rw [Fin.sum_univ_four, ← add_assoc, ← add_assoc, ← add_assoc]
  rfl

/-- The payload of the differences. -/
theorem pay8_at (v : FVec Ideal S512x1024 .f32) (g : Vec Ideal S1x1024 .f32) (t : Vec Ideal S512x1024 .f32) (r : Fin 512) (j : Fin 1024) : k0_pay8 v g t (ix2 r j) = RmsNorm.diff (fun k => v (ix2 r k)) (fun k => g (ix2 0 k)) (fun k => t (ix2 r k)) j := by
  pointwise [k0_pay8, k0_pay7, k0_pay6]
  rfl

/-- The payload of the cotangent. -/
theorem pay10_at (v : FVec Ideal S512x1024 .f32) (g : Vec Ideal S1x1024 .f32) (t : Vec Ideal S512x1024 .f32) (r : Fin 512) (j : Fin 1024) : k0_pay10 v g t (ix2 r j) = RmsNorm.cotRow (fun k => v (ix2 r k)) (fun k => g (ix2 0 k)) (fun k => t (ix2 r k)) j := by
  pointwise [k0_pay10, pay8_at]
  rfl

/-- The payload of the gradient for the rows. -/
theorem dx_at (v : FVec Ideal S512x1024 .f32) (g : Vec Ideal S1x1024 .f32) (t : Vec Ideal S512x1024 .f32) (r : Fin 512) (j : Fin 1024) :
    k0_pay1 (k0_pay11 v g t) (k0_pay12 v) (ix2 r j) = RmsNorm.projected (fun k => v (ix2 r k)) (RmsNorm.cotRow (fun k => v (ix2 r k)) (fun k => g (ix2 0 k)) (fun k => t (ix2 r k))) (fun k => g (ix2 0 k)) 0 j := by
  unfold RmsNorm.projected
  rw [zero_add]
  pointwise [k0_pay1, k0_pay11, k0_pay12, pay10_at, k0_pay7, k0_pay6]
  rfl

/-- What one block of rows adds to the loss. -/
def lossPart (v : FVec Ideal S512x1024 .f32) (g : Vec Ideal S1x1024 .f32) (t : Vec Ideal S512x1024 .f32) : EReal := ∑ r : Fin 512, RmsNorm.lossRow (fun k => v (ix2 r k)) (fun k => g (ix2 0 k)) (fun k => t (ix2 r k)) * RmsNorm.onehalf

/-- The payload of the loss adds the block's part to what was there. -/
theorem loss_at (v : FVec Ideal S512x1024 .f32) (g : Vec Ideal S1x1024 .f32) (t : Vec Ideal S512x1024 .f32) (z : Vec Ideal S8x128 .f32) (y : S8x128.Idx) : k0_pay9 v g t z y = z y + lossPart v g t := by
  unfold lossPart
  rw [← RmsNorm.half_sum, eq_ix2 y]
  pointwise [k0_pay9, pay8_at]
  simp only [Fin.sum_univ_one]
  rfl

/-- What one block of rows adds to entry `j` of the gain's gradient. -/
def gainPart (v : FVec Ideal S512x1024 .f32) (g : Vec Ideal S1x1024 .f32) (t : Vec Ideal S512x1024 .f32) (j : Fin 1024) : EReal :=
  ∑ r : Fin 512, RmsNorm.cotRow (fun k => v (ix2 r k)) (fun k => g (ix2 0 k)) (fun k => t (ix2 r k)) j * (v (ix2 r j) * RmsNorm.rstd (fun k => v (ix2 r k)))

/-- The payload of the gain's gradient adds the block's part to what was there. -/
theorem gain_at (v : FVec Ideal S512x1024 .f32) (g : Vec Ideal S1x1024 .f32) (t : Vec Ideal S512x1024 .f32) (z : Vec Ideal S1x1024 .f32) (y : S1x1024.Idx) :
    k0_pay2 (k0_pay7 v) (k0_pay10 v g t) z y = z y + gainPart v g t (y 1) := by
  rw [eq_ix2 y, Fin.fin_one_eq_zero (y 0)]
  pointwise [k0_pay2, pay10_at, k0_pay7, k0_pay6]
  rfl

/-- Each block of the rows' gradient. -/
theorem out5 (c : Dev nD) (t : Fin cfg0.N) (r : Fin 512) (j : Fin 1024) :
    (outsAt0 m c t.val t.isLt).1 (ix2 r j) = RmsNorm.projected (fun k => sums (iblk m c 0 t) (iblk m c 1 t) (iblk m c 2 t) (ix2 r k)) (RmsNorm.cotRow (fun k => sums (iblk m c 0 t) (iblk m c 1 t) (iblk m c 2 t) (ix2 r k)) (fun k => iblk m c 4 t (ix2 0 k)) (fun k => iblk m c 3 t (ix2 r k))) (fun k => iblk m c 4 t (ix2 0 k)) 0 j := by
  by_cases h0 : t.val % 16 = 0
  · rw [outsAt0_A m c t h0]
    frame_out
    exact dx_at (sums (iblk m c 0 t) (iblk m c 1 t) (iblk m c 2 t)) (iblk m c 4 t) (iblk m c 3 t) r j
  · rw [outsAt0_B m c t h0]
    frame_out
    exact dx_at (sums (iblk m c 0 t) (iblk m c 1 t) (iblk m c 2 t)) (iblk m c 4 t) (iblk m c 3 t) r j

/-- The first block of rows stores its part of the loss. -/
theorem loss_first (c : Dev nD) (t : Fin cfg0.N) (h0 : t.val % 16 = 0) (y : S8x128.Idx) :
    (outsAt0 m c t.val t.isLt).2.1 y = (0 : EReal) + lossPart (sums (iblk m c 0 t) (iblk m c 1 t) (iblk m c 2 t)) (iblk m c 4 t) (iblk m c 3 t) := by
  rw [outsAt0_A m c t h0]
  frame_out
  refine (loss_at (sums (iblk m c 0 t) (iblk m c 1 t) (iblk m c 2 t)) (iblk m c 4 t) (iblk m c 3 t) _ y).trans (congrArg (· + _) ?_)
  pointwise [k0_pay3]

/-- Every later block of rows adds its part of the loss. -/
theorem loss_next (c : Dev nD) (t : Fin cfg0.N) (h0 : ¬ t.val % 16 = 0) (y : S8x128.Idx) :
    (outsAt0 m c t.val t.isLt).2.1 y = ((outsAt0 m c (t.val - 1) (Nat.lt_of_le_of_lt (Nat.sub_le _ _) t.isLt)).2.1 y : EReal) + lossPart (sums (iblk m c 0 t) (iblk m c 1 t) (iblk m c 2 t)) (iblk m c 4 t) (iblk m c 3 t) := by
  rw [outsAt0_B m c t h0]
  frame_out
  exact loss_at (sums (iblk m c 0 t) (iblk m c 1 t) (iblk m c 2 t)) (iblk m c 4 t) (iblk m c 3 t) _ y

/-- The first block of rows stores its part of the gain's gradient. -/
theorem gain_first (c : Dev nD) (t : Fin cfg0.N) (h0 : t.val % 16 = 0) (y : S1x1024.Idx) :
    (outsAt0 m c t.val t.isLt).2.2 y = (0 : EReal) + gainPart (sums (iblk m c 0 t) (iblk m c 1 t) (iblk m c 2 t)) (iblk m c 4 t) (iblk m c 3 t) (y 1) := by
  rw [outsAt0_A m c t h0]
  frame_out
  refine (gain_at (sums (iblk m c 0 t) (iblk m c 1 t) (iblk m c 2 t)) (iblk m c 4 t) (iblk m c 3 t) _ y).trans (congrArg (· + _) ?_)
  pointwise [k0_pay4]

/-- Every later block of rows adds its part of the gain's gradient. -/
theorem gain_next (c : Dev nD) (t : Fin cfg0.N) (h0 : ¬ t.val % 16 = 0) (y : S1x1024.Idx) :
    (outsAt0 m c t.val t.isLt).2.2 y = ((outsAt0 m c (t.val - 1) (Nat.lt_of_le_of_lt (Nat.sub_le _ _) t.isLt)).2.2 y : EReal) + gainPart (sums (iblk m c 0 t) (iblk m c 1 t) (iblk m c 2 t)) (iblk m c 4 t) (iblk m c 3 t) (y 1) := by
  rw [outsAt0_B m c t h0]
  frame_out
  exact gain_at (sums (iblk m c 0 t) (iblk m c 1 t) (iblk m c 2 t)) (iblk m c 4 t) (iblk m c 3 t) _ y

/-! Each operand's block, in its array. -/

/-- The projection over a block's row is the one over the array's. -/
theorem sums_blk (c : Dev nD) (t : Fin cfg0.N) (r : Fin 512) (j : Fin 1024) :
    sums (iblk m c 0 t) (iblk m c 1 t) (iblk m c 2 t) (ix2 r j) = x2 (m ((c : Thread nD τ).loc main_arg0)) (m ((c : Thread nD τ).loc main_arg1)) (m ((c : Thread nD τ).loc main_arg2)) (row t r) j := by
  rw [sums_at]
  unfold x2
  have e0 : iblk m c 0 t (ix2 r j) = (m ((c : Thread nD τ).loc main_arg0)) (ix2 (row t r) j) := by
    unfold row; blk_point [iblk, V, idx_val t]
  have e1 : ∀ f : Fin 4096, iblk m c 1 t (ix2 r f) = (m ((c : Thread nD τ).loc main_arg1)) (ix2 (row t r) f) := fun f => by
    unfold row; blk_point [iblk, V, idx_val t]
  have e2 : ∀ f : Fin 4096, iblk m c 2 t (ix2 f j) = (m ((c : Thread nD τ).loc main_arg2)) (ix2 f j) := fun f => by
    blk_point [iblk, V, idx_val t]
  exact congrArg₂ (fun a b : EReal => a + b) e0 (Fin.sum_fin_congr fun f => by rw [e1 f, e2 f])

/-- The block of the targets. -/
theorem blk3 (c : Dev nD) (t : Fin cfg0.N) (r : Fin 512) (j : Fin 1024) :
    iblk m c 3 t (ix2 r j) = (m ((c : Thread nD τ).loc main_arg3)) (ix2 (row t r) j) := by
  unfold row; blk_point [iblk, V, idx_val t]

/-- The gain is one row, the same at every tile. -/
theorem blk4 (c : Dev nD) (t : Fin cfg0.N) (r : Fin 1) (j : Fin 1024) :
    iblk m c 4 t (ix2 r j) = (m ((c : Thread nD τ).loc main_arg4)) (ix2 r j) := by
  blk_point [iblk, V, idx_val t]

/-- The gradient over one row of a block, in the arrays. -/
theorem projected_blk (c : Dev nD) (t : Fin cfg0.N) (r : Fin 512) (j : Fin 1024) :
    RmsNorm.projected (fun k => sums (iblk m c 0 t) (iblk m c 1 t) (iblk m c 2 t) (ix2 r k)) (RmsNorm.cotRow (fun k => sums (iblk m c 0 t) (iblk m c 1 t) (iblk m c 2 t) (ix2 r k)) (fun k => iblk m c 4 t (ix2 0 k)) (fun k => iblk m c 3 t (ix2 r k))) (fun k => iblk m c 4 t (ix2 0 k)) 0 j
      = RmsNorm.projected (fun k => (X2 (m ((c : Thread nD τ).loc main_arg0)) (m ((c : Thread nD τ).loc main_arg1)) (m ((c : Thread nD τ).loc main_arg2))) (ix2 (row t r) k)) (RmsNorm.cotRow (fun k => (X2 (m ((c : Thread nD τ).loc main_arg0)) (m ((c : Thread nD τ).loc main_arg1)) (m ((c : Thread nD τ).loc main_arg2))) (ix2 (row t r) k)) (fun k => (m ((c : Thread nD τ).loc main_arg4)) (ix2 0 k)) (fun k => (m ((c : Thread nD τ).loc main_arg3)) (ix2 (row t r) k))) (fun k => (m ((c : Thread nD τ).loc main_arg4)) (ix2 0 k)) 0 j := by
  simp only [sums_blk, blk3, blk4, X2_at]

/-- One row's loss, in the arrays. -/
theorem loss_blk (c : Dev nD) (t : Fin cfg0.N) (r : Fin 512) :
    RmsNorm.lossRow (fun k => sums (iblk m c 0 t) (iblk m c 1 t) (iblk m c 2 t) (ix2 r k)) (fun k => iblk m c 4 t (ix2 0 k)) (fun k => iblk m c 3 t (ix2 r k)) * RmsNorm.onehalf = RmsNorm.lossRow (fun k => (X2 (m ((c : Thread nD τ).loc main_arg0)) (m ((c : Thread nD τ).loc main_arg1)) (m ((c : Thread nD τ).loc main_arg2))) (ix2 (row t r) k)) (fun k => (m ((c : Thread nD τ).loc main_arg4)) (ix2 0 k)) (fun k => (m ((c : Thread nD τ).loc main_arg3)) (ix2 (row t r) k)) * RmsNorm.onehalf := by
  simp only [sums_blk, blk3, blk4, X2_at]

/-- One row's part of the gain's gradient, in the arrays. -/
theorem gain_blk (c : Dev nD) (t : Fin cfg0.N) (r : Fin 512) (j : Fin 1024) :
    RmsNorm.cotRow (fun k => sums (iblk m c 0 t) (iblk m c 1 t) (iblk m c 2 t) (ix2 r k)) (fun k => iblk m c 4 t (ix2 0 k)) (fun k => iblk m c 3 t (ix2 r k)) j * (sums (iblk m c 0 t) (iblk m c 1 t) (iblk m c 2 t) (ix2 r j) * RmsNorm.rstd (fun k => sums (iblk m c 0 t) (iblk m c 1 t) (iblk m c 2 t) (ix2 r k)))
      = RmsNorm.cotRow (fun k => (X2 (m ((c : Thread nD τ).loc main_arg0)) (m ((c : Thread nD τ).loc main_arg1)) (m ((c : Thread nD τ).loc main_arg2))) (ix2 (row t r) k)) (fun k => (m ((c : Thread nD τ).loc main_arg4)) (ix2 0 k)) (fun k => (m ((c : Thread nD τ).loc main_arg3)) (ix2 (row t r) k)) j * ((X2 (m ((c : Thread nD τ).loc main_arg0)) (m ((c : Thread nD τ).loc main_arg1)) (m ((c : Thread nD τ).loc main_arg2))) (ix2 (row t r) j) * RmsNorm.rstd (fun k => (X2 (m ((c : Thread nD τ).loc main_arg0)) (m ((c : Thread nD τ).loc main_arg1)) (m ((c : Thread nD τ).loc main_arg2))) (ix2 (row t r) k))) := by
  simp only [sums_blk, blk3, blk4, X2_at]

/-- The gradient the kernel leaves for the rows is the reference's. -/
theorem final5 (c : Dev nD) : (dats m 0 c).arrAt 5 (cfgs 0).N = REFx (X2 (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 5 _ (by decide +kernel) fun t hf y => ?_
  blk_simp; rw [after0_5]
  have he : ((win0_5.blk t).view.emb y : S8192x1024.Idx) = ix2 (row t (y 0)) (y 1) := by
    unfold row; blk_ext [idx_val t]
  refine Eq.trans ?_ ((congrArg _ he).trans (REFx_at _ _ _ _ _)).symm
  refine (congrArg _ (eq_ix2 y)).trans ((out5 m c t (y 0) (y 1)).trans ?_)
  exact projected_blk m c t (y 0) (y 1)

/-- The loss the kernel leaves is the reference's. -/
theorem final6 (c : Dev nD) : (dats m 0 c).arrAt 6 (cfgs 0).N = REFl (X2 (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_after_last 6 t0_15 (by decide +kernel) _ fun y => ?_
  blk_simp
  rw [after0_6, Pipeline.eq_sum_fin_of_reset_step_apply_last (fun n h => (outsAt0 m c n h).2.1) 16 (fun _ => (0 : EReal)) _
    (fun t h j => by rw [loss_first m c t h])
    (fun t h j => by rw [loss_next m c t h])
    (le_of_eq N_0) t0_15 rfl y, zero_add, REFl_at]
  unfold lossPart
  refine Fin.sum_mul_add_congr (S := 16) fun t k hl => ?_
  exact loss_blk m c t k

/-- The gradient the kernel leaves for the gain is the reference's. -/
theorem final7 (c : Dev nD) : (dats m 0 c).arrAt 7 (cfgs 0).N = REFg (X2 (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_after_last 7 t0_15 (by decide +kernel) _ fun y => ?_
  blk_simp
  rw [after0_7, Pipeline.eq_sum_fin_of_reset_step_apply_last (fun n h => (outsAt0 m c n h).2.2) 16 (fun _ => (0 : EReal)) _
    (fun t h j => by rw [gain_first m c t h])
    (fun t h j => by rw [gain_next m c t h])
    (le_of_eq N_0) t0_15 rfl y, zero_add, REFg_at]
  unfold gainPart
  refine Fin.sum_mul_add_congr (S := 16) fun t k hl => ?_
  exact gain_blk m c t k (y 1)

end Cert.Kernel13Ideal.Value

end
-- ==== Proof.ClaimDownLoss.lean ====
/- The frames of the two programs for layer 1's down projection with the loss head, and their equality over the extended reals. -/
module

public import proofs.«01_k».proof.Defs
public import proofs.«01_k».proof.Proof.DownLoss
public import proofs.«01_k».proof.Proof.Gen.Kernel13.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference13 : Cert.quiescent_Reference13Ideal := fun m g _ =>
  (θ_run Cert.Reference13Ideal.defs _ _).mono (fun r h => ⟨fun c => (h c).2.2.2, sem_eq_zero_of_no_sems (by decide) r.2⟩)
    (Cert.Reference13Ideal.Value.run m g)

/-- The kernel's results are the reference's. -/
theorem algebraic13 : Cert.algebraic_Kernel13Ideal_Reference13Ideal := by
  pair_intro
  · run_from Cert.Kernel13Ideal.Value.run_blocks m g
  · refine (θ_run Cert.Reference13Ideal.defs _ _).mono (fun r h c => ?_) (Cert.Reference13Ideal.Value.run m' g')
    obtain ⟨e0, e1, e2, e3, e4⟩ := hagree c
    refine ⟨(h c).1.trans ?_, (h c).2.1.trans ?_, (h c).2.2.1.trans ?_, (h c).2.2.2⟩
    · refine (Cert.Reference13Ideal.Value.res_eq m' c).trans ?_
      rw [e0, e1, e2, e3, e4]
      exact (Cert.Kernel13Ideal.Value.final5 m c).symm
    · refine Eq.trans (b := Cert.Reference13Ideal.Value.LOSS (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4))) rfl ?_
      rw [e0, e1, e2, e3, e4]
      exact (Cert.Kernel13Ideal.Value.final6 m c).symm
    · refine Eq.trans (b := Cert.Reference13Ideal.Value.GAIN (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4))) rfl ?_
      rw [e0, e1, e2, e3, e4]
      exact (Cert.Kernel13Ideal.Value.final7 m c).symm

end Cert.Proof

end
-- ==== Proof.Merge.lean ====
/- The merge of three attention parts by a softmax over their row statistics, and its gradient: the arithmetic of one
   row and one head, on the extended reals. -/
module

public import Idealize.ShloMosaic.Lib.Pipeline.ValueKit

@[expose] public section

noncomputable section

open Idealize.ShloMosaic

namespace Cert.Merge

/-- The greatest of the three statistics. -/
def top (l : Fin 3 → EReal) : EReal := max (max (l 0) (l 1)) (l 2)

/-- The exponential of a statistic less the greatest. -/
def ex (l : Fin 3 → EReal) (p : Fin 3) : EReal := Ideal.exp (l p - top l)

/-- The sum of the three exponentials. -/
def tot (l : Fin 3 → EReal) : EReal := ex l 0 + ex l 1 + ex l 2

/-- The share of a part: its exponential over their sum. -/
def share (l : Fin 3 → EReal) (p : Fin 3) : EReal := Ideal.div (ex l p) (tot l)

/-- The share of a part as a product with the reciprocal of the sum. -/
def part (l : Fin 3 → EReal) (p : Fin 3) : EReal := ex l p * Ideal.div 1 (tot l)

/-- The exponential of a real statistic. -/
def rex (x : Fin 3 → ℝ) (p : Fin 3) : ℝ := Real.exp (x p - max (max (x 0) (x 1)) (x 2))

/-- The sum of the exponentials of real statistics. -/
def rtot (x : Fin 3 → ℝ) : ℝ := rex x 0 + rex x 1 + rex x 2

theorem rtot_ne (x : Fin 3 → ℝ) : rtot x ≠ 0 := by
  unfold rtot rex
  positivity

theorem top_coe (x : Fin 3 → ℝ) : top (fun p => (x p : EReal)) = ((max (max (x 0) (x 1)) (x 2) : ℝ) : EReal) := by
  unfold top
  rw [← EReal.coe_strictMono.monotone.map_max, ← EReal.coe_strictMono.monotone.map_max]

theorem ex_coe (x : Fin 3 → ℝ) (p : Fin 3) : ex (fun p => (x p : EReal)) p = (rex x p : EReal) := by
  unfold ex rex
  rw [top_coe, ← EReal.coe_sub, Ideal.exp_coe]

theorem tot_coe (x : Fin 3 → ℝ) : tot (fun p => (x p : EReal)) = (rtot x : EReal) := by
  unfold tot rtot
  rw [ex_coe, ex_coe, ex_coe, ← EReal.coe_add, ← EReal.coe_add]

theorem share_coe (x : Fin 3 → ℝ) (p : Fin 3) : share (fun p => (x p : EReal)) p = ((rex x p * (1 / rtot x) : ℝ) : EReal) := by
  unfold share
  rw [ex_coe, tot_coe, Ideal.div_coe (rtot_ne x), ← EReal.coe_mul]

/-- The two ways of forming a share agree on real statistics. -/
theorem part_eq (x : Fin 3 → ℝ) (p : Fin 3) : part (fun p => (x p : EReal)) p = share (fun p => (x p : EReal)) p := by
  rw [share_coe]
  unfold part
  rw [ex_coe, tot_coe, Ideal.div_coe (rtot_ne x), one_mul, ← EReal.coe_mul]

theorem sum_coe {n : ℕ} (f : Fin n → ℝ) : (∑ j, (f j : EReal)) = ((∑ j, f j : ℝ) : EReal) := by
  induction n with
  | zero => simp
  | succ n ih => rw [Fin.sum_univ_castSucc, Fin.sum_univ_castSucc, ih, EReal.coe_add]

/-- The gradient in a statistic, less the inner product of the output with its gradient, is the part's share times the
    weighted sum of all inner products, negated. -/
theorem gradient_eq (x : Fin 3 → ℝ) (d o : Fin 3 → Fin 64 → ℝ) (p : Fin 3) :
    (Ideal.div (∑ j, (o p j : EReal) * (d p j : EReal)) (tot fun p => (x p : EReal))
        + -(∑ q, (∑ j, (o q j : EReal) * (d q j : EReal))
            * Ideal.div 1 (tot (fun p => (x p : EReal)) * tot (fun p => (x p : EReal))) * ex (fun p => (x p : EReal)) q))
          * ex (fun p => (x p : EReal)) p
        - ∑ j, (d p j : EReal) * share (fun p => (x p : EReal)) p * (o p j : EReal)
      = (0 - share (fun p => (x p : EReal)) p) * ∑ q, share (fun p => (x p : EReal)) q * ∑ j, (d q j : EReal) * (o q j : EReal) := by
  have hs : rtot x ≠ 0 := rtot_ne x
  have hss : rtot x * rtot x ≠ 0 := mul_ne_zero hs hs
  simp only [share_coe, tot_coe, ex_coe, ← EReal.coe_mul, Ideal.div_coe hs, Ideal.div_coe hss, sum_coe, one_mul,
    ← EReal.coe_neg, ← EReal.coe_add, ← EReal.coe_sub, ← EReal.coe_zero]
  congr 1
  have e1 : (∑ j, d p j * (rex x p * (1 / rtot x)) * o p j) = rex x p * (1 / rtot x) * ∑ j, d p j * o p j := by
    rw [Finset.mul_sum]
    exact Finset.sum_congr rfl fun j _ => by ring
  have e2 : ∀ q, (∑ j, o q j * d q j) = ∑ j, d q j * o q j := fun q => Finset.sum_congr rfl fun j _ => mul_comm _ _
  rw [e1]
  simp only [e2, Fin.sum_univ_three]
  field_simp
  ring

end Cert.Merge

end
-- ==== Proof.OutprojRef.lean ====
/- The reference gradients of the output projection and of the merge before it, entry by entry. -/
module

public import proofs.«01_k».proof.Proof.Gen.ReferenceIdeal.Run
public import Idealize.ShloMosaic.Lib.Pipeline.ValueKit
public import proofs.«01_k».proof.Proof.Tiles
public import proofs.«01_k».proof.Proof.Merge

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen
open Cert.Merge

/-- The row statistics by part and head. -/
def L3 (a3 : FVec Ideal S8192x6 .f32) : FVec Ideal S8192x3x2 .f32 :=
  shapeCast S8192x3x2 a3 shapeCasts_S8192x6_S8192x3x2

/-- The exponentials of the statistics less the greatest of the three parts. -/
def E3 (a3 : FVec Ideal S8192x6 .f32) : FVec Ideal S8192x3x2 .f32 :=
  Host.exp (subf (L3 a3) (broadcastInDim S8192x3x2 ![0, 1, 2] bcast_S8192x1x2_S8192x3x2_0_1_2 (broadcastInDim S8192x1x2 ![0, 2] bcast_S8192x2_S8192x1x2_0_2 (maximumf (broadcastInDim S8192x2 ![] bcast_S_S8192x2 (constant S_ .f32 0xFF800000#32)) (Host.reduce FloatOps.maximumf (L3 a3) (constant S_ .f32 0xFF800000#32) reducesTo_S8192x3x2_S8192x2_d1 h_S_)))))

/-- The sum of the three exponentials. -/
def S1 (a3 : FVec Ideal S8192x6 .f32) : FVec Ideal S8192x1x2 .f32 :=
  broadcastInDim S8192x1x2 ![0, 2] bcast_S8192x2_S8192x1x2_0_2 (Host.reduceAdd (E3 a3) (constant S_ .f32 0x00000000#32) reducesTo_S8192x3x2_S8192x2_d1 h_S_)

/-- The share of each part in its head. -/
def AL (a3 : FVec Ideal S8192x6 .f32) : FVec Ideal S8192x3x2 .f32 :=
  Host.divf (E3 a3) (broadcastInDim S8192x3x2 ![0, 1, 2] bcast_S8192x1x2_S8192x3x2_0_1_2 (S1 a3))

/-- The gradient of the merged mix. -/
def DM (a0 : FVec Ideal S8192x1024 .f32) (a1 : FVec Ideal S1024x1024 .bf16) : FVec Ideal S8192x1024 .f32 :=
  Host.dotGeneral dot_S8192x1024_S1024x1024_S8192x1024_1_1_0_0_n_n none a0 (extf .f32 a1 bitsLt_bf16_f32)

/-- Its attention columns by part, head and lane. -/
def DM4 (a0 : FVec Ideal S8192x1024 .f32) (a1 : FVec Ideal S1024x1024 .bf16) : FVec Ideal S8192x3x2x64 .f32 :=
  shapeCast S8192x3x2x64 (extractStridedSlice S8192x384 ![0, 0] (DM a0 a1) slices_S8192x1024_S8192x384_0_0) shapeCasts_S8192x384_S8192x3x2x64

/-- The attention outputs by part, head and lane. -/
def O4 (a2 : FVec Ideal S8192x384 .f32) : FVec Ideal S8192x3x2x64 .f32 :=
  shapeCast S8192x3x2x64 a2 shapeCasts_S8192x384_S8192x3x2x64

/-- The gradient of the attention outputs by part, head and lane. -/
def DO4 (a0 : FVec Ideal S8192x1024 .f32) (a1 : FVec Ideal S1024x1024 .bf16) (a3 : FVec Ideal S8192x6 .f32) : FVec Ideal S8192x3x2x64 .f32 :=
  mulf (DM4 a0 a1) (broadcastInDim S8192x3x2x64 ![0, 1, 2, 3] bcast_S8192x3x2x1_S8192x3x2x64_0_1_2_3 (broadcastInDim S8192x3x2x1 ![0, 1, 2] bcast_S8192x3x2_S8192x3x2x1_0_1_2 (AL a3)))

/-- The gradient of the attention outputs. -/
def DO (a0 : FVec Ideal S8192x1024 .f32) (a1 : FVec Ideal S1024x1024 .bf16) (a3 : FVec Ideal S8192x6 .f32) : FVec Ideal S8192x384 .f32 :=
  shapeCast S8192x384 (DO4 a0 a1 a3) shapeCasts_S8192x3x2x64_S8192x384

/-- The gradient of the shares. -/
def G3 (a0 : FVec Ideal S8192x1024 .f32) (a1 : FVec Ideal S1024x1024 .bf16) (a2 : FVec Ideal S8192x384 .f32) : FVec Ideal S8192x3x2 .f32 :=
  Host.reduceAdd (shapeCast S8192x3x2x1 (Host.reduceAdd (mulf (O4 a2) (DM4 a0 a1)) (constant S_ .f32 0x00000000#32) reducesTo_S8192x3x2x64_S8192x3x2_d3 h_S_) shapeCasts_S8192x3x2_S8192x3x2x1) (constant S_ .f32 0x00000000#32) reducesTo_S8192x3x2x1_S8192x3x2_d3 h_S_

/-- The gradient of the statistics. -/
def DL3 (a0 : FVec Ideal S8192x1024 .f32) (a1 : FVec Ideal S1024x1024 .bf16) (a2 : FVec Ideal S8192x384 .f32) (a3 : FVec Ideal S8192x6 .f32) : FVec Ideal S8192x3x2 .f32 :=
  mulf (addf (Host.divf (G3 a0 a1 a2) (broadcastInDim S8192x3x2 ![0, 1, 2] bcast_S8192x1x2_S8192x3x2_0_1_2 (S1 a3))) (broadcastInDim S8192x3x2 ![0, 2] bcast_S8192x2_S8192x3x2_0_2 (Host.reduceAdd (Host.negf (shapeCast S8192x1x2 (Host.reduceAdd (mulf (mulf (G3 a0 a1 a2) (broadcastInDim S8192x3x2 ![0, 1, 2] bcast_S8192x1x2_S8192x3x2_0_1_2 (Host.divf (broadcastInDim S8192x1x2 ![] bcast_S_S8192x1x2 (constant S_ .f32 0x3F800000#32)) (mulf (S1 a3) (S1 a3))))) (E3 a3)) (constant S_ .f32 0x00000000#32) reducesTo_S8192x3x2_S8192x2_d1 h_S_) shapeCasts_S8192x2_S8192x1x2)) (constant S_ .f32 0x00000000#32) reducesTo_S8192x1x2_S8192x2_d1 h_S_))) (E3 a3)

/-- The attention outputs by their shares. -/
def ATT (a2 : FVec Ideal S8192x384 .f32) (a3 : FVec Ideal S8192x6 .f32) : FVec Ideal S8192x384 .f32 :=
  shapeCast S8192x384 (mulf (O4 a2) (broadcastInDim S8192x3x2x64 ![0, 1, 2, 3] bcast_S8192x3x2x1_S8192x3x2x64_0_1_2_3 (broadcastInDim S8192x3x2x1 ![0, 1, 2] bcast_S8192x3x2_S8192x3x2x1_0_1_2 (AL a3)))) shapeCasts_S8192x3x2x64_S8192x384

/-- Three branches side by side. -/
def JOIN (b0 : FVec Ideal S8192x384 .f32) (b1 : FVec Ideal S8192x256 .f32) (b2 : FVec Ideal S8192x384 .f32) : FVec Ideal S8192x1024 .f32 :=
  (concatenate S8192x1024 1 [⟨S8192x384, (b0 : (⟨S8192x384, .f32⟩ : BufTy).Contents (Elt Ideal))⟩, ⟨S8192x256, (b1 : (⟨S8192x256, .f32⟩ : BufTy).Contents (Elt Ideal))⟩, ⟨S8192x384, (b2 : (⟨S8192x384, .f32⟩ : BufTy).Contents (Elt Ideal))⟩] concatenates_S8192x384_S8192x256_S8192x384_S8192x1024_d1 : (⟨S8192x1024, .f32⟩ : BufTy).Contents (Elt Ideal))

/-- The merged mix: the attention outputs by their shares, then the two other branches. -/
def MIX (a2 : FVec Ideal S8192x384 .f32) (a3 : FVec Ideal S8192x6 .f32) (a4 : FVec Ideal S8192x256 .f32) (a5 : FVec Ideal S8192x384 .f32) : FVec Ideal S8192x1024 .f32 :=
  JOIN (ATT a2 a3) a4 a5

/-- The gradient of the statistics less the inner products of outputs and their gradients, repeated over the lanes. -/
def DD (a0 : FVec Ideal S8192x1024 .f32) (a1 : FVec Ideal S1024x1024 .bf16) (a2 : FVec Ideal S8192x384 .f32) (a3 : FVec Ideal S8192x6 .f32) : FVec Ideal S8192x384 .f32 :=
  shapeCast S8192x384 (broadcastInDim S8192x6x64 ![0, 1] bcast_S8192x6_S8192x6x64_0_1 (subf (shapeCast S8192x6 (DL3 a0 a1 a2 a3) shapeCasts_S8192x3x2_S8192x6) (Host.reduceAdd (shapeCast S8192x6x64 (mulf (DO a0 a1 a3) a2) shapeCasts_S8192x384_S8192x6x64) (constant S_ .f32 0x00000000#32) reducesTo_S8192x6x64_S8192x6_d2 h_S_))) shapeCasts_S8192x6x64_S8192x384

/-- The gradient of the convolution branch. -/
def DYC (a0 : FVec Ideal S8192x1024 .f32) (a1 : FVec Ideal S1024x1024 .bf16) : FVec Ideal S8192x256 .f32 :=
  extractStridedSlice S8192x256 ![0, 384] (DM a0 a1) slices_S8192x1024_S8192x256_0_384

/-- The gradient of the recurrence branch. -/
def DYL (a0 : FVec Ideal S8192x1024 .f32) (a1 : FVec Ideal S1024x1024 .bf16) : FVec Ideal S8192x384 .f32 :=
  extractStridedSlice S8192x384 ![0, 640] (DM a0 a1) slices_S8192x1024_S8192x384_0_640

/-- The gradient of the output projection's weight. -/
def DW (a0 : FVec Ideal S8192x1024 .f32) (a2 : FVec Ideal S8192x384 .f32) (a3 : FVec Ideal S8192x6 .f32) (a4 : FVec Ideal S8192x256 .f32) (a5 : FVec Ideal S8192x384 .f32) : FVec Ideal S1024x1024 .bf16 :=
  truncf .bf16 (transpose S1024x1024 [1, 0] (Host.dotGeneral dot_S8192x1024_S8192x1024_S1024x1024_0_0_1_1_n_n none a0 (MIX a2 a3 a4 a5)) transposes_S1024x1024_S1024x1024_1_0) bitsLt_bf16_f32

/-- The three statistics of head `a` in row `r`. -/
def stats (a3 : FVec Ideal S8192x6 .f32) (r : Fin 8192) (a : Fin 2) : Fin 3 → EReal :=
  fun p => a3 (ix2 r (⟨p.val * 2 + a.val, by omega⟩ : Fin 6))

/-- An entry of the gradient of the merged mix. -/
def dmix (a0 : FVec Ideal S8192x1024 .f32) (a1 : FVec Ideal S1024x1024 .bf16) (r : Fin 8192) (j : Fin 1024) : EReal :=
  ∑ k : Fin 1024, a0 (ix2 r k) * a1 (ix2 j k)

/-- The column of lane `l` of head `a` of part `p`. -/
def lane (p : Fin 3) (a : Fin 2) (l : Fin 64) : Fin 384 := ⟨p.val * 128 + a.val * 64 + l.val, by omega⟩

/-- The same column among all columns of the mix. -/
def wide (c : Fin 384) : Fin 1024 := ⟨c.val, by omega⟩

theorem fold_max_three (b : EReal) (f : Fin 3 → EReal) : Finset.fold max b f Finset.univ = max (f 0) (max (f 1) (max (f 2) b)) := by
  rfl

theorem E3_at (a3 : FVec Ideal S8192x6 .f32) (r : Fin 8192) (p : Fin 3) (a : Fin 2) :
    E3 a3 (ix3 r p a) = ex (stats a3 r a) p := by
  have hb : Ideal.ofBits FTy.f32 4286578688#32 = (⊥ : EReal) := by
    norm_num [Ideal.ofBits, Ideal.ieee]
    rw [if_pos (by decide +kernel), if_pos (by decide +kernel)]
  have hL : ∀ q, L3 a3 (ix3 r q a) = stats a3 r a q := fun q => by pointwise [L3]; rfl
  pointwise [E3]
  rw [hb, fold_max_three]
  simp only [hL]
  unfold ex top
  congr 2
  rw [max_bot_right, max_bot_left, max_assoc]

theorem S1_at (a3 : FVec Ideal S8192x6 .f32) (r : Fin 8192) (a : Fin 2) : S1 a3 (ix3 r 0 a) = tot (stats a3 r a) := by
  pointwise [S1]
  rw [Fin.sum_univ_three, E3_at, E3_at, E3_at]
  rfl

theorem AL_at (a3 : FVec Ideal S8192x6 .f32) (r : Fin 8192) (p : Fin 3) (a : Fin 2) : AL a3 (ix3 r p a) = share (stats a3 r a) p := by
  pointwise [AL]
  rw [E3_at, S1_at]
  rfl

theorem DM_at (a0 : FVec Ideal S8192x1024 .f32) (a1 : FVec Ideal S1024x1024 .bf16) (r : Fin 8192) (j : Fin 1024) :
    DM a0 a1 (ix2 r j) = dmix a0 a1 r j := by
  pointwise [DM]
  rfl

theorem DM4_at (a0 : FVec Ideal S8192x1024 .f32) (a1 : FVec Ideal S1024x1024 .bf16) (r : Fin 8192) (p : Fin 3) (a : Fin 2) (l : Fin 64) :
    DM4 a0 a1 (ix4 r p a l) = dmix a0 a1 r (wide (lane p a l)) := by
  pointwise [DM4]
  exact DM_at _ _ _ _

theorem O4_at (a2 : FVec Ideal S8192x384 .f32) (r : Fin 8192) (p : Fin 3) (a : Fin 2) (l : Fin 64) :
    O4 a2 (ix4 r p a l) = a2 (ix2 r (lane p a l)) := by
  pointwise [O4]
  rfl

theorem lane_part (p : Fin 3) (a : Fin 2) (l : Fin 64) : (lane p a l).val / 128 = p.val := by
  show (p.val * 128 + a.val * 64 + l.val) / 128 = _
  omega

theorem lane_head (p : Fin 3) (a : Fin 2) (l : Fin 64) : (lane p a l).val / 64 % 2 = a.val := by
  show (p.val * 128 + a.val * 64 + l.val) / 64 % 2 = _
  omega

theorem lane_lane (p : Fin 3) (a : Fin 2) (l : Fin 64) : (lane p a l).val % 64 = l.val := by
  show (p.val * 128 + a.val * 64 + l.val) % 64 = _
  omega

/-- The gradient of the attention outputs, at a lane. -/
theorem DO_at (a0 : FVec Ideal S8192x1024 .f32) (a1 : FVec Ideal S1024x1024 .bf16) (a3 : FVec Ideal S8192x6 .f32)
    (r : Fin 8192) (p : Fin 3) (a : Fin 2) (l : Fin 64) :
    DO a0 a1 a3 (ix2 r (lane p a l)) = dmix a0 a1 r (wide (lane p a l)) * share (stats a3 r a) p := by
  have h : DO a0 a1 a3 (ix2 r (lane p a l)) = DO4 a0 a1 a3 (ix4 r p a l) := by
    pointwise [DO]
    congr 1
    congr 1
    · exact Fin.ext (lane_part p a l)
    · exact Fin.ext (lane_head p a l)
    · exact Fin.ext (lane_lane p a l)
  rw [h]
  pointwise [DO4]
  rw [DM4_at, AL_at]

theorem G3_at (a0 : FVec Ideal S8192x1024 .f32) (a1 : FVec Ideal S1024x1024 .bf16) (a2 : FVec Ideal S8192x384 .f32)
    (r : Fin 8192) (p : Fin 3) (a : Fin 2) :
    G3 a0 a1 a2 (ix3 r p a) = ∑ l : Fin 64, a2 (ix2 r (lane p a l)) * dmix a0 a1 r (wide (lane p a l)) := by
  pointwise [G3]
  rw [Fin.sum_univ_one]
  refine Fin.sum_fin_congr fun l => ?_
  rw [O4_at, DM4_at]

theorem DL3_at (a0 : FVec Ideal S8192x1024 .f32) (a1 : FVec Ideal S1024x1024 .bf16) (a2 : FVec Ideal S8192x384 .f32)
    (a3 : FVec Ideal S8192x6 .f32) (r : Fin 8192) (p : Fin 3) (a : Fin 2) :
    DL3 a0 a1 a2 a3 (ix3 r p a) = (Ideal.div (∑ l : Fin 64, a2 (ix2 r (lane p a l)) * dmix a0 a1 r (wide (lane p a l))) (tot (stats a3 r a))
        + -(∑ q, (∑ l : Fin 64, a2 (ix2 r (lane q a l)) * dmix a0 a1 r (wide (lane q a l)))
            * Ideal.div 1 (tot (stats a3 r a) * tot (stats a3 r a)) * ex (stats a3 r a) q)) * ex (stats a3 r a) p := by
  pointwise [DL3]
  rw [Fin.sum_univ_one, G3_at, S1_at, E3_at]
  congr 3
  refine Fin.sum_fin_congr fun q => ?_
  rw [G3_at, E3_at]

theorem DD_read (a0 : FVec Ideal S8192x1024 .f32) (a1 : FVec Ideal S1024x1024 .bf16) (a2 : FVec Ideal S8192x384 .f32)
    (a3 : FVec Ideal S8192x6 .f32) (r : Fin 8192) (p : Fin 3) (a : Fin 2) (l : Fin 64) :
    DD a0 a1 a2 a3 (ix2 r (lane p a l)) = DL3 a0 a1 a2 a3 (ix3 r p a)
      - ∑ k : Fin 64, DO a0 a1 a3 (ix2 r (lane p a k)) * a2 (ix2 r (lane p a k)) := by
  have e : ∀ k : Fin 64, ((⟨(lane p a l).val / 64 * 64 + k.val, by omega⟩ : Fin 384)) = lane p a k := fun k => Fin.ext (by
    have h1 := lane_part p a l
    have h2 := lane_head p a l
    show (lane p a l).val / 64 * 64 + k.val = p.val * 128 + a.val * 64 + k.val
    omega)
  pointwise [DD]
  refine congrArg₂ (fun u v : EReal => u - v) ?_ (Fin.sum_fin_congr fun k => ?_)
  · congr 1
    congr 1
    · exact Fin.ext ((Nat.div_div_eq_div_mul _ _ _).trans (lane_part p a l))
    · exact Fin.ext (lane_head p a l)
  · rw [e k]

/-- Every entry of an array is a real number. -/
def Reals {s : Shape} {φ : FTy} (x : FVec Ideal s φ) : Prop := ∀ i, ∃ u : ℝ, x i = (u : EReal)

/-- The gradient of the statistics less the inner products, at a lane, for real arguments. -/
theorem DD_at (a0 : FVec Ideal S8192x1024 .f32) (a1 : FVec Ideal S1024x1024 .bf16) (a2 : FVec Ideal S8192x384 .f32)
    (a3 : FVec Ideal S8192x6 .f32) (h0 : Reals a0) (h1 : Reals a1) (h2 : Reals a2) (h3 : Reals a3)
    (r : Fin 8192) (p : Fin 3) (a : Fin 2) (l : Fin 64) :
    DD a0 a1 a2 a3 (ix2 r (lane p a l)) = (0 - share (stats a3 r a) p)
      * ∑ q, share (stats a3 r a) q * ∑ k : Fin 64, dmix a0 a1 r (wide (lane q a k)) * a2 (ix2 r (lane q a k)) := by
  choose f0 h0 using h0
  choose f1 h1 using h1
  choose f2 h2 using h2
  choose f3 h3 using h3
  have hd : ∀ j, dmix a0 a1 r j = ((∑ k : Fin 1024, f0 (ix2 r k) * f1 (ix2 j k) : ℝ) : EReal) := fun j => by
    unfold dmix
    simp only [h0, h1, ← EReal.coe_mul]
    exact sum_coe _
  have hl : stats a3 r a = fun q : Fin 3 => ((f3 (ix2 r (⟨q.val * 2 + a.val, by omega⟩ : Fin 6)) : ℝ) : EReal) := funext fun q => h3 _
  rw [DD_read, DL3_at]
  simp only [DO_at, hd, hl, h2]
  exact gradient_eq _ (fun q k => ∑ j : Fin 1024, f0 (ix2 r j) * f1 (ix2 (wide (lane q a k)) j))
    (fun q k => f2 (ix2 r (lane q a k))) p

/-- The gradient of the convolution branch. -/
theorem DYC_at (a0 : FVec Ideal S8192x1024 .f32) (a1 : FVec Ideal S1024x1024 .bf16) (y : S8192x256.Idx) :
    DYC a0 a1 y = dmix a0 a1 (y 0) (⟨384 + (y 1).val, by have := (y 1).isLt; simp at this; omega⟩ : Fin 1024) := by
  refine (congrArg (DYC a0 a1) (eq_ix2 y)).trans ?_
  pointwise [DYC]
  exact DM_at _ _ _ _

/-- The gradient of the recurrence branch. -/
theorem DYL_at (a0 : FVec Ideal S8192x1024 .f32) (a1 : FVec Ideal S1024x1024 .bf16) (y : S8192x384.Idx) :
    DYL a0 a1 y = dmix a0 a1 (y 0) (⟨640 + (y 1).val, by have := (y 1).isLt; simp at this; omega⟩ : Fin 1024) := by
  refine (congrArg (DYL a0 a1) (eq_ix2 y)).trans ?_
  pointwise [DYL]
  exact DM_at _ _ _ _

/-- The gradient of the output projection's weight. -/
theorem DW_at (a0 : FVec Ideal S8192x1024 .f32) (a2 : FVec Ideal S8192x384 .f32) (a3 : FVec Ideal S8192x6 .f32)
    (a4 : FVec Ideal S8192x256 .f32) (a5 : FVec Ideal S8192x384 .f32) (y : S1024x1024.Idx) :
    DW a0 a2 a3 a4 a5 y = ∑ k : Fin 8192, MIX a2 a3 a4 a5 (ix2 k (y 0)) * a0 (ix2 k (y 1)) := by
  refine (congrArg (DW a0 a2 a3 a4 a5) (eq_ix2 y)).trans ?_
  pointwise [DW]
  exact Fin.sum_fin_congr fun k => mul_comm (G := EReal) _ _

end Cert.ReferenceIdeal.Value

end
-- ==== Proof.OutprojBlock.lean ====
/- The backward pass of the output projection: what one block of rows leaves in each output. -/
module

public import proofs.«01_k».proof.Proof.Gen.KernelIdeal.Value
public import Idealize.ShloMosaic.Lib.Pipeline.ValueKit
public import Idealize.ShloMosaic.Lib.Pipeline.ReadBack
public import proofs.«01_k».proof.Proof.Tiles
public import proofs.«01_k».proof.Proof.Merge

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Merge

/-- An entry of the gradient of the merged mix, within a block of rows. -/
def rowdot (x0 : Vec Ideal S1024x1024 .f32) (x2 : Vec Ideal S1024x1024 .bf16) (r j : Fin 1024) : EReal :=
  ∑ k : Fin 1024, x0 (ix2 r k) * x2 (ix2 j k)

/-- The three statistics standing over lane `c` of the parts. -/
def over (x4 : Vec Ideal S1024x384 .f32) (r : Fin 1024) (c : Fin 128) : Fin 3 → EReal :=
  fun p => x4 (ix2 r (⟨p.val * 128 + c.val, by omega⟩ : Fin 384))

/-- The inner product of output and gradient over the lanes of the head that lane `c` of part `p` belongs to. -/
def inner (x0 : Vec Ideal S1024x1024 .f32) (x2 : Vec Ideal S1024x1024 .bf16) (x3 : Vec Ideal S1024x384 .f32) (r : Fin 1024)
    (c : Fin 128) (p : Fin 3) : EReal :=
  ∑ l : Fin 64, rowdot x0 x2 r (⟨p.val * 128 + c.val / 64 * 64 + l.val, by omega⟩ : Fin 1024)
    * x3 (ix2 r (⟨p.val * 128 + c.val / 64 * 64 + l.val, by omega⟩ : Fin 384))

theorem pay3_at (x0 : Vec Ideal S1024x1024 .f32) (x2 : Vec Ideal S1024x1024 .bf16) (r j : Fin 1024) :
    k0_pay3 x0 x2 (ix2 r j) = rowdot x0 x2 r j := by
  pointwise [k0_pay3, k0_pay2]
  rfl

theorem pay13_at (x4 : Vec Ideal S1024x384 .f32) (r : Fin 1024) (c : Fin 128) :
    k0_pay13 x4 (ix2 r c) = part (over x4 r c) 0 := by
  have e0 : x4 (ix2 r (⟨c.val, by omega⟩ : Fin 384)) = over x4 r c 0 :=
    congrArg (fun z : Fin 384 => x4 (ix2 r z)) (Fin.ext (by show c.val = 0 * 128 + c.val; omega))
  have e1 : x4 (ix2 r (⟨128 + c.val, by omega⟩ : Fin 384)) = over x4 r c 1 :=
    congrArg (fun z : Fin 384 => x4 (ix2 r z)) (Fin.ext (by show 128 + c.val = 1 * 128 + c.val; omega))
  have e2 : x4 (ix2 r (⟨256 + c.val, by omega⟩ : Fin 384)) = over x4 r c 2 :=
    congrArg (fun z : Fin 384 => x4 (ix2 r z)) (Fin.ext (by show 256 + c.val = 2 * 128 + c.val; omega))
  pointwise [k0_pay13, k0_pay12, k0_pay11, k0_pay10, k0_pay9, k0_pay8, k0_pay7, k0_pay6, k0_pay5, k0_pay4]
  simp only [e0, e1, e2]
  rfl

theorem pay14_at (x4 : Vec Ideal S1024x384 .f32) (r : Fin 1024) (c : Fin 128) :
    k0_pay14 x4 (ix2 r c) = part (over x4 r c) 1 := by
  have e0 : x4 (ix2 r (⟨c.val, by omega⟩ : Fin 384)) = over x4 r c 0 :=
    congrArg (fun z : Fin 384 => x4 (ix2 r z)) (Fin.ext (by show c.val = 0 * 128 + c.val; omega))
  have e1 : x4 (ix2 r (⟨128 + c.val, by omega⟩ : Fin 384)) = over x4 r c 1 :=
    congrArg (fun z : Fin 384 => x4 (ix2 r z)) (Fin.ext (by show 128 + c.val = 1 * 128 + c.val; omega))
  have e2 : x4 (ix2 r (⟨256 + c.val, by omega⟩ : Fin 384)) = over x4 r c 2 :=
    congrArg (fun z : Fin 384 => x4 (ix2 r z)) (Fin.ext (by show 256 + c.val = 2 * 128 + c.val; omega))
  pointwise [k0_pay14, k0_pay12, k0_pay11, k0_pay10, k0_pay9, k0_pay8, k0_pay7, k0_pay6, k0_pay5, k0_pay4]
  simp only [e0, e1, e2]
  rfl

theorem pay15_at (x4 : Vec Ideal S1024x384 .f32) (r : Fin 1024) (c : Fin 128) :
    k0_pay15 x4 (ix2 r c) = part (over x4 r c) 2 := by
  have e0 : x4 (ix2 r (⟨c.val, by omega⟩ : Fin 384)) = over x4 r c 0 :=
    congrArg (fun z : Fin 384 => x4 (ix2 r z)) (Fin.ext (by show c.val = 0 * 128 + c.val; omega))
  have e1 : x4 (ix2 r (⟨128 + c.val, by omega⟩ : Fin 384)) = over x4 r c 1 :=
    congrArg (fun z : Fin 384 => x4 (ix2 r z)) (Fin.ext (by show 128 + c.val = 1 * 128 + c.val; omega))
  have e2 : x4 (ix2 r (⟨256 + c.val, by omega⟩ : Fin 384)) = over x4 r c 2 :=
    congrArg (fun z : Fin 384 => x4 (ix2 r z)) (Fin.ext (by show 256 + c.val = 2 * 128 + c.val; omega))
  pointwise [k0_pay15, k0_pay12, k0_pay11, k0_pay10, k0_pay9, k0_pay8, k0_pay7, k0_pay6, k0_pay5, k0_pay4]
  simp only [e0, e1, e2]
  rfl

/-- The mask separates the two heads of a part. -/
theorem select_mask (r : Fin 1024) (c : Fin 128) (a b : EReal) :
    Scalar.select (k0_pay16 (ix2 r c)) a b = if c.val < 64 then a else b := by
  have h : k0_pay16 (ix2 r c) = if c.val < 64 then 1#1 else 0#1 := by
    pointwise [k0_pay16]
    revert c
    decide +kernel
  rw [h]
  by_cases hc : c.val < 64
  · rw [if_pos hc, if_pos hc]; rfl
  · rw [if_neg hc, if_neg hc]; rfl

theorem sum_first (f : Fin 128 → EReal) : (∑ x : Fin 128, if x.val < 64 then f x else 0) = ∑ l : Fin 64, f ⟨l.val, by omega⟩ := by
  rw [Fin.sum_univ_add (a := 64) (b := 64) (fun x : Fin 128 => if x.val < 64 then f x else 0)]
  have h1 : ∀ l : Fin 64, (if (Fin.castAdd 64 l : Fin 128).val < 64 then f (Fin.castAdd 64 l) else 0) = f ⟨l.val, by omega⟩ :=
    fun l => if_pos l.isLt
  have h2 : ∀ l : Fin 64, (if (Fin.natAdd 64 l : Fin 128).val < 64 then f (Fin.natAdd 64 l) else 0) = 0 :=
    fun l => if_neg (by show ¬ 64 + l.val < 64; omega)
  rw [Finset.sum_congr rfl fun l _ => h1 l, Finset.sum_congr rfl fun l _ => h2 l, Finset.sum_const_zero, add_zero]

theorem sum_second (f : Fin 128 → EReal) : (∑ x : Fin 128, if x.val < 64 then 0 else f x) = ∑ l : Fin 64, f ⟨64 + l.val, by omega⟩ := by
  rw [Fin.sum_univ_add (a := 64) (b := 64) (fun x : Fin 128 => if x.val < 64 then 0 else f x)]
  have h1 : ∀ l : Fin 64, (if (Fin.castAdd 64 l : Fin 128).val < 64 then 0 else f (Fin.castAdd 64 l)) = 0 :=
    fun l => if_pos l.isLt
  have h2 : ∀ l : Fin 64, (if (Fin.natAdd 64 l : Fin 128).val < 64 then 0 else f (Fin.natAdd 64 l)) = f ⟨64 + l.val, by omega⟩ :=
    fun l => if_neg (by show ¬ 64 + l.val < 64; omega)
  rw [Finset.sum_congr rfl fun l _ => h1 l, Finset.sum_congr rfl fun l _ => h2 l, Finset.sum_const_zero, zero_add]

/-- Both masked sums, taken where their head's lanes lie, are the sum over the lane's own head. -/
theorem both_heads (c : Fin 128) (f : Fin 128 → EReal) :
    (if c.val < 64 then (∑ x : Fin 128, if x.val < 64 then f x else 0) else ∑ x : Fin 128, if x.val < 64 then 0 else f x)
      = ∑ l : Fin 64, f ⟨c.val / 64 * 64 + l.val, by omega⟩ := by
  by_cases hc : c.val < 64
  · rw [if_pos hc, sum_first]
    exact Finset.sum_congr rfl fun l _ => congrArg f (Fin.ext (by show l.val = c.val / 64 * 64 + l.val; omega))
  · rw [if_neg hc, sum_second]
    exact Finset.sum_congr rfl fun l _ => congrArg f (Fin.ext (by show 64 + l.val = c.val / 64 * 64 + l.val; omega))

/-- The running sum after the first two parts. -/
def TWO (x0 : Vec Ideal S1024x1024 .f32) (x2 : Vec Ideal S1024x1024 .bf16) (x3 x4 : Vec Ideal S1024x384 .f32) : FVec Ideal S1024x128 .f32 :=
  k0_pay25 (k0_pay3 x0 x2) (k0_pay13 x4) (k0_pay14 x4) k0_pay16 k0_pay17 (k0_pay21 x0 x2 (View.ld x3 (Rect.unit ![0, 0] ![1024, 128] inb_S1024x384_S1024x128_0_0))) (k0_pay22 x0 x2 (View.ld x3 (Rect.unit ![0, 0] ![1024, 128] inb_S1024x384_S1024x128_0_0))) (View.ld x3 (Rect.unit ![0, 128] ![1024, 128] inb_S1024x384_S1024x128_0_128))

theorem ld_at (x3 : Vec Ideal S1024x384 .f32) (r : Fin 1024) (x : Fin 128) : (View.ld x3 (Rect.unit ![0, 0] ![1024, 128] inb_S1024x384_S1024x128_0_0)) (ix2 r x) = x3 (ix2 r (⟨x.val, by omega⟩ : Fin 384))
    ∧ (View.ld x3 (Rect.unit ![0, 128] ![1024, 128] inb_S1024x384_S1024x128_0_128)) (ix2 r x) = x3 (ix2 r (⟨128 + x.val, by omega⟩ : Fin 384))
    ∧ (View.ld x3 (Rect.unit ![0, 256] ![1024, 128] inb_S1024x384_S1024x128_0_256)) (ix2 r x) = x3 (ix2 r (⟨256 + x.val, by omega⟩ : Fin 384)) := by
  refine ⟨View.ld_unit_apply_of x3 _ _ _ _ _ ?_, View.ld_unit_apply_of x3 _ _ _ _ _ ?_, View.ld_unit_apply_of x3 _ _ _ _ _ ?_⟩ <;>
    exact Fin.forall_fin_two.mpr ⟨(Nat.zero_add _).symm, by first | rfl | exact (Nat.zero_add _).symm⟩

theorem inner_0 (x0 : Vec Ideal S1024x1024 .f32) (x2 : Vec Ideal S1024x1024 .bf16) (x3 : Vec Ideal S1024x384 .f32) (r : Fin 1024) (c : Fin 128) :
    (if c.val < 64 then (∑ x : Fin 128, if x.val < 64 then rowdot x0 x2 r (⟨x.val, by omega⟩ : Fin 1024) * x3 (ix2 r (⟨x.val, by omega⟩ : Fin 384)) else 0)
      else ∑ x : Fin 128, if x.val < 64 then 0 else rowdot x0 x2 r (⟨x.val, by omega⟩ : Fin 1024) * x3 (ix2 r (⟨x.val, by omega⟩ : Fin 384)))
      = inner x0 x2 x3 r c 0 := by
  refine (both_heads c fun x : Fin 128 => rowdot x0 x2 r (⟨x.val, by omega⟩ : Fin 1024) * x3 (ix2 r (⟨x.val, by omega⟩ : Fin 384))).trans ?_
  refine Finset.sum_congr rfl fun l _ => congrArg₂ (fun u v : EReal => u * v) (congrArg (rowdot x0 x2 r) (Fin.ext ?_))
    (congrArg (fun z : Fin 384 => x3 (ix2 r z)) (Fin.ext ?_))
  · show (c.val / 64 * 64 + l.val) = 0 * 128 + c.val / 64 * 64 + l.val
    omega
  · show (c.val / 64 * 64 + l.val) = 0 * 128 + c.val / 64 * 64 + l.val
    omega

theorem inner_1 (x0 : Vec Ideal S1024x1024 .f32) (x2 : Vec Ideal S1024x1024 .bf16) (x3 : Vec Ideal S1024x384 .f32) (r : Fin 1024) (c : Fin 128) :
    (if c.val < 64 then (∑ x : Fin 128, if x.val < 64 then rowdot x0 x2 r (⟨128 + x.val, by omega⟩ : Fin 1024) * x3 (ix2 r (⟨128 + x.val, by omega⟩ : Fin 384)) else 0)
      else ∑ x : Fin 128, if x.val < 64 then 0 else rowdot x0 x2 r (⟨128 + x.val, by omega⟩ : Fin 1024) * x3 (ix2 r (⟨128 + x.val, by omega⟩ : Fin 384)))
      = inner x0 x2 x3 r c 1 := by
  refine (both_heads c fun x : Fin 128 => rowdot x0 x2 r (⟨128 + x.val, by omega⟩ : Fin 1024) * x3 (ix2 r (⟨128 + x.val, by omega⟩ : Fin 384))).trans ?_
  refine Finset.sum_congr rfl fun l _ => congrArg₂ (fun u v : EReal => u * v) (congrArg (rowdot x0 x2 r) (Fin.ext ?_))
    (congrArg (fun z : Fin 384 => x3 (ix2 r z)) (Fin.ext ?_))
  · show 128 + (c.val / 64 * 64 + l.val) = 1 * 128 + c.val / 64 * 64 + l.val
    omega
  · show 128 + (c.val / 64 * 64 + l.val) = 1 * 128 + c.val / 64 * 64 + l.val
    omega

theorem inner_2 (x0 : Vec Ideal S1024x1024 .f32) (x2 : Vec Ideal S1024x1024 .bf16) (x3 : Vec Ideal S1024x384 .f32) (r : Fin 1024) (c : Fin 128) :
    (if c.val < 64 then (∑ x : Fin 128, if x.val < 64 then rowdot x0 x2 r (⟨256 + x.val, by omega⟩ : Fin 1024) * x3 (ix2 r (⟨256 + x.val, by omega⟩ : Fin 384)) else 0)
      else ∑ x : Fin 128, if x.val < 64 then 0 else rowdot x0 x2 r (⟨256 + x.val, by omega⟩ : Fin 1024) * x3 (ix2 r (⟨256 + x.val, by omega⟩ : Fin 384)))
      = inner x0 x2 x3 r c 2 := by
  refine (both_heads c fun x : Fin 128 => rowdot x0 x2 r (⟨256 + x.val, by omega⟩ : Fin 1024) * x3 (ix2 r (⟨256 + x.val, by omega⟩ : Fin 384))).trans ?_
  refine Finset.sum_congr rfl fun l _ => congrArg₂ (fun u v : EReal => u * v) (congrArg (rowdot x0 x2 r) (Fin.ext ?_))
    (congrArg (fun z : Fin 384 => x3 (ix2 r z)) (Fin.ext ?_))
  · show 256 + (c.val / 64 * 64 + l.val) = 2 * 128 + c.val / 64 * 64 + l.val
    omega
  · show 256 + (c.val / 64 * 64 + l.val) = 2 * 128 + c.val / 64 * 64 + l.val
    omega

theorem TWO_at (x0 : Vec Ideal S1024x1024 .f32) (x2 : Vec Ideal S1024x1024 .bf16) (x3 x4 : Vec Ideal S1024x384 .f32) (r : Fin 1024) (c : Fin 128) :
    TWO x0 x2 x3 x4 (ix2 r c) = 0 + part (over x4 r c) 0 * inner x0 x2 x3 r c 0 + part (over x4 r c) 1 * inner x0 x2 x3 r c 1 := by
  pointwise [TWO, k0_pay25, k0_pay23, k0_pay22, k0_pay21, k0_pay20, k0_pay18, k0_pay17]
  simp only [select_mask, pay3_at, pay13_at, pay14_at, (ld_at x3 r _).1, (ld_at x3 r _).2.1]
  rw [inner_0, inner_1]
  try rw [zero_add]

/-- The weighted sum of the inner products over the three parts. -/
def weighted (x0 : Vec Ideal S1024x1024 .f32) (x2 : Vec Ideal S1024x1024 .bf16) (x3 x4 : Vec Ideal S1024x384 .f32) (r : Fin 1024) (c : Fin 128) : EReal :=
  part (over x4 r c) 0 * inner x0 x2 x3 r c 0 + part (over x4 r c) 1 * inner x0 x2 x3 r c 1 + part (over x4 r c) 2 * inner x0 x2 x3 r c 2

theorem pay32_at (x0 : Vec Ideal S1024x1024 .f32) (x2 : Vec Ideal S1024x1024 .bf16) (x3 x4 : Vec Ideal S1024x384 .f32) (r : Fin 1024) (c : Fin 128) :
    k0_pay32 (k0_pay13 x4) (k0_pay15 x4) k0_pay16 (TWO x0 x2 x3 x4) (k0_pay29 (k0_pay3 x0 x2) k0_pay16 (View.ld x3 (Rect.unit ![0, 256] ![1024, 128] inb_S1024x384_S1024x128_0_256))) (k0_pay30 (k0_pay3 x0 x2) k0_pay16 (View.ld x3 (Rect.unit ![0, 256] ![1024, 128] inb_S1024x384_S1024x128_0_256))) (ix2 r c)
      = (0 - part (over x4 r c) 0) * weighted x0 x2 x3 x4 r c := by
  pointwise [k0_pay32, k0_pay31, k0_pay30, k0_pay29, k0_pay28, k0_pay26]
  simp only [select_mask, pay3_at, pay13_at, pay14_at, pay15_at, (ld_at x3 r _).2.2]
  rw [inner_2, TWO_at, zero_add]
  rfl

theorem pay33_at (x0 : Vec Ideal S1024x1024 .f32) (x2 : Vec Ideal S1024x1024 .bf16) (x3 x4 : Vec Ideal S1024x384 .f32) (r : Fin 1024) (c : Fin 128) :
    k0_pay33 (k0_pay14 x4) (k0_pay15 x4) k0_pay16 (TWO x0 x2 x3 x4) (k0_pay29 (k0_pay3 x0 x2) k0_pay16 (View.ld x3 (Rect.unit ![0, 256] ![1024, 128] inb_S1024x384_S1024x128_0_256))) (k0_pay30 (k0_pay3 x0 x2) k0_pay16 (View.ld x3 (Rect.unit ![0, 256] ![1024, 128] inb_S1024x384_S1024x128_0_256))) (ix2 r c)
      = (0 - part (over x4 r c) 1) * weighted x0 x2 x3 x4 r c := by
  pointwise [k0_pay33, k0_pay31, k0_pay30, k0_pay29, k0_pay28, k0_pay26]
  simp only [select_mask, pay3_at, pay13_at, pay14_at, pay15_at, (ld_at x3 r _).2.2]
  rw [inner_2, TWO_at, zero_add]
  rfl

theorem pay34_at (x0 : Vec Ideal S1024x1024 .f32) (x2 : Vec Ideal S1024x1024 .bf16) (x3 x4 : Vec Ideal S1024x384 .f32) (r : Fin 1024) (c : Fin 128) :
    k0_pay34 (k0_pay15 x4) k0_pay16 (TWO x0 x2 x3 x4) (k0_pay29 (k0_pay3 x0 x2) k0_pay16 (View.ld x3 (Rect.unit ![0, 256] ![1024, 128] inb_S1024x384_S1024x128_0_256))) (k0_pay30 (k0_pay3 x0 x2) k0_pay16 (View.ld x3 (Rect.unit ![0, 256] ![1024, 128] inb_S1024x384_S1024x128_0_256))) (ix2 r c)
      = (0 - part (over x4 r c) 2) * weighted x0 x2 x3 x4 r c := by
  pointwise [k0_pay34, k0_pay31, k0_pay30, k0_pay29, k0_pay28, k0_pay26]
  simp only [select_mask, pay3_at, pay13_at, pay14_at, pay15_at, (ld_at x3 r _).2.2]
  rw [inner_2, TWO_at, zero_add]
  rfl

theorem pay19_at (x0 : Vec Ideal S1024x1024 .f32) (x2 : Vec Ideal S1024x1024 .bf16) (x4 : Vec Ideal S1024x384 .f32) (r : Fin 1024) (c : Fin 128) :
    k0_pay19 x0 x2 x4 (ix2 r c) = rowdot x0 x2 r (⟨c.val, by omega⟩ : Fin 1024) * part (over x4 r c) 0 := by
  pointwise [k0_pay19, k0_pay18]
  rw [pay3_at, pay13_at]

theorem pay24_at (x0 : Vec Ideal S1024x1024 .f32) (x2 : Vec Ideal S1024x1024 .bf16) (x4 : Vec Ideal S1024x384 .f32) (r : Fin 1024) (c : Fin 128) :
    k0_pay24 (k0_pay3 x0 x2) (k0_pay14 x4) (ix2 r c) = rowdot x0 x2 r (⟨128 + c.val, by omega⟩ : Fin 1024) * part (over x4 r c) 1 := by
  pointwise [k0_pay24, k0_pay23]
  rw [pay3_at, pay14_at]

theorem pay27_at (x0 : Vec Ideal S1024x1024 .f32) (x2 : Vec Ideal S1024x1024 .bf16) (x4 : Vec Ideal S1024x384 .f32) (r : Fin 1024) (c : Fin 128) :
    k0_pay27 (k0_pay3 x0 x2) (k0_pay15 x4) (ix2 r c) = rowdot x0 x2 r (⟨256 + c.val, by omega⟩ : Fin 1024) * part (over x4 r c) 2 := by
  pointwise [k0_pay27, k0_pay26]
  rw [pay3_at, pay15_at]

end Cert.KernelIdeal.Value

end
-- ==== Proof.OutprojBwd.lean ====
/- The backward pass of the output projection: the arrays the kernel leaves are the reference's gradients. -/
module

public import proofs.«01_k».proof.Proof.OutprojRef
public import proofs.«01_k».proof.Proof.OutprojBlock
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Cert.Merge

variable (m : (ℓ : Loc nD τ sig) → Buf (Elt Ideal) ℓ)

open Cert.ReferenceIdeal.Value (DO DD DYC DYL DW ATT JOIN MIX DO_at DD_at DYC_at DYL_at DW_at lane wide dmix stats lane_part lane_head lane_lane Reals)

/-- Where each window's block sits at grid point `t`. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![0, 0] :=
  (by decide +kernel : ∀ t : Fin grid0.N, _)

theorem saved_att (c : Dev nD) : (StableHlo.upto hostOps0 (fun b => m (c, b)) 20 (Proc.tc.devRef main_v16)) = ATT (m ((c : Thread nD τ).loc main_arg2)) (m ((c : Thread nD τ).loc main_arg3)) := by
  after_reads_simp
  rfl

theorem saved_yc (c : Dev nD) : (StableHlo.upto hostOps0 (fun b => m (c, b)) 20 (Proc.tc.devRef main_arg4)) = (m ((c : Thread nD τ).loc main_arg4)) := by
  after_reads_simp

theorem saved_yl (c : Dev nD) : (StableHlo.upto hostOps0 (fun b => m (c, b)) 20 (Proc.tc.devRef main_arg5)) = (m ((c : Thread nD τ).loc main_arg5)) := by
  after_reads_simp

/-- The merged mix saved by the forward pass is the reference's. -/
theorem saved_mix (c : Dev nD) (i : S8192x1024.Idx) : V m c main_v18 i = MIX (m ((c : Thread nD τ).loc main_arg2)) (m ((c : Thread nD τ).loc main_arg3)) (m ((c : Thread nD τ).loc main_arg4)) (m ((c : Thread nD τ).loc main_arg5)) i := by
  unfold V
  after_reads_simp
  change JOIN (StableHlo.upto hostOps0 (fun b => m (c, b)) 20 (Proc.tc.devRef main_v16)) (StableHlo.upto hostOps0 (fun b => m (c, b)) 20 (Proc.tc.devRef main_arg4)) (StableHlo.upto hostOps0 (fun b => m (c, b)) 20 (Proc.tc.devRef main_arg5)) i = _
  rw [saved_att, saved_yc, saved_yl]
  rfl

/-- The statistics repeated over the lanes of their head. -/
theorem saved_lanes (c : Dev nD) (r : Fin 8192) (q : Fin 384) :
    V m c main_v20 (ix2 r q) = (m ((c : Thread nD τ).loc main_arg3)) (ix2 r (⟨q.val / 64, by omega⟩ : Fin 6)) := by
  unfold V
  after_reads_at

/-- The row of the array that row `r` of block `t` is. -/
def row (t : Fin cfg0.N) (r : Fin 1024) : Fin 8192 := ⟨1024 * t.val + r.val, by have h : t.val < 8 := t.isLt; have := r.isLt; omega⟩

theorem blk0 (c : Dev nD) (t : Fin cfg0.N) (r j : Fin 1024) : iblk m c 0 t (ix2 r j) = (m ((c : Thread nD τ).loc main_arg0)) (ix2 (row t r) j) := by
  show V m c main_arg0 (((cfg0.win 0).blk t).view.emb (ix2 r j)) = _
  rw [V_main_arg0]
  refine congrArg (m ((c : Thread nD τ).loc main_arg0)) ?_
  unfold row; blk_ext [idx_val t]

theorem blk1 (c : Dev nD) (t : Fin cfg0.N) (r j : Fin 1024) : iblk m c 1 t (ix2 r j) = MIX (m ((c : Thread nD τ).loc main_arg2)) (m ((c : Thread nD τ).loc main_arg3)) (m ((c : Thread nD τ).loc main_arg4)) (m ((c : Thread nD τ).loc main_arg5)) (ix2 (row t r) j) := by
  refine Eq.trans ?_ (saved_mix m c _)
  show V m c main_v18 (((cfg0.win 1).blk t).view.emb (ix2 r j)) = _
  refine congrArg (V m c main_v18) ?_
  unfold row; blk_ext [idx_val t]

theorem blk2 (c : Dev nD) (t : Fin cfg0.N) (r j : Fin 1024) : iblk m c 2 t (ix2 r j) = (m ((c : Thread nD τ).loc main_arg1)) (ix2 r j) := by
  show V m c main_arg1 (((cfg0.win 2).blk t).view.emb (ix2 r j)) = _
  rw [V_main_arg1]
  refine congrArg (m ((c : Thread nD τ).loc main_arg1)) ?_
  blk_ext [idx_val t]

theorem blk3 (c : Dev nD) (t : Fin cfg0.N) (r : Fin 1024) (q : Fin 384) : iblk m c 3 t (ix2 r q) = (m ((c : Thread nD τ).loc main_arg2)) (ix2 (row t r) q) := by
  show V m c main_arg2 (((cfg0.win 3).blk t).view.emb (ix2 r q)) = _
  rw [V_main_arg2]
  refine congrArg (m ((c : Thread nD τ).loc main_arg2)) ?_
  unfold row; blk_ext [idx_val t]

theorem blk4 (c : Dev nD) (t : Fin cfg0.N) (r : Fin 1024) (q : Fin 384) :
    iblk m c 4 t (ix2 r q) = (m ((c : Thread nD τ).loc main_arg3)) (ix2 (row t r) (⟨q.val / 64, by omega⟩ : Fin 6)) := by
  refine Eq.trans ?_ (saved_lanes m c _ _)
  show V m c main_v20 (((cfg0.win 4).blk t).view.emb (ix2 r q)) = _
  refine congrArg (V m c main_v20) ?_
  unfold row; blk_ext [idx_val t]

theorem rowdot_blk (c : Dev nD) (t : Fin cfg0.N) (r j : Fin 1024) :
    rowdot (iblk m c 0 t) (iblk m c 2 t) r j = dmix (m ((c : Thread nD τ).loc main_arg0)) (m ((c : Thread nD τ).loc main_arg1)) (row t r) j := by
  unfold rowdot dmix
  exact Fin.sum_fin_congr fun k => by rw [blk0, blk2]

/-- The lane of its part that a column is. -/
def within (q : Fin 384) : Fin 128 := ⟨q.val % 128, by omega⟩

theorem over_blk (c : Dev nD) (t : Fin cfg0.N) (r : Fin 1024) (p : Fin 3) (a : Fin 2) (l : Fin 64) :
    over (iblk m c 4 t) r (within (lane p a l)) = stats (m ((c : Thread nD τ).loc main_arg3)) (row t r) a := by
  funext q
  refine (blk4 m c t r _).trans (congrArg (fun z : Fin 6 => (m ((c : Thread nD τ).loc main_arg3)) (ix2 (row t r) z)) (Fin.ext ?_))
  show (q.val * 128 + (p.val * 128 + a.val * 64 + l.val) % 128) / 64 = q.val * 2 + a.val
  omega

theorem inner_blk (c : Dev nD) (t : Fin cfg0.N) (r : Fin 1024) (p : Fin 3) (a : Fin 2) (l : Fin 64) (q : Fin 3) :
    inner (iblk m c 0 t) (iblk m c 2 t) (iblk m c 3 t) r (within (lane p a l)) q
      = ∑ k : Fin 64, dmix (m ((c : Thread nD τ).loc main_arg0)) (m ((c : Thread nD τ).loc main_arg1)) (row t r) (wide (lane q a k)) * (m ((c : Thread nD τ).loc main_arg2)) (ix2 (row t r) (lane q a k)) := by
  unfold inner
  refine Fin.sum_fin_congr fun k => ?_
  rw [rowdot_blk, blk3]
  have e : q.val * 128 + (within (lane p a l)).val / 64 * 64 + k.val = q.val * 128 + a.val * 64 + k.val := by
    have : (within (lane p a l)).val / 64 = a.val := by
      show (p.val * 128 + a.val * 64 + l.val) % 128 / 64 = a.val
      omega
    rw [this]
  exact congrArg₂ (fun u v : EReal => u * v) (congrArg (dmix (m ((c : Thread nD τ).loc main_arg0)) (m ((c : Thread nD τ).loc main_arg1)) (row t r)) (Fin.ext e))
    (congrArg (fun z : Fin 384 => (m ((c : Thread nD τ).loc main_arg2)) (ix2 (row t r) z)) (Fin.ext e))

/-- The part a column belongs to. -/
def partOf (q : Fin 384) : Fin 3 := ⟨q.val / 128, by omega⟩

theorem partOf_lane (p : Fin 3) (a : Fin 2) (l : Fin 64) : partOf (lane p a l) = p := Fin.ext (lane_part p a l)

/-- Every column is a lane of a head of a part. -/
theorem exists_lane (q : Fin 384) : ∃ p a l, q = lane p a l :=
  ⟨⟨q.val / 128, by omega⟩, ⟨q.val % 128 / 64, by omega⟩, ⟨q.val % 64, by omega⟩, Fin.ext (by
    show q.val = q.val / 128 * 128 + q.val % 128 / 64 * 64 + q.val % 64
    omega)⟩

/-- What a block of rows leaves for the gradient of the attention outputs. -/
def leftO (x0 : Vec Ideal S1024x1024 .f32) (x2 : Vec Ideal S1024x1024 .bf16) (x4 : Vec Ideal S1024x384 .f32) (r : Fin 1024) (q : Fin 384) : EReal :=
  rowdot x0 x2 r (wide q) * part (over x4 r (within q)) (partOf q)

/-- What a block of rows leaves for the gradient of the statistics. -/
def leftD (x0 : Vec Ideal S1024x1024 .f32) (x2 : Vec Ideal S1024x1024 .bf16) (x3 x4 : Vec Ideal S1024x384 .f32) (r : Fin 1024) (q : Fin 384) : EReal :=
  (0 - part (over x4 r (within q)) (partOf q)) * weighted x0 x2 x3 x4 r (within q)

theorem within_0 (q : Fin 384) (x : Fin 128) (h : q.val = 0 + x.val) : within q = x ∧ partOf q = 0 :=
  ⟨Fin.ext (by show q.val % 128 = x.val; omega), Fin.ext (by show q.val / 128 = 0; omega)⟩

theorem within_1 (q : Fin 384) (x : Fin 128) (h : q.val = 128 + x.val) : within q = x ∧ partOf q = 1 :=
  ⟨Fin.ext (by show q.val % 128 = x.val; omega), Fin.ext (by show q.val / 128 = 1; omega)⟩

theorem within_2 (q : Fin 384) (x : Fin 128) (h : q.val = 256 + x.val) : within q = x ∧ partOf q = 2 :=
  ⟨Fin.ext (by show q.val % 128 = x.val; omega), Fin.ext (by show q.val / 128 = 2; omega)⟩

/-- The three stores of the gradient of the attention outputs, read back. -/
def storedO (x0 : Vec Ideal S1024x1024 .f32) (x2 : Vec Ideal S1024x1024 .bf16) (x4 : Vec Ideal S1024x384 .f32) : Vec Ideal S1024x384 .f32 :=
  View.canon [⟨Rect.unit ![0, 256] ![1024, 128] inb_S1024x384_S1024x128_0_256, k0_pay27 (k0_pay3 x0 x2) (k0_pay15 x4)⟩, ⟨Rect.unit ![0, 128] ![1024, 128] inb_S1024x384_S1024x128_0_128, k0_pay24 (k0_pay3 x0 x2) (k0_pay14 x4)⟩, ⟨Rect.unit ![0, 0] ![1024, 128] inb_S1024x384_S1024x128_0_0, k0_pay19 x0 x2 x4⟩]

/-- The three stores of the gradient of the statistics, read back. -/
def storedD (x0 : Vec Ideal S1024x1024 .f32) (x2 : Vec Ideal S1024x1024 .bf16) (x3 x4 : Vec Ideal S1024x384 .f32) : Vec Ideal S1024x384 .f32 :=
  View.canon [⟨Rect.unit ![0, 256] ![1024, 128] inb_S1024x384_S1024x128_0_256, k0_pay34 (k0_pay15 x4) k0_pay16 (TWO x0 x2 x3 x4) (k0_pay29 (k0_pay3 x0 x2) k0_pay16 (View.ld x3 (Rect.unit ![0, 256] ![1024, 128] inb_S1024x384_S1024x128_0_256))) (k0_pay30 (k0_pay3 x0 x2) k0_pay16 (View.ld x3 (Rect.unit ![0, 256] ![1024, 128] inb_S1024x384_S1024x128_0_256)))⟩, ⟨Rect.unit ![0, 128] ![1024, 128] inb_S1024x384_S1024x128_0_128, k0_pay33 (k0_pay14 x4) (k0_pay15 x4) k0_pay16 (TWO x0 x2 x3 x4) (k0_pay29 (k0_pay3 x0 x2) k0_pay16 (View.ld x3 (Rect.unit ![0, 256] ![1024, 128] inb_S1024x384_S1024x128_0_256))) (k0_pay30 (k0_pay3 x0 x2) k0_pay16 (View.ld x3 (Rect.unit ![0, 256] ![1024, 128] inb_S1024x384_S1024x128_0_256)))⟩, ⟨Rect.unit ![0, 0] ![1024, 128] inb_S1024x384_S1024x128_0_0, k0_pay32 (k0_pay13 x4) (k0_pay15 x4) k0_pay16 (TWO x0 x2 x3 x4) (k0_pay29 (k0_pay3 x0 x2) k0_pay16 (View.ld x3 (Rect.unit ![0, 256] ![1024, 128] inb_S1024x384_S1024x128_0_256))) (k0_pay30 (k0_pay3 x0 x2) k0_pay16 (View.ld x3 (Rect.unit ![0, 256] ![1024, 128] inb_S1024x384_S1024x128_0_256)))⟩]

theorem storedO_at (x0 : Vec Ideal S1024x1024 .f32) (x2 : Vec Ideal S1024x1024 .bf16) (x4 : Vec Ideal S1024x384 .f32) (y : S1024x384.Idx) :
    storedO x0 x2 x4 y = leftO x0 x2 x4 (y 0) (y 1) := by
  unfold storedO leftO
  canon_tiles x h using (View.cover_of_tiledBy (s := S1024x384) _ ![1024, 128] (by sl_kernel_rfl) y)
  · have hw := within_2 (y 1) (x 1) (by omega)
    have h0' : (y 0 : Fin 1024) = x 0 := Fin.ext (by omega)
    refine (congrArg _ (eq_ix2 x)).trans ((pay27_at x0 x2 x4 (x 0) (x 1)).trans ?_)
    refine congrArg₂ (fun u v : EReal => u * v) (congrArg₂ (rowdot x0 x2) h0'.symm (Fin.ext ?_)) ?_
    · show 256 + (x 1).val = (y 1).val
      omega
    · exact congrArg₂ part (congrArg₂ (over x4) h0'.symm hw.1.symm) hw.2.symm
  · have hw := within_1 (y 1) (x 1) (by omega)
    have h0' : (y 0 : Fin 1024) = x 0 := Fin.ext (by omega)
    refine (congrArg _ (eq_ix2 x)).trans ((pay24_at x0 x2 x4 (x 0) (x 1)).trans ?_)
    refine congrArg₂ (fun u v : EReal => u * v) (congrArg₂ (rowdot x0 x2) h0'.symm (Fin.ext ?_)) ?_
    · show 128 + (x 1).val = (y 1).val
      omega
    · exact congrArg₂ part (congrArg₂ (over x4) h0'.symm hw.1.symm) hw.2.symm
  · have hw := within_0 (y 1) (x 1) (by omega)
    have h0' : (y 0 : Fin 1024) = x 0 := Fin.ext (by omega)
    refine (congrArg _ (eq_ix2 x)).trans ((pay19_at x0 x2 x4 (x 0) (x 1)).trans ?_)
    refine congrArg₂ (fun u v : EReal => u * v) (congrArg₂ (rowdot x0 x2) h0'.symm (Fin.ext ?_)) ?_
    · show (x 1).val = (y 1).val
      omega
    · exact congrArg₂ part (congrArg₂ (over x4) h0'.symm hw.1.symm) hw.2.symm

theorem storedD_at (x0 : Vec Ideal S1024x1024 .f32) (x2 : Vec Ideal S1024x1024 .bf16) (x3 x4 : Vec Ideal S1024x384 .f32) (y : S1024x384.Idx) :
    storedD x0 x2 x3 x4 y = leftD x0 x2 x3 x4 (y 0) (y 1) := by
  unfold storedD leftD
  canon_tiles x h using (View.cover_of_tiledBy (s := S1024x384) _ ![1024, 128] (by sl_kernel_rfl) y)
  · have hw := within_2 (y 1) (x 1) (by omega)
    have h0' : (y 0 : Fin 1024) = x 0 := Fin.ext (by omega)
    refine (congrArg _ (eq_ix2 x)).trans ((pay34_at x0 x2 x3 x4 (x 0) (x 1)).trans ?_)
    refine congrArg₂ (fun u v : EReal => (0 - u) * v) ?_ (congrArg₂ (weighted x0 x2 x3 x4) h0'.symm hw.1.symm)
    exact congrArg₂ part (congrArg₂ (over x4) h0'.symm hw.1.symm) hw.2.symm
  · have hw := within_1 (y 1) (x 1) (by omega)
    have h0' : (y 0 : Fin 1024) = x 0 := Fin.ext (by omega)
    refine (congrArg _ (eq_ix2 x)).trans ((pay33_at x0 x2 x3 x4 (x 0) (x 1)).trans ?_)
    refine congrArg₂ (fun u v : EReal => (0 - u) * v) ?_ (congrArg₂ (weighted x0 x2 x3 x4) h0'.symm hw.1.symm)
    exact congrArg₂ part (congrArg₂ (over x4) h0'.symm hw.1.symm) hw.2.symm
  · have hw := within_0 (y 1) (x 1) (by omega)
    have h0' : (y 0 : Fin 1024) = x 0 := Fin.ext (by omega)
    refine (congrArg _ (eq_ix2 x)).trans ((pay32_at x0 x2 x3 x4 (x 0) (x 1)).trans ?_)
    refine congrArg₂ (fun u v : EReal => (0 - u) * v) ?_ (congrArg₂ (weighted x0 x2 x3 x4) h0'.symm hw.1.symm)
    exact congrArg₂ part (congrArg₂ (over x4) h0'.symm hw.1.symm) hw.2.symm

theorem outs5 (c : Dev nD) (t : Fin cfg0.N) : (outsAt0 m c t.val t.isLt).1 = storedO (iblk m c 0 t) (iblk m c 2 t) (iblk m c 4 t) := by
  have ht : t.val < 8 := t.isLt
  by_cases h0 : t.val % 8 = 0
  · rw [outsAt0_A m c t h0 (by omega) (by omega)]
    frame_out

  · by_cases h7 : t.val % 8 = 7
    · rw [outsAt0_C m c t h0 (by omega) h7]
      frame_out

    · rw [outsAt0_B m c t h0 (by omega) h7]
      frame_out

theorem outs6 (c : Dev nD) (t : Fin cfg0.N) : (outsAt0 m c t.val t.isLt).2.1 = storedD (iblk m c 0 t) (iblk m c 2 t) (iblk m c 3 t) (iblk m c 4 t) := by
  have ht : t.val < 8 := t.isLt
  by_cases h0 : t.val % 8 = 0
  · rw [outsAt0_A m c t h0 (by omega) (by omega)]
    frame_out
    rfl
  · by_cases h7 : t.val % 8 = 7
    · rw [outsAt0_C m c t h0 (by omega) h7]
      frame_out
      rfl
    · rw [outsAt0_B m c t h0 (by omega) h7]
      frame_out
      rfl

theorem outs7 (c : Dev nD) (t : Fin cfg0.N) : (outsAt0 m c t.val t.isLt).2.2.1 = k0_pay35 (k0_pay3 (iblk m c 0 t) (iblk m c 2 t)) := by
  have ht : t.val < 8 := t.isLt
  by_cases h0 : t.val % 8 = 0
  · rw [outsAt0_A m c t h0 (by omega) (by omega)]
    frame_out

  · by_cases h7 : t.val % 8 = 7
    · rw [outsAt0_C m c t h0 (by omega) h7]
      frame_out

    · rw [outsAt0_B m c t h0 (by omega) h7]
      frame_out

theorem outs8 (c : Dev nD) (t : Fin cfg0.N) : (outsAt0 m c t.val t.isLt).2.2.2.1 = k0_pay36 (k0_pay3 (iblk m c 0 t) (iblk m c 2 t)) := by
  have ht : t.val < 8 := t.isLt
  by_cases h0 : t.val % 8 = 0
  · rw [outsAt0_A m c t h0 (by omega) (by omega)]
    frame_out

  · by_cases h7 : t.val % 8 = 7
    · rw [outsAt0_C m c t h0 (by omega) h7]
      frame_out

    · rw [outsAt0_B m c t h0 (by omega) h7]
      frame_out

/-- What one block of rows adds to an entry of the weight's gradient. -/
def adds (x0 : Vec Ideal S1024x1024 .f32) (x1 : Vec Ideal S1024x1024 .bf16) (y : S1024x1024.Idx) : EReal :=
  ∑ k : Fin 1024, x1 (ix2 k (y 0)) * x0 (ix2 k (y 1))

theorem pay38_at (x0 : Vec Ideal S1024x1024 .f32) (x1 : Vec Ideal S1024x1024 .bf16) (y : S1024x1024.Idx) :
    k0_pay38 (k0_pay2 x0) x1 y = adds x0 x1 y := by
  refine (congrArg _ (eq_ix2 y)).trans ?_
  pointwise [k0_pay38, k0_pay37, k0_pay2]
  rfl

theorem pay39_at (x0 : Vec Ideal S1024x1024 .f32) (x1 : Vec Ideal S1024x1024 .bf16) (z : Vec Ideal S1024x1024 .f32) (y : S1024x1024.Idx) :
    k0_pay39 (k0_pay2 x0) x1 z y = (z y : EReal) + adds x0 x1 y := by
  refine (congrArg _ (eq_ix2 y)).trans (Eq.trans ?_ (congrArg (fun i => (z i : EReal) + adds x0 x1 y) (eq_ix2 y)).symm)
  pointwise [k0_pay39, k0_pay37, k0_pay2]
  rfl

theorem acc_first (c : Dev nD) (t : Fin cfg0.N) (h0 : t.val % 8 = 0) (y : S1024x1024.Idx) :
    (outsAt0 m c t.val t.isLt).2.2.2.2.2 y = (0 : EReal) + adds (iblk m c 0 t) (iblk m c 1 t) y := by
  have ht : t.val < 8 := t.isLt
  rw [outsAt0_A m c t h0 (by omega) (by omega)]
  frame_out
  rw [pay38_at, zero_add]

theorem acc_next (c : Dev nD) (t : Fin cfg0.N) (h0 : ¬ t.val % 8 = 0) (y : S1024x1024.Idx) :
    (outsAt0 m c t.val t.isLt).2.2.2.2.2 y = ((outsAt0 m c (t.val - 1) (Nat.lt_of_le_of_lt (Nat.sub_le _ _) t.isLt)).2.2.2.2.2 y : EReal) + adds (iblk m c 0 t) (iblk m c 1 t) y := by
  by_cases h7 : t.val % 8 = 7
  · rw [outsAt0_C m c t h0 (by omega) h7]
    frame_out
    simp only [read_unread_whole]
    rw [pay39_at]
  · rw [outsAt0_B m c t h0 (by omega) h7]
    frame_out
    simp only [read_unread_whole]
    rw [pay39_at]

theorem out_last (c : Dev nD) (t : Fin cfg0.N) (h7 : t.val % 8 = 7) (y : S1024x1024.Idx) :
    (outsAt0 m c t.val t.isLt).2.2.2.2.1 y = ((outsAt0 m c t.val t.isLt).2.2.2.2.2 y : EReal) := by
  rw [outsAt0_C m c t (by omega) (by omega) h7]
  frame_out
  pointwise [k0_pay1]

theorem emb384 (t : Fin cfg0.N) (y : S1024x384.Idx) : ((win0_5.blk t).view.emb y : S8192x384.Idx) = ix2 (row t (y 0)) (y 1) := by
  unfold row; blk_ext [idx_val t]

theorem emb384_6 (t : Fin cfg0.N) (y : S1024x384.Idx) : ((win0_6.blk t).view.emb y : S8192x384.Idx) = ix2 (row t (y 0)) (y 1) := by
  unfold row; blk_ext [idx_val t]

theorem emb256 (t : Fin cfg0.N) (y : S1024x256.Idx) : ((win0_7.blk t).view.emb y : S8192x256.Idx) = ix2 (row t (y 0)) (y 1) := by
  unfold row; blk_ext [idx_val t]

theorem emb384_8 (t : Fin cfg0.N) (y : S1024x384.Idx) : ((win0_8.blk t).view.emb y : S8192x384.Idx) = ix2 (row t (y 0)) (y 1) := by
  unfold row; blk_ext [idx_val t]

theorem stats_real (a3 : FVec Ideal Cert.ReferenceIdeal.S8192x6 .f32) (h3 : Reals a3) (r : Fin 8192) (a : Fin 2) :
    ∃ x : Fin 3 → ℝ, stats a3 r a = fun p => (x p : EReal) := by
  choose f hf using h3
  exact ⟨fun p => f _, funext fun p => hf _⟩

theorem leftO_blk (c : Dev nD) (h3 : Reals (s := S8192x6) (φ := .f32) (m ((c : Thread nD τ).loc main_arg3))) (t : Fin cfg0.N) (r : Fin 1024) (q : Fin 384) :
    leftO (iblk m c 0 t) (iblk m c 2 t) (iblk m c 4 t) r q = DO (m ((c : Thread nD τ).loc main_arg0)) (m ((c : Thread nD τ).loc main_arg1)) (m ((c : Thread nD τ).loc main_arg3)) (ix2 (row t r) q) := by
  obtain ⟨p, a, l, rfl⟩ := exists_lane q
  obtain ⟨x, hx⟩ := stats_real _ h3 (row t r) a
  rw [DO_at]
  unfold leftO
  rw [rowdot_blk, over_blk, partOf_lane, hx, part_eq]

theorem leftD_blk (c : Dev nD) (h0 : Reals (s := S8192x1024) (φ := .f32) (m ((c : Thread nD τ).loc main_arg0))) (h1 : Reals (s := S1024x1024) (φ := .bf16) (m ((c : Thread nD τ).loc main_arg1))) (h2 : Reals (s := S8192x384) (φ := .f32) (m ((c : Thread nD τ).loc main_arg2))) (h3 : Reals (s := S8192x6) (φ := .f32) (m ((c : Thread nD τ).loc main_arg3))) (t : Fin cfg0.N)
    (r : Fin 1024) (q : Fin 384) :
    leftD (iblk m c 0 t) (iblk m c 2 t) (iblk m c 3 t) (iblk m c 4 t) r q = DD (m ((c : Thread nD τ).loc main_arg0)) (m ((c : Thread nD τ).loc main_arg1)) (m ((c : Thread nD τ).loc main_arg2)) (m ((c : Thread nD τ).loc main_arg3)) (ix2 (row t r) q) := by
  obtain ⟨p, a, l, rfl⟩ := exists_lane q
  obtain ⟨x, hx⟩ := stats_real _ h3 (row t r) a
  rw [DD_at _ _ _ _ h0 h1 h2 h3, Fin.sum_univ_three]
  unfold leftD weighted
  rw [over_blk, partOf_lane, inner_blk, inner_blk, inner_blk, hx, part_eq, part_eq, part_eq, part_eq]

/-- The gradient the kernel leaves for the attention outputs is the reference's. -/
theorem result5 (c : Dev nD) (h3 : Reals (s := S8192x6) (φ := .f32) (m ((c : Thread nD τ).loc main_arg3))) : (dats m 0 c).arrAt 5 (cfgs 0).N = DO (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp; rw [after0_5, outs5]
  refine (storedO_at _ _ _ y).trans (Eq.trans ?_ (congrArg _ (emb384 t y)).symm)
  exact leftO_blk m c h3 t (y 0) (y 1)

/-- The gradient the kernel leaves for the statistics, less the inner products, is the reference's. -/
theorem result6 (c : Dev nD) (h0 : Reals (s := S8192x1024) (φ := .f32) (m ((c : Thread nD τ).loc main_arg0))) (h1 : Reals (s := S1024x1024) (φ := .bf16) (m ((c : Thread nD τ).loc main_arg1))) (h2 : Reals (s := S8192x384) (φ := .f32) (m ((c : Thread nD τ).loc main_arg2))) (h3 : Reals (s := S8192x6) (φ := .f32) (m ((c : Thread nD τ).loc main_arg3))) :
    (dats m 0 c).arrAt 6 (cfgs 0).N = DD (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6, outs6]
  refine (storedD_at _ _ _ _ y).trans (Eq.trans ?_ (congrArg _ (emb384_6 t y)).symm)
  exact leftD_blk m c h0 h1 h2 h3 t (y 0) (y 1)

/-- The gradient the kernel leaves for the convolution branch is the reference's. -/
theorem result7 (c : Dev nD) : (dats m 0 c).arrAt 7 (cfgs 0).N = DYC (m ((c : Thread nD τ).loc main_arg0)) (m ((c : Thread nD τ).loc main_arg1)) := by
  refine (dats m 0 c).arrAt_eq_of_covers 7 _ (by decide +kernel) fun t hf y => ?_
  blk_simp; rw [after0_7, outs7]
  refine Eq.trans ?_ ((congrArg _ (emb256 t y)).trans (DYC_at _ _ _)).symm
  refine (congrArg _ (eq_ix2 y)).trans ?_
  pointwise [k0_pay35]
  exact (pay3_at _ _ _ _).trans (rowdot_blk m c t _ _)

/-- The gradient the kernel leaves for the recurrence branch is the reference's. -/
theorem result8 (c : Dev nD) : (dats m 0 c).arrAt 8 (cfgs 0).N = DYL (m ((c : Thread nD τ).loc main_arg0)) (m ((c : Thread nD τ).loc main_arg1)) := by
  refine (dats m 0 c).arrAt_eq_of_covers 8 _ (by decide +kernel) fun t hf y => ?_
  blk_simp; rw [after0_8, outs8]
  refine Eq.trans ?_ ((congrArg _ (emb384_8 t y)).trans (DYL_at _ _ _)).symm
  refine (congrArg _ (eq_ix2 y)).trans ?_
  pointwise [k0_pay36]
  exact (pay3_at _ _ _ _).trans (rowdot_blk m c t _ _)

/-- The gradient the kernel leaves for the weight is the reference's. -/
theorem result9 (c : Dev nD) : (dats m 0 c).arrAt 9 (cfgs 0).N = DW (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun y => ?_
  blk_simp
  rw [after0_9, out_last m c t0_7 rfl, Pipeline.eq_sum_fin_of_reset_step_apply_last (fun n h => (outsAt0 m c n h).2.2.2.2.2) 8 (fun _ => (0 : EReal)) _
    (fun t h j => by rw [acc_first m c t h])
    (fun t h j => by rw [acc_next m c t h])
    (le_of_eq N_0) t0_7 rfl y, zero_add, DW_at]
  unfold adds
  refine Fin.sum_mul_add_congr (S := 8) fun t k hl => ?_
  have hr : row t k = ⟨t.val * 1024 + k.val, hl⟩ := Fin.ext (by show 1024 * t.val + k.val = _; rw [Nat.mul_comm])
  refine (congrArg₂ (fun u v : EReal => u * v) (blk1 m c t k (y 0)) (blk0 m c t k (y 1))).trans ?_
  rw [hr]

end Cert.KernelIdeal.Value

end
-- ==== Proof.ClaimOutprojBwd.lean ====
/- The frames of the two programs for the backward of the output projection, and their equality over the extended reals. -/
module

public import proofs.«01_k».proof.Defs
public import proofs.«01_k».proof.Proof.OutprojBwd
public import proofs.«01_k».proof.Proof.Gen.Kernel.Frame
public import proofs.«01_k».proof.Proof.Gen.Pre_finite_merge
public import Idealize.ShloMosaic.Lib.Claim

@[expose] public section

set_option maxRecDepth 16384

noncomputable section

open Idealize.ShloMosaic Idealize.ShloMosaic.TcCoe Idealize.SL.Sem

namespace Cert.Proof

/-- The word the precondition compares with is `∞`. -/
theorem word_top : Ideal.ofBits .f32 0x7F800000#32 = (⊤ : EReal) := by
  norm_num [Ideal.ofBits, Ideal.ieee]
  rw [if_pos (by decide +kernel), if_neg (by decide +kernel)]

/-- An extended real whose size is below `∞` is a real number. -/
theorem real_of_below (x : EReal) (h : Ideal.cmp .olt (max x (-x)) (Ideal.ofBits .f32 0x7F800000#32) = 1#1) : ∃ u : ℝ, x = (u : EReal) := by
  rw [word_top] at h
  induction x with
  | bot => simp [Ideal.cmp] at h
  | top => simp [Ideal.cmp] at h
  | coe u => exact ⟨u, rfl⟩

theorem reals_of {s : Shape} {φ : FTy} (x : FVec Ideal s φ) (v : IVec s 1) (e : v = fun _ => 1#1)
    (h : ∀ i, v i = Ideal.cmp .olt (max (x i) (-(x i))) (Ideal.ofBits .f32 0x7F800000#32)) : Cert.ReferenceIdeal.Value.Reals x :=
  fun i => real_of_below (x i) ((h i).symm.trans (congrFun e i))

theorem real_arg0 (m : (ℓ : Loc Cert.KernelIdeal.nD Cert.KernelIdeal.τ Cert.KernelIdeal.sig) → Buf (Elt Ideal) ℓ)
    (h : Cert.Pre_KernelIdeal_finite_merge m) (c : Dev Cert.KernelIdeal.nD) :
    Cert.ReferenceIdeal.Value.Reals (s := Cert.ReferenceIdeal.S8192x1024) (φ := .f32) (m ((c.tc : Thread Cert.KernelIdeal.nD Cert.KernelIdeal.τ).loc Cert.KernelIdeal.main_arg0)) :=
  reals_of _ _ (h c).1 fun _ => rfl

theorem real_arg1 (m : (ℓ : Loc Cert.KernelIdeal.nD Cert.KernelIdeal.τ Cert.KernelIdeal.sig) → Buf (Elt Ideal) ℓ)
    (h : Cert.Pre_KernelIdeal_finite_merge m) (c : Dev Cert.KernelIdeal.nD) :
    Cert.ReferenceIdeal.Value.Reals (s := Cert.ReferenceIdeal.S1024x1024) (φ := .bf16) (m ((c.tc : Thread Cert.KernelIdeal.nD Cert.KernelIdeal.τ).loc Cert.KernelIdeal.main_arg1)) :=
  reals_of _ _ (h c).2.1 fun _ => rfl

theorem real_arg2 (m : (ℓ : Loc Cert.KernelIdeal.nD Cert.KernelIdeal.τ Cert.KernelIdeal.sig) → Buf (Elt Ideal) ℓ)
    (h : Cert.Pre_KernelIdeal_finite_merge m) (c : Dev Cert.KernelIdeal.nD) :
    Cert.ReferenceIdeal.Value.Reals (s := Cert.ReferenceIdeal.S8192x384) (φ := .f32) (m ((c.tc : Thread Cert.KernelIdeal.nD Cert.KernelIdeal.τ).loc Cert.KernelIdeal.main_arg2)) :=
  reals_of _ _ (h c).2.2.1 fun _ => rfl

theorem real_arg3 (m : (ℓ : Loc Cert.KernelIdeal.nD Cert.KernelIdeal.τ Cert.KernelIdeal.sig) → Buf (Elt Ideal) ℓ)
    (h : Cert.Pre_KernelIdeal_finite_merge m) (c : Dev Cert.KernelIdeal.nD) :
    Cert.ReferenceIdeal.Value.Reals (s := Cert.ReferenceIdeal.S8192x6) (φ := .f32) (m ((c.tc : Thread Cert.KernelIdeal.nD Cert.KernelIdeal.τ).loc Cert.KernelIdeal.main_arg3)) :=
  reals_of _ _ (h c).2.2.2 fun _ => rfl

/-- The reference leaves its arguments as they were; it has no semaphores. -/
theorem frame_reference : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run m g)

/-- The same where the precondition is stated. -/
theorem frame_reference_pre : Cert.quiescent_ReferenceIdeal_pre_finite_merge := fun m g _ => frame_reference m g trivial

/-- The kernel's results are the reference's, where the four arguments named are finite. -/
theorem algebraic : Cert.algebraic_KernelIdeal_ReferenceIdeal_pre_finite_merge := by
  pair_intro
  · run_from Cert.KernelIdeal.Value.run_blocks m g
  · refine (θ_run Cert.ReferenceIdeal.defs _ _).mono (fun r h c => ?_) (Cert.ReferenceIdeal.Value.run m' g')
    obtain ⟨e0, e1, e2, e3, e4, e5⟩ := hagree c
    refine ⟨(h c).1.trans ?_, (h c).2.1.trans ?_, (h c).2.2.1.trans ?_, (h c).2.2.2.1.trans ?_, (h c).2.2.2.2.1.trans ?_, (h c).2.2.2.2.2⟩
    · refine Eq.trans (b := Cert.ReferenceIdeal.Value.DO (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))) rfl ?_
      rw [e0, e1, e3]
      exact (Cert.KernelIdeal.Value.result5 m c (real_arg3 m hpre c)).symm
    · refine Eq.trans (b := Cert.ReferenceIdeal.Value.DD (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) rfl ?_
      rw [e0, e1, e2, e3]
      exact (Cert.KernelIdeal.Value.result6 m c (real_arg0 m hpre c) (real_arg1 m hpre c) (real_arg2 m hpre c) (real_arg3 m hpre c)).symm
    · refine Eq.trans (b := Cert.ReferenceIdeal.Value.DYC (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))) rfl ?_
      rw [e0, e1]
      exact (Cert.KernelIdeal.Value.result7 m c).symm
    · refine Eq.trans (b := Cert.ReferenceIdeal.Value.DYL (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))) rfl ?_
      rw [e0, e1]
      exact (Cert.KernelIdeal.Value.result8 m c).symm
    · refine Eq.trans (b := Cert.ReferenceIdeal.Value.DW (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))) rfl ?_
      rw [e0, e2, e3, e4, e5]
      exact (Cert.KernelIdeal.Value.result9 m c).symm

end Cert.Proof

end
-- ==== Proof.Beside.lean ====
/- Three rows side by side. -/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Merge

/-- Three rows of 384, 256 and 384 entries side by side. -/
def beside (b0 : Fin 384 → EReal) (b1 : Fin 256 → EReal) (b2 : Fin 384 → EReal) (j : Fin 1024) : EReal :=
  if h : j.val < 384 then b0 ⟨j.val, h⟩
  else if h : j.val - 384 < 256 then b1 ⟨j.val - 384, h⟩
  else b2 ⟨j.val - 384 - 256, by omega⟩

end Cert.Merge

end
-- ==== Proof.OutprojFwdBlock.lean ====
/- The forward merge and output projection: what one block of rows leaves in each output. -/
module

public import proofs.«01_k».proof.Proof.Gen.Kernel12Ideal.Value
public import Idealize.ShloMosaic.Lib.Pipeline.ValueKit
public import Idealize.ShloMosaic.Lib.Pipeline.ReadBack
public import proofs.«01_k».proof.Proof.Beside
public import proofs.«01_k».proof.Proof.Tiles
public import proofs.«01_k».proof.Proof.Merge

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen
open Cert.Merge
variable (m : (ℓ : Loc nD τ sig) → Buf (Elt Ideal) ℓ)

/-- The three statistics standing over lane `c` of the parts. -/
def over (x2 : Vec Ideal S512x384 .f32) (r : Fin 512) (c : Fin 128) : Fin 3 → EReal :=
  fun p => x2 (ix2 r (⟨p.val * 128 + c.val, by omega⟩ : Fin 384))

theorem ld_at (x1 : Vec Ideal S512x384 .f32) (r : Fin 512) (x : Fin 128) : (View.ld x1 (Rect.unit ![0, 0] ![512, 128] inb_S512x384_S512x128_0_0)) (ix2 r x) = x1 (ix2 r (⟨x.val, by omega⟩ : Fin 384))
    ∧ (View.ld x1 (Rect.unit ![0, 128] ![512, 128] inb_S512x384_S512x128_0_128)) (ix2 r x) = x1 (ix2 r (⟨128 + x.val, by omega⟩ : Fin 384))
    ∧ (View.ld x1 (Rect.unit ![0, 256] ![512, 128] inb_S512x384_S512x128_0_256)) (ix2 r x) = x1 (ix2 r (⟨256 + x.val, by omega⟩ : Fin 384)) := by
  refine ⟨View.ld_unit_apply_of x1 _ _ _ _ _ ?_, View.ld_unit_apply_of x1 _ _ _ _ _ ?_, View.ld_unit_apply_of x1 _ _ _ _ _ ?_⟩ <;>
    exact Fin.forall_fin_two.mpr ⟨(Nat.zero_add _).symm, by first | rfl | exact (Nat.zero_add _).symm⟩

theorem pay11_at (x1 x2 : Vec Ideal S512x384 .f32) (r : Fin 512) (c : Fin 128) :
    k0_pay11 x2 (View.ld x1 (Rect.unit ![0, 0] ![512, 128] inb_S512x384_S512x128_0_0)) (ix2 r c) = x1 (ix2 r (⟨c.val, by omega⟩ : Fin 384)) * part (over x2 r c) 0 := by
  have e0 : x2 (ix2 r (⟨c.val, by omega⟩ : Fin 384)) = over x2 r c 0 :=
    congrArg (fun z : Fin 384 => x2 (ix2 r z)) (Fin.ext (by show c.val = 0 * 128 + c.val; omega))
  have e1 : x2 (ix2 r (⟨128 + c.val, by omega⟩ : Fin 384)) = over x2 r c 1 :=
    congrArg (fun z : Fin 384 => x2 (ix2 r z)) (Fin.ext (by show 128 + c.val = 1 * 128 + c.val; omega))
  have e2 : x2 (ix2 r (⟨256 + c.val, by omega⟩ : Fin 384)) = over x2 r c 2 :=
    congrArg (fun z : Fin 384 => x2 (ix2 r z)) (Fin.ext (by show 256 + c.val = 2 * 128 + c.val; omega))
  pointwise [k0_pay11, k0_pay10, k0_pay9, k0_pay8, k0_pay7, k0_pay6, k0_pay5, k0_pay4, k0_pay3, k0_pay2]
  simp only [e0, e1, e2, (ld_at x1 r c).1]
  rfl

theorem pay12_at (x1 x2 : Vec Ideal S512x384 .f32) (r : Fin 512) (c : Fin 128) :
    k0_pay12 x2 (View.ld x1 (Rect.unit ![0, 128] ![512, 128] inb_S512x384_S512x128_0_128)) (ix2 r c) = x1 (ix2 r (⟨128 + c.val, by omega⟩ : Fin 384)) * part (over x2 r c) 1 := by
  have e0 : x2 (ix2 r (⟨c.val, by omega⟩ : Fin 384)) = over x2 r c 0 :=
    congrArg (fun z : Fin 384 => x2 (ix2 r z)) (Fin.ext (by show c.val = 0 * 128 + c.val; omega))
  have e1 : x2 (ix2 r (⟨128 + c.val, by omega⟩ : Fin 384)) = over x2 r c 1 :=
    congrArg (fun z : Fin 384 => x2 (ix2 r z)) (Fin.ext (by show 128 + c.val = 1 * 128 + c.val; omega))
  have e2 : x2 (ix2 r (⟨256 + c.val, by omega⟩ : Fin 384)) = over x2 r c 2 :=
    congrArg (fun z : Fin 384 => x2 (ix2 r z)) (Fin.ext (by show 256 + c.val = 2 * 128 + c.val; omega))
  pointwise [k0_pay12, k0_pay10, k0_pay9, k0_pay8, k0_pay7, k0_pay6, k0_pay5, k0_pay4, k0_pay3, k0_pay2]
  simp only [e0, e1, e2, (ld_at x1 r c).2.1]
  rfl

theorem pay13_at (x1 x2 : Vec Ideal S512x384 .f32) (r : Fin 512) (c : Fin 128) :
    k0_pay13 x2 (View.ld x1 (Rect.unit ![0, 256] ![512, 128] inb_S512x384_S512x128_0_256)) (ix2 r c) = x1 (ix2 r (⟨256 + c.val, by omega⟩ : Fin 384)) * part (over x2 r c) 2 := by
  have e0 : x2 (ix2 r (⟨c.val, by omega⟩ : Fin 384)) = over x2 r c 0 :=
    congrArg (fun z : Fin 384 => x2 (ix2 r z)) (Fin.ext (by show c.val = 0 * 128 + c.val; omega))
  have e1 : x2 (ix2 r (⟨128 + c.val, by omega⟩ : Fin 384)) = over x2 r c 1 :=
    congrArg (fun z : Fin 384 => x2 (ix2 r z)) (Fin.ext (by show 128 + c.val = 1 * 128 + c.val; omega))
  have e2 : x2 (ix2 r (⟨256 + c.val, by omega⟩ : Fin 384)) = over x2 r c 2 :=
    congrArg (fun z : Fin 384 => x2 (ix2 r z)) (Fin.ext (by show 256 + c.val = 2 * 128 + c.val; omega))
  pointwise [k0_pay13, k0_pay10, k0_pay9, k0_pay8, k0_pay7, k0_pay6, k0_pay5, k0_pay4, k0_pay3, k0_pay2]
  simp only [e0, e1, e2, (ld_at x1 r c).2.2]
  rfl

/-- The lane of its part that a column is. -/
def within (q : Fin 384) : Fin 128 := ⟨q.val % 128, by omega⟩

/-- The part a column belongs to. -/
def partOf (q : Fin 384) : Fin 3 := ⟨q.val / 128, by omega⟩

/-- A row of attention outputs by their shares, from one block of rows. -/
def merged (x1 x2 : Vec Ideal S512x384 .f32) (r : Fin 512) (q : Fin 384) : EReal :=
  x1 (ix2 r q) * part (over x2 r (within q)) (partOf q)

/-- A row of the mix, from one block of rows. -/
def mixed (x1 x2 : Vec Ideal S512x384 .f32) (x3 : Vec Ideal S512x256 .bf16) (x4 : Vec Ideal S512x384 .bf16) (r : Fin 512) (j : Fin 1024) : EReal :=
  beside (merged x1 x2 r) (fun q => x3 (ix2 r q)) (fun q => x4 (ix2 r q)) j

/-- The five stores of the mix, read back. -/
def stored (x1 x2 : Vec Ideal S512x384 .f32) (x3 : Vec Ideal S512x256 .bf16) (x4 : Vec Ideal S512x384 .bf16) : Vec Ideal S512x1024 .bf16 :=
  View.canon [⟨Rect.unit ![0, 640] ![512, 384] inb_S512x1024_S512x384_0_640, x4⟩, ⟨Rect.unit ![0, 384] ![512, 256] inb_S512x1024_S512x256_0_384, x3⟩, ⟨Rect.unit ![0, 256] ![512, 128] inb_S512x1024_S512x128_0_256, k0_pay13 x2 (View.ld x1 (Rect.unit ![0, 256] ![512, 128] inb_S512x384_S512x128_0_256))⟩, ⟨Rect.unit ![0, 128] ![512, 128] inb_S512x1024_S512x128_0_128, k0_pay12 x2 (View.ld x1 (Rect.unit ![0, 128] ![512, 128] inb_S512x384_S512x128_0_128))⟩, ⟨Rect.unit ![0, 0] ![512, 128] inb_S512x1024_S512x128_0_0, k0_pay11 x2 (View.ld x1 (Rect.unit ![0, 0] ![512, 128] inb_S512x384_S512x128_0_0))⟩]

theorem stored_at (x1 x2 : Vec Ideal S512x384 .f32) (x3 : Vec Ideal S512x256 .bf16) (x4 : Vec Ideal S512x384 .bf16) (y : S512x1024.Idx) :
    stored x1 x2 x3 x4 y = mixed x1 x2 x3 x4 (y 0) (y 1) := by
  unfold stored mixed beside merged
  canon_tiles x h using (View.cover_of_tiledBy (s := S512x1024) _ ![512, 128] (by sl_kernel_rfl) y)
  · have h1 : (y 1 : Fin 1024).val = 640 + (x 1).val := by omega
    have h0' : (y 0 : Fin 512) = x 0 := Fin.ext (by omega)
    have hx : (x 1).val < 384 := (x 1).isLt
    rw [dif_neg (by omega), dif_neg (by omega)]
    refine congrArg (x4 : S512x384.Idx → EReal) ((eq_ix2 x).trans (congrArg₂ (fun (u : Fin 512) (v : Fin 384) => ix2 u v) h0'.symm (Fin.ext ?_)))
    show (x 1).val = (y 1).val - 384 - 256
    omega
  · have h1 : (y 1 : Fin 1024).val = 384 + (x 1).val := by omega
    have h0' : (y 0 : Fin 512) = x 0 := Fin.ext (by omega)
    have hx : (x 1).val < 256 := (x 1).isLt
    rw [dif_neg (by omega), dif_pos (by omega)]
    refine congrArg (x3 : S512x256.Idx → EReal) ((eq_ix2 x).trans (congrArg₂ (fun (u : Fin 512) (v : Fin 256) => ix2 u v) h0'.symm (Fin.ext ?_)))
    show (x 1).val = (y 1).val - 384
    omega
  · have h1 : (y 1 : Fin 1024).val = 256 + (x 1).val := by omega
    have h0' : (y 0 : Fin 512) = x 0 := Fin.ext (by omega)
    have hx : (x 1).val < 128 := (x 1).isLt
    rw [dif_pos (by omega)]
    refine (congrArg _ (eq_ix2 x)).trans ((pay13_at x1 x2 (x 0) (x 1)).trans ?_)
    refine congrArg₂ (fun u v : EReal => u * v) (congrArg (x1 : S512x384.Idx → EReal) (congrArg₂ (fun (u : Fin 512) (v : Fin 384) => ix2 u v) h0'.symm (Fin.ext ?_))) ?_
    · show 256 + (x 1).val = (y 1).val
      omega
    · refine congrArg₂ part (congrArg₂ (over x2) h0'.symm (Fin.ext ?_)) (Fin.ext ?_)
      · show (x 1).val = (y 1).val % 128
        omega
      · show 2 = (y 1).val / 128
        omega
  · have h1 : (y 1 : Fin 1024).val = 128 + (x 1).val := by omega
    have h0' : (y 0 : Fin 512) = x 0 := Fin.ext (by omega)
    have hx : (x 1).val < 128 := (x 1).isLt
    rw [dif_pos (by omega)]
    refine (congrArg _ (eq_ix2 x)).trans ((pay12_at x1 x2 (x 0) (x 1)).trans ?_)
    refine congrArg₂ (fun u v : EReal => u * v) (congrArg (x1 : S512x384.Idx → EReal) (congrArg₂ (fun (u : Fin 512) (v : Fin 384) => ix2 u v) h0'.symm (Fin.ext ?_))) ?_
    · show 128 + (x 1).val = (y 1).val
      omega
    · refine congrArg₂ part (congrArg₂ (over x2) h0'.symm (Fin.ext ?_)) (Fin.ext ?_)
      · show (x 1).val = (y 1).val % 128
        omega
      · show 1 = (y 1).val / 128
        omega
  · have h1 : (y 1 : Fin 1024).val = 0 + (x 1).val := by omega
    have h0' : (y 0 : Fin 512) = x 0 := Fin.ext (by omega)
    have hx : (x 1).val < 128 := (x 1).isLt
    rw [dif_pos (by omega)]
    refine (congrArg _ (eq_ix2 x)).trans ((pay11_at x1 x2 (x 0) (x 1)).trans ?_)
    refine congrArg₂ (fun u v : EReal => u * v) (congrArg (x1 : S512x384.Idx → EReal) (congrArg₂ (fun (u : Fin 512) (v : Fin 384) => ix2 u v) h0'.symm (Fin.ext ?_))) ?_
    · show (x 1).val = (y 1).val
      omega
    · refine congrArg₂ part (congrArg₂ (over x2) h0'.symm (Fin.ext ?_)) (Fin.ext ?_)
      · show (x 1).val = (y 1).val % 128
        omega
      · show 0 = (y 1).val / 128
        omega

theorem pay1_at (x0 : Vec Ideal S512x1024 .f32) (z : Vec Ideal S512x1024 .bf16) (x5 : Vec Ideal S1024x1024 .bf16) (r : Fin 512) (j : Fin 1024) :
    k0_pay1 x0 z x5 (ix2 r j) = (x0 (ix2 r j) + ∑ k : Fin 1024, z (ix2 r k) * x5 (ix2 k j) : EReal) := by
  pointwise [k0_pay1]

theorem outs7 (c : Dev nD) (t : Fin cfg0.N) : (outsAt0 m c t).2 = stored (iblk m c 1 t) (iblk m c 2 t) (iblk m c 3 t) (iblk m c 4 t) := by
  unfold outsAt0
  frame_out

theorem outs6 (c : Dev nD) (t : Fin cfg0.N) : (outsAt0 m c t).1 = k0_pay1 (iblk m c 0 t) (stored (iblk m c 1 t) (iblk m c 2 t) (iblk m c 3 t) (iblk m c 4 t)) (iblk m c 5 t) := by
  unfold outsAt0
  frame_out
  rw [View.readCov_eq_canon_ld, View.ld_unit_lit _ _ (by decide)]
  exact View.cover_of_tiledBy (s := S512x1024) _ ![512, 128] (by sl_kernel_rfl)

end Cert.Kernel12Ideal.Value

end
-- ==== Proof.OutprojFwdRef.lean ====
/- The reference of the forward merge and output projection, entry by entry. -/
module

public import proofs.«01_k».proof.Proof.Gen.Reference12Ideal.Run
public import Idealize.ShloMosaic.Lib.Pipeline.ValueKit
public import proofs.«01_k».proof.Proof.OutprojRef
public import proofs.«01_k».proof.Proof.Beside

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen
open Cert.Merge

/-- The attention outputs by their shares, by part, head and lane. -/
def ATT4 (a2 : FVec Ideal S8192x384 .f32) (a3 : FVec Ideal S8192x6 .f32) : FVec Ideal S8192x3x2x64 .f32 :=
  mulf (O4 a2) (broadcastInDim S8192x3x2x64 ![0, 1, 2, 3] bcast_S8192x3x2x1_S8192x3x2x64_0_1_2_3 (broadcastInDim S8192x3x2x1 ![0, 1, 2] bcast_S8192x3x2_S8192x3x2x1_0_1_2 (AL a3)))

/-- The same, one row of lanes. -/
def ATTF (a2 : FVec Ideal S8192x384 .f32) (a3 : FVec Ideal S8192x6 .f32) : FVec Ideal S8192x384 .f32 :=
  shapeCast S8192x384 (ATT4 a2 a3) shapeCasts_S8192x3x2x64_S8192x384

theorem ATT_eq (a2 : FVec Ideal S8192x384 .f32) (a3 : FVec Ideal S8192x6 .f32) : ATT a2 a3 = ATTF a2 a3 := rfl

/-- An attention output by its share, at a lane. -/
theorem ATT_at (a2 : FVec Ideal S8192x384 .f32) (a3 : FVec Ideal S8192x6 .f32) (r : Fin 8192) (p : Fin 3) (a : Fin 2) (l : Fin 64) :
    ATT a2 a3 (ix2 r (lane p a l)) = a2 (ix2 r (lane p a l)) * share (stats a3 r a) p := by
  rw [ATT_eq]
  have h : ATTF a2 a3 (ix2 r (lane p a l)) = ATT4 a2 a3 (ix4 r p a l) := by
    pointwise [ATTF]
    congr 1
    congr 1
    · exact Fin.ext (lane_part p a l)
    · exact Fin.ext (lane_head p a l)
    · exact Fin.ext (lane_lane p a l)
  rw [h]
  pointwise [ATT4]
  rw [O4_at, AL_at]

theorem JOIN_at (b0 : FVec Ideal S8192x384 .f32) (b1 : FVec Ideal S8192x256 .f32) (b2 : FVec Ideal S8192x384 .f32) (r : Fin 8192) (j : Fin 1024) :
    JOIN b0 b1 b2 (ix2 r j) = beside (fun q => b0 (ix2 r q)) (fun q => b1 (ix2 r q)) (fun q => b2 (ix2 r q)) j := by
  pointwise [JOIN]
  rfl

end Cert.ReferenceIdeal.Value

namespace Cert.Reference12Ideal.Value

open Cert.Reference12Ideal Cert.Reference12Ideal.Gen
open Cert.Merge
open Cert.ReferenceIdeal.Value (MIX ATT JOIN_at)

/-- The merged mix before its cast, from the attention outputs, their statistics and the two other branches. -/
def JOINED (a1 : FVec Ideal S8192x384 .f32) (a2 : FVec Ideal S8192x6 .f32) (a3 : FVec Ideal S8192x256 .bf16) (a4 : FVec Ideal S8192x384 .bf16) : FVec Ideal S8192x1024 .f32 :=
  MIX a1 a2 (extf .f32 a3 bitsLt_bf16_f32) (extf .f32 a4 bitsLt_bf16_f32)

/-- The residual stream after the projection. -/
def REFX (a0 : FVec Ideal S8192x1024 .f32) (a1 : FVec Ideal S8192x384 .f32) (a2 : FVec Ideal S8192x6 .f32) (a3 : FVec Ideal S8192x256 .bf16) (a4 : FVec Ideal S8192x384 .bf16) (a5 : FVec Ideal S1024x1024 .bf16) : FVec Ideal S8192x1024 .f32 :=
  shapeCast S8192x1024 (addf (shapeCast S4x2048x1024 a0 shapeCasts_S8192x1024_S4x2048x1024) (Host.dotGeneral (φ₁ := .f32) (φ₂ := .f32) dot_S4x2048x1024_S1024x1024_S4x2048x1024_2_0_01_1_n_n none (shapeCast S4x2048x1024 (JOINED a1 a2 a3 a4) shapeCasts_S8192x1024_S4x2048x1024) (extf .f32 a5 bitsLt_bf16_f32))) shapeCasts_S4x2048x1024_S8192x1024

/-- The merged mix. -/
def REFM (a1 : FVec Ideal S8192x384 .f32) (a2 : FVec Ideal S8192x6 .f32) (a3 : FVec Ideal S8192x256 .bf16) (a4 : FVec Ideal S8192x384 .bf16) : FVec Ideal S8192x1024 .bf16 :=
  truncf .bf16 (shapeCast S8192x1024 (shapeCast S4x2048x1024 (JOINED a1 a2 a3 a4) shapeCasts_S8192x1024_S4x2048x1024) shapeCasts_S4x2048x1024_S8192x1024) bitsLt_bf16_f32

/-- A row of the merged mix. -/
def mixRow (a1 : FVec Ideal S8192x384 .f32) (a2 : FVec Ideal S8192x6 .f32) (a3 : FVec Ideal S8192x256 .bf16) (a4 : FVec Ideal S8192x384 .bf16) (r : Fin 8192) (j : Fin 1024) : EReal :=
  beside (fun q => ATT a1 a2 (ix2 r q)) (fun q => a3 (ix2 r q)) (fun q => a4 (ix2 r q)) j

theorem JOINED_at (a1 : FVec Ideal S8192x384 .f32) (a2 : FVec Ideal S8192x6 .f32) (a3 : FVec Ideal S8192x256 .bf16) (a4 : FVec Ideal S8192x384 .bf16) (r : Fin 8192) (j : Fin 1024) :
    JOINED a1 a2 a3 a4 (ix2 r j) = mixRow a1 a2 a3 a4 r j :=
  JOIN_at _ _ _ r j

/-- The rows taken in four groups, at the row's place. -/
theorem grouped_at (x : FVec Ideal S8192x1024 .f32) (r : Fin 8192) (j : Fin 1024) :
    (shapeCast S4x2048x1024 x shapeCasts_S8192x1024_S4x2048x1024 : FVec Ideal S4x2048x1024 .f32) (ix3 (⟨r.val / 2048, by omega⟩ : Fin 4) (⟨r.val % 2048, by omega⟩ : Fin 2048) j) = x (ix2 r j) := by
  pointwise []

/-- The groups joined again. -/
theorem joined_at (x : FVec Ideal S4x2048x1024 .f32) (r : Fin 8192) (j : Fin 1024) :
    (shapeCast S8192x1024 x shapeCasts_S4x2048x1024_S8192x1024 : FVec Ideal S8192x1024 .f32) (ix2 r j) = x (ix3 (⟨r.val / 2048, by omega⟩ : Fin 4) (⟨r.val % 2048, by omega⟩ : Fin 2048) j) := by
  pointwise []

/-- The sum and the product of grouped rows, entry by entry. -/
theorem step_at (x y : FVec Ideal S4x2048x1024 .f32) (w : FVec Ideal S1024x1024 .bf16) (g : Fin 4) (k : Fin 2048) (j : Fin 1024) :
    addf x (Host.dotGeneral (φ₁ := .f32) (φ₂ := .f32) dot_S4x2048x1024_S1024x1024_S4x2048x1024_2_0_01_1_n_n none y (extf .f32 w bitsLt_bf16_f32)) (ix3 g k j)
      = (x (ix3 g k j) + ∑ i : Fin 1024, y (ix3 g k i) * w (ix2 i j) : EReal) := by
  pointwise []

/-- The residual stream after the projection, entry by entry. -/
theorem REFX_at (a0 : FVec Ideal S8192x1024 .f32) (a1 : FVec Ideal S8192x384 .f32) (a2 : FVec Ideal S8192x6 .f32) (a3 : FVec Ideal S8192x256 .bf16) (a4 : FVec Ideal S8192x384 .bf16) (a5 : FVec Ideal S1024x1024 .bf16) (r : Fin 8192) (j : Fin 1024) :
    REFX a0 a1 a2 a3 a4 a5 (ix2 r j) = a0 (ix2 r j) + ∑ i : Fin 1024, mixRow a1 a2 a3 a4 r i * a5 (ix2 i j) := by
  unfold REFX
  rw [joined_at, step_at, grouped_at]
  refine congrArg (fun z : EReal => a0 (ix2 r j) + z) (Finset.sum_congr rfl fun i _ => ?_)
  rw [grouped_at, JOINED_at]

/-- The merged mix, entry by entry. -/
theorem REFM_at (a1 : FVec Ideal S8192x384 .f32) (a2 : FVec Ideal S8192x6 .f32) (a3 : FVec Ideal S8192x256 .bf16) (a4 : FVec Ideal S8192x384 .bf16) (r : Fin 8192) (j : Fin 1024) :
    REFM a1 a2 a3 a4 (ix2 r j) = mixRow a1 a2 a3 a4 r j := by
  refine Eq.trans (b := (shapeCast S8192x1024 (shapeCast S4x2048x1024 (JOINED a1 a2 a3 a4) shapeCasts_S8192x1024_S4x2048x1024) shapeCasts_S4x2048x1024_S8192x1024 : FVec Ideal S8192x1024 .f32) (ix2 r j)) rfl ?_
  rw [joined_at, grouped_at, JOINED_at]

end Cert.Reference12Ideal.Value

end
-- ==== Proof.OutprojFwd.lean ====
/- The forward merge and output projection: what the kernel leaves is the reference's result. -/
module

public import proofs.«01_k».proof.Proof.OutprojFwdBlock
public import Idealize.ShloMosaic.Lib.StableHlo.RunRead
public import Idealize.ShloMosaic.Lib.StableHlo.ReadAt
public import proofs.«01_k».proof.Proof.OutprojFwdRef

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen
open Cert.Merge
open Cert.ReferenceIdeal.Value (ATT ATT_at lane stats lane_part lane_head lane_lane Reals)
open Cert.Reference12Ideal.Value (REFX REFM REFX_at REFM_at mixRow)

variable (m : (ℓ : Loc nD τ sig) → Buf (Elt Ideal) ℓ)

/-- Where each window's block sits at grid point `t`. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![t.val, 0] :=
  (by decide +kernel : ∀ t : Fin grid0.N, _)

/-- The statistics repeated over the lanes of their head. -/
theorem saved_lanes (c : Dev nD) (r : Fin 8192) (q : Fin 384) :
    V m c main_v1 (ix2 r q) = (m ((c : Thread nD τ).loc main_arg2)) (ix2 r (⟨q.val / 64, by omega⟩ : Fin 6)) := by
  unfold V
  after_reads_at

/-- The row of the array that row `r` of block `t` is. -/
def row (t : Fin cfg0.N) (r : Fin 512) : Fin 8192 := ⟨512 * t.val + r.val, by have h : t.val < 16 := t.isLt; have := r.isLt; omega⟩

theorem blk0 (c : Dev nD) (t : Fin cfg0.N) (r : Fin 512) (q : Fin 1024) : iblk m c 0 t (ix2 r q) = (m ((c : Thread nD τ).loc main_arg0)) (ix2 (row t r) q) := by
  show V m c main_arg0 (((cfg0.win 0).blk t).view.emb (ix2 r q)) = _
  rw [V_main_arg0]
  refine congrArg (m ((c : Thread nD τ).loc main_arg0)) ?_
  unfold row; blk_ext [idx_val t]

theorem blk1 (c : Dev nD) (t : Fin cfg0.N) (r : Fin 512) (q : Fin 384) : iblk m c 1 t (ix2 r q) = (m ((c : Thread nD τ).loc main_arg1)) (ix2 (row t r) q) := by
  show V m c main_arg1 (((cfg0.win 1).blk t).view.emb (ix2 r q)) = _
  rw [V_main_arg1]
  refine congrArg (m ((c : Thread nD τ).loc main_arg1)) ?_
  unfold row; blk_ext [idx_val t]

theorem blk3 (c : Dev nD) (t : Fin cfg0.N) (r : Fin 512) (q : Fin 256) : iblk m c 3 t (ix2 r q) = (m ((c : Thread nD τ).loc main_arg3)) (ix2 (row t r) q) := by
  show V m c main_arg3 (((cfg0.win 3).blk t).view.emb (ix2 r q)) = _
  rw [V_main_arg3]
  refine congrArg (m ((c : Thread nD τ).loc main_arg3)) ?_
  unfold row; blk_ext [idx_val t]

theorem blk4 (c : Dev nD) (t : Fin cfg0.N) (r : Fin 512) (q : Fin 384) : iblk m c 4 t (ix2 r q) = (m ((c : Thread nD τ).loc main_arg4)) (ix2 (row t r) q) := by
  show V m c main_arg4 (((cfg0.win 4).blk t).view.emb (ix2 r q)) = _
  rw [V_main_arg4]
  refine congrArg (m ((c : Thread nD τ).loc main_arg4)) ?_
  unfold row; blk_ext [idx_val t]

theorem blk5 (c : Dev nD) (t : Fin cfg0.N) (r : Fin 1024) (q : Fin 1024) : iblk m c 5 t (ix2 r q) = (m ((c : Thread nD τ).loc main_arg5)) (ix2 r q) := by
  show V m c main_arg5 (((cfg0.win 5).blk t).view.emb (ix2 r q)) = _
  rw [V_main_arg5]
  refine congrArg (m ((c : Thread nD τ).loc main_arg5)) ?_
  blk_ext [idx_val t]

theorem blk2 (c : Dev nD) (t : Fin cfg0.N) (r : Fin 512) (q : Fin 384) :
    iblk m c 2 t (ix2 r q) = (m ((c : Thread nD τ).loc main_arg2)) (ix2 (row t r) (⟨q.val / 64, by omega⟩ : Fin 6)) := by
  refine Eq.trans ?_ (saved_lanes m c _ _)
  show V m c main_v1 (((cfg0.win 2).blk t).view.emb (ix2 r q)) = _
  refine congrArg (V m c main_v1) ?_
  unfold row; blk_ext [idx_val t]

theorem over_blk (c : Dev nD) (t : Fin cfg0.N) (r : Fin 512) (p : Fin 3) (a : Fin 2) (l : Fin 64) :
    over (iblk m c 2 t) r (within (lane p a l)) = stats (m ((c : Thread nD τ).loc main_arg2)) (row t r) a := by
  funext q
  refine (blk2 m c t r _).trans (congrArg (fun z : Fin 6 => (m ((c : Thread nD τ).loc main_arg2)) (ix2 (row t r) z)) (Fin.ext ?_))
  show (q.val * 128 + (p.val * 128 + a.val * 64 + l.val) % 128) / 64 = q.val * 2 + a.val
  omega

theorem partOf_lane (p : Fin 3) (a : Fin 2) (l : Fin 64) : partOf (lane p a l) = p := Fin.ext (lane_part p a l)

/-- Every column is a lane of a head of a part. -/
theorem exists_lane (q : Fin 384) : ∃ p a l, q = lane p a l :=
  ⟨⟨q.val / 128, by omega⟩, ⟨q.val % 128 / 64, by omega⟩, ⟨q.val % 64, by omega⟩, Fin.ext (by
    show q.val = q.val / 128 * 128 + q.val % 128 / 64 * 64 + q.val % 64
    omega)⟩

theorem stats_real (a2 : FVec Ideal Cert.ReferenceIdeal.S8192x6 .f32) (h : Reals a2) (r : Fin 8192) (a : Fin 2) :
    ∃ x : Fin 3 → ℝ, stats a2 r a = fun p => (x p : EReal) := by
  choose f hf using h
  exact ⟨fun p => f _, funext fun p => hf _⟩

/-- A block's row of the mix is the reference's. -/
theorem mixed_blk (c : Dev nD) (h2 : Reals (s := S8192x6) (φ := .f32) (m ((c : Thread nD τ).loc main_arg2))) (t : Fin cfg0.N) (r : Fin 512) (j : Fin 1024) :
    mixed (iblk m c 1 t) (iblk m c 2 t) (iblk m c 3 t) (iblk m c 4 t) r j = mixRow (m ((c : Thread nD τ).loc main_arg1)) (m ((c : Thread nD τ).loc main_arg2)) (m ((c : Thread nD τ).loc main_arg3)) (m ((c : Thread nD τ).loc main_arg4)) (row t r) j := by
  unfold mixed mixRow
  have e0 : merged (iblk m c 1 t) (iblk m c 2 t) r = fun q => ATT (m ((c : Thread nD τ).loc main_arg1)) (m ((c : Thread nD τ).loc main_arg2)) (ix2 (row t r) q) := by
    funext q
    obtain ⟨p, a, l, rfl⟩ := exists_lane q
    obtain ⟨x, hx⟩ := stats_real _ h2 (row t r) a
    unfold merged
    rw [ATT_at, over_blk, partOf_lane, hx, part_eq]
    exact congrArg (fun z : EReal => z * _) (blk1 m c t r _)
  have e1 : (fun q => iblk m c 3 t (ix2 r q) : Fin 256 → EReal) = fun q => (m ((c : Thread nD τ).loc main_arg3)) (ix2 (row t r) q) := funext fun q => blk3 m c t r q
  have e2 : (fun q => iblk m c 4 t (ix2 r q) : Fin 384 → EReal) = fun q => (m ((c : Thread nD τ).loc main_arg4)) (ix2 (row t r) q) := funext fun q => blk4 m c t r q
  exact congrArg (fun f => f j) (congr (congr (congrArg beside e0) e1) e2)

theorem emb6 (t : Fin cfg0.N) (y : S512x1024.Idx) : ((win0_6.blk t).view.emb y : S8192x1024.Idx) = ix2 (row t (y 0)) (y 1) := by
  unfold row; blk_ext [idx_val t]

theorem emb7 (t : Fin cfg0.N) (y : S512x1024.Idx) : ((win0_7.blk t).view.emb y : S8192x1024.Idx) = ix2 (row t (y 0)) (y 1) := by
  unfold row; blk_ext [idx_val t]

/-- The residual stream the kernel leaves is the reference's. -/
theorem result6 (c : Dev nD) (h2 : Reals (s := S8192x6) (φ := .f32) (m ((c : Thread nD τ).loc main_arg2))) : (dats m 0 c).arrAt 6 (cfgs 0).N = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6, outs6]
  refine Eq.trans ?_ ((congrArg _ (emb6 t y)).trans (REFX_at _ _ _ _ _ _ _ _)).symm
  refine (congrArg _ (eq_ix2 y)).trans ((pay1_at _ _ _ _ _).trans ?_)
  refine congrArg₂ (fun u v : EReal => u + v) (blk0 m c t _ _) (Finset.sum_congr rfl fun k _ => ?_)
  exact congrArg₂ (fun u v : EReal => u * v) ((stored_at _ _ _ _ _).trans (mixed_blk m c h2 t (y 0) k)) (blk5 m c t k (y 1))

/-- The mix the kernel leaves is the reference's. -/
theorem result7 (c : Dev nD) (h2 : Reals (s := S8192x6) (φ := .f32) (m ((c : Thread nD τ).loc main_arg2))) : (dats m 0 c).arrAt 7 (cfgs 0).N = REFM (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7, outs7]
  refine (stored_at _ _ _ _ y).trans (Eq.trans ?_ ((congrArg _ (emb7 t y)).trans (REFM_at _ _ _ _ _ _)).symm)
  exact mixed_blk m c h2 t (y 0) (y 1)

end Cert.Kernel12Ideal.Value

end
-- ==== Proof.ClaimOutproj.lean ====
/- The frames of the two programs for the forward merge and output projection, and their equality over the extended reals. -/
module

public import proofs.«01_k».proof.Defs
public import proofs.«01_k».proof.Proof.OutprojFwd
public import proofs.«01_k».proof.Proof.ClaimOutprojBwd
public import proofs.«01_k».proof.Proof.Gen.Kernel12.Frame
public import proofs.«01_k».proof.Proof.Gen.Pre_finite_stats
public import Idealize.ShloMosaic.Lib.Claim

@[expose] public section

set_option maxRecDepth 16384

noncomputable section

open Idealize.ShloMosaic Idealize.ShloMosaic.TcCoe Idealize.SL.Sem

namespace Cert.Proof

/-- Where the precondition holds the statistics are real numbers. -/
theorem real_stats (m : (ℓ : Loc Cert.Kernel12Ideal.nD Cert.Kernel12Ideal.τ Cert.Kernel12Ideal.sig) → Buf (Elt Ideal) ℓ)
    (h : Cert.Pre_Kernel12Ideal_finite_stats m) (c : Dev Cert.Kernel12Ideal.nD) :
    Cert.ReferenceIdeal.Value.Reals (s := Cert.ReferenceIdeal.S8192x6) (φ := .f32) (m ((c.tc : Thread Cert.Kernel12Ideal.nD Cert.Kernel12Ideal.τ).loc Cert.Kernel12Ideal.main_arg2)) :=
  reals_of _ _ (h c) fun _ => rfl

/-- The reference leaves its arguments as they were; it has no semaphores. -/
theorem frame_reference12 : Cert.quiescent_Reference12Ideal := fun m g _ =>
  (θ_run Cert.Reference12Ideal.defs _ _).mono (fun r h => ⟨fun c => (h c).2.2, sem_eq_zero_of_no_sems (by decide) r.2⟩)
    (Cert.Reference12Ideal.Value.run m g)

/-- The same where the precondition is stated. -/
theorem frame_reference12_pre : Cert.quiescent_Reference12Ideal_pre_finite_stats := fun m g _ => frame_reference12 m g trivial

/-- The kernel's results are the reference's, where the statistics are finite. -/
theorem algebraic12 : Cert.algebraic_Kernel12Ideal_Reference12Ideal_pre_finite_stats := by
  pair_intro
  · run_from Cert.Kernel12Ideal.Value.run_blocks m g
  · refine (θ_run Cert.Reference12Ideal.defs _ _).mono (fun r h c => ?_) (Cert.Reference12Ideal.Value.run m' g')
    obtain ⟨e0, e1, e2, e3, e4, e5⟩ := hagree c
    refine ⟨(h c).1.trans ?_, (h c).2.1.trans ?_, (h c).2.2⟩
    · refine Eq.trans (b := Cert.Reference12Ideal.Value.REFX (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5))) rfl ?_
      rw [e0, e1, e2, e3, e4, e5]
      exact (Cert.Kernel12Ideal.Value.result6 m c (real_stats m hpre c)).symm
    · refine Eq.trans (b := Cert.Reference12Ideal.Value.REFM (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4))) rfl ?_
      rw [e1, e2, e3, e4]
      exact (Cert.Kernel12Ideal.Value.result7 m c (real_stats m hpre c)).symm

end Cert.Proof

end
-- ==== Proof.AdamwConvW.lean ====
/- What the optimiser's step of the convolution's filters computes: the kernel updates the moments and the weights entry by entry, and so does the reference. -/
module

public import proofs.«01_k».proof.Proof.Gen.Kernel19Ideal.Value
public import proofs.«01_k».proof.Proof.Gen.Reference19Ideal.Run
public import Idealize.ShloMosaic.Lib.Pipeline.ValueKit
public import proofs.«01_k».proof.Proof.Adamw

@[expose] public section

set_option maxRecDepth 16384

noncomputable section

open Idealize.ShloMosaic Idealize.ShloMosaic.TcCoe Idealize.SL.Sem
open Idealize.ShloMosaic.Pipeline (Dat)

namespace Cert.Reference19Ideal.Value

open Cert.Reference19Ideal Cert.Reference19Ideal.Gen

/-- The reference's step, from the weights, the gradient and the two moments. -/
def REFD (a0 a1 a2 a3 : FVec Ideal S62x32 .f32) : FVec Ideal S62x32 .f32 :=
  mulf (broadcastInDim S62x32 ![] bcast_S_S62x32 (constant S_ .f32 0xBA83126F#32)) (addf (Host.divf (Host.divf (addf (mulf (broadcastInDim S62x32 ![] bcast_S_S62x32 (constant S_ .f32 0x3F666666#32)) a2) (mulf (broadcastInDim S62x32 ![] bcast_S_S62x32 (constant S_ .f32 0x3DCCCCCD#32)) a1)) (broadcastInDim S62x32 ![] bcast_S_S62x32 (constant S_ .f32 0x3F26BD02#32))) (addf (Host.sqrt (Host.divf (addf (mulf (broadcastInDim S62x32 ![] bcast_S_S62x32 (constant S_ .f32 0x3F7FBE77#32)) a3) (mulf (broadcastInDim S62x32 ![] bcast_S_S62x32 (constant S_ .f32 0x3A83126F#32)) (mulf a1 a1))) (broadcastInDim S62x32 ![] bcast_S_S62x32 (constant S_ .f32 0x3C231ACC#32)))) (broadcastInDim S62x32 ![] bcast_S_S62x32 (constant S_ .f32 0x322BCC77#32)))) (mulf (broadcastInDim S62x32 ![] bcast_S_S62x32 (constant S_ .f32 0x3C23D70A#32)) a0))

/-- The reference's new first moment. -/
def REFM (a1 a2 : FVec Ideal S62x32 .f32) : FVec Ideal S62x32 .f32 :=
  addf (mulf (broadcastInDim S62x32 ![] bcast_S_S62x32 (constant S_ .f32 0x3F666666#32)) a2) (mulf (broadcastInDim S62x32 ![] bcast_S_S62x32 (constant S_ .f32 0x3DCCCCCD#32)) a1)

/-- The reference's new second moment. -/
def REFV (a1 a3 : FVec Ideal S62x32 .f32) : FVec Ideal S62x32 .f32 :=
  addf (mulf (broadcastInDim S62x32 ![] bcast_S_S62x32 (constant S_ .f32 0x3F7FBE77#32)) a3) (mulf (broadcastInDim S62x32 ![] bcast_S_S62x32 (constant S_ .f32 0x3A83126F#32)) (mulf a1 a1))

/-- The step, entry by entry. -/
theorem REFD_at (a0 a1 a2 a3 : FVec Ideal S62x32 .f32) (i : S62x32.Idx) : REFD a0 a1 a2 a3 i = Adamw.delta (a1 i) (a0 i) (a2 i) (a3 i) := by
  pointwise [REFD]
  rfl

/-- The new first moment, entry by entry. -/
theorem REFM_at (a1 a2 : FVec Ideal S62x32 .f32) (i : S62x32.Idx) : REFM a1 a2 i = Adamw.newM (a1 i) (a2 i) := by
  pointwise [REFM]
  rfl

/-- The new second moment, entry by entry. -/
theorem REFV_at (a1 a3 : FVec Ideal S62x32 .f32) (i : S62x32.Idx) : REFV a1 a3 i = Adamw.newV (a1 i) (a3 i) := by
  pointwise [REFV]
  rfl

end Cert.Reference19Ideal.Value

namespace Cert.Kernel19Ideal.Value

open Cert.Kernel19Ideal Cert.Kernel19Ideal.Gen
open Cert.Reference19Ideal.Value (REFD REFD_at REFM REFM_at REFV REFV_at)

/-- The kernel's step is the reference's. -/
theorem step_eq (a0 a1 a2 a3 : FVec Ideal S62x32 .f32) : G4 (F := Ideal) a0 a1 a2 a3 = REFD a0 a1 a2 a3 :=
  funext fun i => (REFD_at a0 a1 a2 a3 i).symm

/-- The kernel's new first moment is the reference's. -/
theorem first_eq (a1 a2 : FVec Ideal S62x32 .f32) : G5 (F := Ideal) a1 a2 = REFM a1 a2 :=
  funext fun i => (REFM_at a1 a2 i).symm

/-- The kernel's new second moment is the reference's. -/
theorem second_eq (a1 a3 : FVec Ideal S62x32 .f32) : G6 (F := Ideal) a1 a3 = REFV a1 a3 :=
  funext fun i => (REFV_at a1 a3 i).symm

end Cert.Kernel19Ideal.Value

end
-- ==== Proof.ClaimAdamwConvW.lean ====
/- The frames of the two programs for the optimiser's step of the convolution's filters, and their equality over the extended reals. -/
module

public import proofs.«01_k».proof.Defs
public import proofs.«01_k».proof.Proof.AdamwConvW
public import proofs.«01_k».proof.Proof.Gen.Kernel19.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference19 : Cert.quiescent_Reference19Ideal := fun m g _ =>
  (θ_run Cert.Reference19Ideal.defs _ _).mono (fun r h => ⟨fun c => (h c).2.2.2, sem_eq_zero_of_no_sems (by decide) r.2⟩)
    (Cert.Reference19Ideal.Value.run m g)

/-- The kernel's results are the reference's. -/
theorem algebraic19 : Cert.algebraic_Kernel19Ideal_Reference19Ideal := by
  pair_intro
  · run_from Cert.Kernel19Ideal.Value.run m g
  · refine (θ_run Cert.Reference19Ideal.defs _ _).mono (fun r h c => ?_) (Cert.Reference19Ideal.Value.run m' g')
    obtain ⟨e0, e1, e2, e3⟩ := hagree c
    refine ⟨(h c).1.trans ?_, (h c).2.1.trans ?_, (h c).2.2.1.trans ?_, (h c).2.2.2⟩
    · refine Eq.trans (b := Cert.Reference19Ideal.Value.REFD (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3))) rfl ?_
      rw [e0, e1, e2, e3]
      exact (Cert.Kernel19Ideal.Value.step_eq _ _ _ _).symm
    · refine Eq.trans (b := Cert.Reference19Ideal.Value.REFM (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2))) rfl ?_
      rw [e1, e2]
      exact (Cert.Kernel19Ideal.Value.first_eq _ _).symm
    · refine Eq.trans (b := Cert.Reference19Ideal.Value.REFV (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg3))) rfl ?_
      rw [e1, e3]
      exact (Cert.Kernel19Ideal.Value.second_eq _ _).symm

end Cert.Proof

end
-- ==== Proof.AdamwLruW.lean ====
/- What the optimiser's step of the recurrence's filters computes: the kernel updates the moments and the weights entry by entry, and so does the reference. -/
module

public import proofs.«01_k».proof.Proof.Gen.Kernel20Ideal.Value
public import proofs.«01_k».proof.Proof.Gen.Reference20Ideal.Run
public import Idealize.ShloMosaic.Lib.Pipeline.ValueKit
public import proofs.«01_k».proof.Proof.Adamw

@[expose] public section

set_option maxRecDepth 16384

noncomputable section

open Idealize.ShloMosaic Idealize.ShloMosaic.TcCoe Idealize.SL.Sem
open Idealize.ShloMosaic.Pipeline (Dat)

namespace Cert.Reference20Ideal.Value

open Cert.Reference20Ideal Cert.Reference20Ideal.Gen

/-- The reference's step, from the weights, the gradient and the two moments. -/
def REFD (a0 a1 a2 a3 : FVec Ideal S8x48 .f32) : FVec Ideal S8x48 .f32 :=
  mulf (broadcastInDim S8x48 ![] bcast_S_S8x48 (constant S_ .f32 0xBA83126F#32)) (addf (Host.divf (Host.divf (addf (mulf (broadcastInDim S8x48 ![] bcast_S_S8x48 (constant S_ .f32 0x3F666666#32)) a2) (mulf (broadcastInDim S8x48 ![] bcast_S_S8x48 (constant S_ .f32 0x3DCCCCCD#32)) a1)) (broadcastInDim S8x48 ![] bcast_S_S8x48 (constant S_ .f32 0x3F26BD02#32))) (addf (Host.sqrt (Host.divf (addf (mulf (broadcastInDim S8x48 ![] bcast_S_S8x48 (constant S_ .f32 0x3F7FBE77#32)) a3) (mulf (broadcastInDim S8x48 ![] bcast_S_S8x48 (constant S_ .f32 0x3A83126F#32)) (mulf a1 a1))) (broadcastInDim S8x48 ![] bcast_S_S8x48 (constant S_ .f32 0x3C231ACC#32)))) (broadcastInDim S8x48 ![] bcast_S_S8x48 (constant S_ .f32 0x322BCC77#32)))) (mulf (broadcastInDim S8x48 ![] bcast_S_S8x48 (constant S_ .f32 0x3C23D70A#32)) a0))

/-- The reference's new first moment. -/
def REFM (a1 a2 : FVec Ideal S8x48 .f32) : FVec Ideal S8x48 .f32 :=
  addf (mulf (broadcastInDim S8x48 ![] bcast_S_S8x48 (constant S_ .f32 0x3F666666#32)) a2) (mulf (broadcastInDim S8x48 ![] bcast_S_S8x48 (constant S_ .f32 0x3DCCCCCD#32)) a1)

/-- The reference's new second moment. -/
def REFV (a1 a3 : FVec Ideal S8x48 .f32) : FVec Ideal S8x48 .f32 :=
  addf (mulf (broadcastInDim S8x48 ![] bcast_S_S8x48 (constant S_ .f32 0x3F7FBE77#32)) a3) (mulf (broadcastInDim S8x48 ![] bcast_S_S8x48 (constant S_ .f32 0x3A83126F#32)) (mulf a1 a1))

/-- The step, entry by entry. -/
theorem REFD_at (a0 a1 a2 a3 : FVec Ideal S8x48 .f32) (i : S8x48.Idx) : REFD a0 a1 a2 a3 i = Adamw.delta (a1 i) (a0 i) (a2 i) (a3 i) := by
  pointwise [REFD]
  rfl

/-- The new first moment, entry by entry. -/
theorem REFM_at (a1 a2 : FVec Ideal S8x48 .f32) (i : S8x48.Idx) : REFM a1 a2 i = Adamw.newM (a1 i) (a2 i) := by
  pointwise [REFM]
  rfl

/-- The new second moment, entry by entry. -/
theorem REFV_at (a1 a3 : FVec Ideal S8x48 .f32) (i : S8x48.Idx) : REFV a1 a3 i = Adamw.newV (a1 i) (a3 i) := by
  pointwise [REFV]
  rfl

end Cert.Reference20Ideal.Value

namespace Cert.Kernel20Ideal.Value

open Cert.Kernel20Ideal Cert.Kernel20Ideal.Gen
open Cert.Reference20Ideal.Value (REFD REFD_at REFM REFM_at REFV REFV_at)

/-- The kernel's step is the reference's. -/
theorem step_eq (a0 a1 a2 a3 : FVec Ideal S8x48 .f32) : G4 (F := Ideal) a0 a1 a2 a3 = REFD a0 a1 a2 a3 :=
  funext fun i => (REFD_at a0 a1 a2 a3 i).symm

/-- The kernel's new first moment is the reference's. -/
theorem first_eq (a1 a2 : FVec Ideal S8x48 .f32) : G5 (F := Ideal) a1 a2 = REFM a1 a2 :=
  funext fun i => (REFM_at a1 a2 i).symm

/-- The kernel's new second moment is the reference's. -/
theorem second_eq (a1 a3 : FVec Ideal S8x48 .f32) : G6 (F := Ideal) a1 a3 = REFV a1 a3 :=
  funext fun i => (REFV_at a1 a3 i).symm

end Cert.Kernel20Ideal.Value

end
-- ==== Proof.ClaimAdamwLruW.lean ====
/- The frames of the two programs for the optimiser's step of the recurrence's filters, and their equality over the extended reals. -/
module

public import proofs.«01_k».proof.Defs
public import proofs.«01_k».proof.Proof.AdamwLruW
public import proofs.«01_k».proof.Proof.Gen.Kernel20.Frame
public import Idealize.ShloMosaic.Lib.Claim

@[expose] public section

set_option maxRecDepth 16384

noncomputable section

open Idealize.ShloMosaic Idealize.ShloMosaic.TcCoe Idealize.SL.Sem

namespace Cert.Proof

/-- The reference leaves its arguments as they were; it has no semaphores. -/
theorem frame_reference20 : Cert.quiescent_Reference20Ideal := fun m g _ =>
  (θ_run Cert.Reference20Ideal.defs _ _).mono (fun r h => ⟨fun c => (h c).2.2.2, sem_eq_zero_of_no_sems (by decide) r.2⟩)
    (Cert.Reference20Ideal.Value.run m g)

/-- The kernel's results are the reference's. -/
theorem algebraic20 : Cert.algebraic_Kernel20Ideal_Reference20Ideal := by
  pair_intro
  · run_from Cert.Kernel20Ideal.Value.run m g
  · refine (θ_run Cert.Reference20Ideal.defs _ _).mono (fun r h c => ?_) (Cert.Reference20Ideal.Value.run m' g')
    obtain ⟨e0, e1, e2, e3⟩ := hagree c
    refine ⟨(h c).1.trans ?_, (h c).2.1.trans ?_, (h c).2.2.1.trans ?_, (h c).2.2.2⟩
    · refine Eq.trans (b := Cert.Reference20Ideal.Value.REFD (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3))) rfl ?_
      rw [e0, e1, e2, e3]
      exact (Cert.Kernel20Ideal.Value.step_eq _ _ _ _).symm
    · refine Eq.trans (b := Cert.Reference20Ideal.Value.REFM (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2))) rfl ?_
      rw [e1, e2]
      exact (Cert.Kernel20Ideal.Value.first_eq _ _).symm
    · refine Eq.trans (b := Cert.Reference20Ideal.Value.REFV (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg3))) rfl ?_
      rw [e1, e3]
      exact (Cert.Kernel20Ideal.Value.second_eq _ _).symm

end Cert.Proof

end
-- ==== Proof.lean ====
/- The certificate: for every call taken, the kernel's and the reference's frames, that idealisation changes nothing in
   the kernel, and that the kernel's results over the extended reals are the reference's. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.ClaimDownAct
public import proofs.«01_k».proof.Proof.Gen.Kernel4.Frame
public import proofs.«01_k».proof.Proof.Gen.Kernel4Ideal.Value
public import proofs.«01_k».proof.Proof.Gen.Reference4Ideal.Run
public import proofs.«01_k».proof.Proof.ClaimDownW
public import proofs.«01_k».proof.Proof.Gen.Kernel5.Frame
public import proofs.«01_k».proof.Proof.Gen.Kernel5Ideal.Value
public import proofs.«01_k».proof.Proof.Gen.Reference5Ideal.Run
public import proofs.«01_k».proof.Proof.ClaimUpAct
public import proofs.«01_k».proof.Proof.Gen.Kernel6.Frame
public import proofs.«01_k».proof.Proof.Gen.Kernel6Ideal.Value
public import proofs.«01_k».proof.Proof.Gen.Reference6Ideal.Run
public import proofs.«01_k».proof.Proof.ClaimUpW
public import proofs.«01_k».proof.Proof.Gen.Kernel7.Frame
public import proofs.«01_k».proof.Proof.Gen.Kernel7Ideal.Value
public import proofs.«01_k».proof.Proof.Gen.Reference7Ideal.Run
public import proofs.«01_k».proof.Proof.ClaimInprojW
public import proofs.«01_k».proof.Proof.Gen.Kernel8.Frame
public import proofs.«01_k».proof.Proof.Gen.Kernel8Ideal.Value
public import proofs.«01_k».proof.Proof.Gen.Reference8Ideal.Run
public import proofs.«01_k».proof.Proof.ClaimInprojAct
public import proofs.«01_k».proof.Proof.Gen.Kernel9.Frame
public import proofs.«01_k».proof.Proof.Gen.Kernel9Ideal.Value
public import proofs.«01_k».proof.Proof.Gen.Reference9Ideal.Run
public import proofs.«01_k».proof.Proof.ClaimInproj
public import proofs.«01_k».proof.Proof.Gen.Kernel10.Frame
public import proofs.«01_k».proof.Proof.Gen.Kernel10Ideal.Value
public import proofs.«01_k».proof.Proof.Gen.Reference10Ideal.Run
public import proofs.«01_k».proof.Proof.ClaimDown
public import proofs.«01_k».proof.Proof.Gen.Kernel11.Frame
public import proofs.«01_k».proof.Proof.Gen.Kernel11Ideal.Value
public import proofs.«01_k».proof.Proof.Gen.Reference11Ideal.Run
public import proofs.«01_k».proof.Proof.ClaimUp
public import proofs.«01_k».proof.Proof.Gen.Kernel14.Frame
public import proofs.«01_k».proof.Proof.Gen.Kernel14Ideal.Value
public import proofs.«01_k».proof.Proof.Gen.Reference14Ideal.Run
public import proofs.«01_k».proof.Proof.ClaimAdamwIn
public import proofs.«01_k».proof.Proof.Gen.Kernel15.Frame
public import proofs.«01_k».proof.Proof.Gen.Kernel15Ideal.Value
public import proofs.«01_k».proof.Proof.Gen.Reference15Ideal.Run
public import proofs.«01_k».proof.Proof.ClaimAdamwOut
public import proofs.«01_k».proof.Proof.Gen.Kernel16.Frame
public import proofs.«01_k».proof.Proof.Gen.Kernel16Ideal.Value
public import proofs.«01_k».proof.Proof.Gen.Reference16Ideal.Run
public import proofs.«01_k».proof.Proof.ClaimAdamwUp
public import proofs.«01_k».proof.Proof.Gen.Kernel17.Frame
public import proofs.«01_k».proof.Proof.Gen.Kernel17Ideal.Value
public import proofs.«01_k».proof.Proof.Gen.Reference17Ideal.Run
public import proofs.«01_k».proof.Proof.ClaimAdamwDown
public import proofs.«01_k».proof.Proof.Gen.Kernel13.Frame
public import proofs.«01_k».proof.Proof.Gen.Kernel13Ideal.Value
public import proofs.«01_k».proof.Proof.Gen.Reference13Ideal.Run
public import proofs.«01_k».proof.Proof.ClaimDownLoss
public import proofs.«01_k».proof.Proof.Gen.Kernel.Frame
public import proofs.«01_k».proof.Proof.Gen.KernelIdeal.Value
public import proofs.«01_k».proof.Proof.Gen.ReferenceIdeal.Run
public import proofs.«01_k».proof.Proof.ClaimOutprojBwd
public import proofs.«01_k».proof.Proof.Gen.Kernel12.Frame
public import proofs.«01_k».proof.Proof.Gen.Kernel12Ideal.Value
public import proofs.«01_k».proof.Proof.Gen.Reference12Ideal.Run
public import proofs.«01_k».proof.Proof.ClaimOutproj
public import proofs.«01_k».proof.Proof.Gen.Kernel19.Frame
public import proofs.«01_k».proof.Proof.Gen.Kernel19Ideal.Value
public import proofs.«01_k».proof.Proof.Gen.Reference19Ideal.Run
public import proofs.«01_k».proof.Proof.ClaimAdamwConvW
public import proofs.«01_k».proof.Proof.Gen.Kernel20.Frame
public import proofs.«01_k».proof.Proof.Gen.Kernel20Ideal.Value
public import proofs.«01_k».proof.Proof.Gen.Reference20Ideal.Run
public import proofs.«01_k».proof.Proof.ClaimAdamwLruW
public import proofs.«01_k».proof.Proof.Gen.Pre_finite_merge
public import proofs.«01_k».proof.Proof.Gen.Pre_finite_stats

@[expose] public section

noncomputable section

namespace Cert.Proof

open Idealize.ShloMosaic Idealize.SL.Sem

theorem claim : Cert.Claim := ⟨Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel13.Gen.facts,
  Cert.Kernel13Ideal.Gen.facts,
  Cert.Reference13Ideal.Gen.facts,
  Cert.Kernel.Gen.facts,
  Cert.KernelIdeal.Gen.facts,
  Cert.ReferenceIdeal.Gen.facts,
  Cert.Kernel12.Gen.facts,
  Cert.Kernel12Ideal.Gen.facts,
  Cert.Reference12Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Pre_finite_merge.Gen.facts,
  Cert.Pre_finite_stats.Gen.facts,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel13.Gen.frame m ρ,
  fun m ρ _ => Cert.Kernel13Ideal.Gen.frame m ρ,
  frame_reference13,
  fun m ρ _ => Cert.Kernel.Gen.frame m ρ,
  fun m ρ _ => Cert.KernelIdeal.Gen.frame m ρ,
  fun m ρ _ => Cert.KernelIdeal.Gen.frame m ρ,
  frame_reference,
  frame_reference_pre,
  fun m ρ _ => Cert.Kernel12.Gen.frame m ρ,
  fun m ρ _ => Cert.Kernel12Ideal.Gen.frame m ρ,
  fun m ρ _ => Cert.Kernel12Ideal.Gen.frame m ρ,
  frame_reference12,
  frame_reference12_pre,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  frame_reference20,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic14,
  trivial,
  algebraic15,
  trivial,
  algebraic16,
  trivial,
  algebraic17,
  trivial,
  algebraic13,
  trivial,
  algebraic,
  trivial,
  algebraic12,
  trivial,
  algebraic19,
  trivial,
  algebraic20⟩

end Cert.Proof

end
